-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceClipIdeal (m : (ℓ : Loc Cert.ReferenceClipIdeal.nD Cert.ReferenceClipIdeal.τ Cert.ReferenceClipIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceClipIdeal [hReferenceClipIdeal : Cert.ReferenceClipIdeal.Facts] : Prop :=
  ∀ (m : (ℓ : Loc Cert.ReferenceClipIdeal.nD Cert.ReferenceClipIdeal.τ Cert.ReferenceClipIdeal.sig) → Buf (Elt Ideal) ℓ) (g : Dev Cert.ReferenceClipIdeal.nD → PrngReg), Pre_ReferenceClipIdeal m →
    θ_run (Cert.ReferenceClipIdeal.defs (F := Ideal)) (onTc (τ := Cert.ReferenceClipIdeal.τ) (Cert.ReferenceClipIdeal.main (F := Ideal))) ⟨m, fun _ => 0, g⟩ (fun r => (∀ c : Dev Cert.ReferenceClipIdeal.nD,
      r.2.mem ((c.tc : Thread Cert.ReferenceClipIdeal.nD Cert.ReferenceClipIdeal.τ).loc Cert.ReferenceClipIdeal.main_arg0) = m ((c.tc : Thread Cert.ReferenceClipIdeal.nD Cert.ReferenceClipIdeal.τ).loc Cert.ReferenceClipIdeal.main_arg0)
      ∧ r.2.mem ((c.tc : Thread Cert.ReferenceClipIdeal.nD Cert.ReferenceClipIdeal.τ).loc Cert.ReferenceClipIdeal.main_arg1) = m ((c.tc : Thread Cert.ReferenceClipIdeal.nD Cert.ReferenceClipIdeal.τ).loc Cert.ReferenceClipIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 256]⟩ ⟨2, ![8192, 8192]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 4096]⟩ ⟨2, ![8192, 4096]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceClipIdeal_on_unclipped [hKernelIdeal : Cert.KernelIdeal.Facts] [hReferenceClipIdeal : Cert.ReferenceClipIdeal.Facts] [hOn_unclipped : Cert.On_unclipped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceClipIdeal.nD Cert.ReferenceClipIdeal.τ Cert.ReferenceClipIdeal.sig) → Buf (Elt Ideal) ℓ) (g' : Dev Cert.ReferenceClipIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 256]⟩ ⟨2, ![8192, 8192]⟩ 1 32 c (m' (((0 : Dev Cert.ReferenceClipIdeal.nD).tc : Thread Cert.ReferenceClipIdeal.nD Cert.ReferenceClipIdeal.τ).loc Cert.ReferenceClipIdeal.main_arg0))
      ∧ m ((c.tc : Thread Cert.KernelIdeal.nD Cert.KernelIdeal.τ).loc Cert.KernelIdeal.main_arg1) = Layout.block ⟨2, ![256, 4096]⟩ ⟨2, ![8192, 4096]⟩ 0 32 c (m' (((0 : Dev Cert.ReferenceClipIdeal.nD).tc : Thread Cert.ReferenceClipIdeal.nD Cert.ReferenceClipIdeal.τ).loc Cert.ReferenceClipIdeal.main_arg1))) →
    ∃ (v0 : Buf (Elt Ideal) (((0 : Dev Cert.ReferenceClipIdeal.nD).tc : Thread Cert.ReferenceClipIdeal.nD Cert.ReferenceClipIdeal.τ).loc Cert.ReferenceClipIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 4096]⟩ : Shape).Idx, (Cert.On_unclipped.fn (F := Ideal) (m' (((0 : Dev Cert.ReferenceClipIdeal.nD).tc : Thread Cert.ReferenceClipIdeal.nD Cert.ReferenceClipIdeal.τ).loc Cert.ReferenceClipIdeal.main_arg0)) (m' (((0 : Dev Cert.ReferenceClipIdeal.nD).tc : Thread Cert.ReferenceClipIdeal.nD Cert.ReferenceClipIdeal.τ).loc Cert.ReferenceClipIdeal.main_arg1))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceClipIdeal.defs (F := Ideal)) (onTc (τ := Cert.ReferenceClipIdeal.τ) (Cert.ReferenceClipIdeal.main (F := Ideal))) ⟨m', fun _ => 0, g'⟩ (fun r =>
          (∀ i : (⟨2, ![8192, 4096]⟩ : Shape).Idx, (Cert.On_unclipped.fn (F := Ideal) (m' (((0 : Dev Cert.ReferenceClipIdeal.nD).tc : Thread Cert.ReferenceClipIdeal.nD Cert.ReferenceClipIdeal.τ).loc Cert.ReferenceClipIdeal.main_arg0)) (m' (((0 : Dev Cert.ReferenceClipIdeal.nD).tc : Thread Cert.ReferenceClipIdeal.nD Cert.ReferenceClipIdeal.τ).loc Cert.ReferenceClipIdeal.main_arg1))) i = 1#1 → r.2.mem (((0 : Dev Cert.ReferenceClipIdeal.nD).tc : Thread Cert.ReferenceClipIdeal.nD Cert.ReferenceClipIdeal.τ).loc Cert.ReferenceClipIdeal.main_v8) i = v0 i)
          ∧ r.2.mem (((0 : Dev Cert.ReferenceClipIdeal.nD).tc : Thread Cert.ReferenceClipIdeal.nD Cert.ReferenceClipIdeal.τ).loc Cert.ReferenceClipIdeal.main_arg0) = m' (((0 : Dev Cert.ReferenceClipIdeal.nD).tc : Thread Cert.ReferenceClipIdeal.nD Cert.ReferenceClipIdeal.τ).loc Cert.ReferenceClipIdeal.main_arg0)
          ∧ r.2.mem (((0 : Dev Cert.ReferenceClipIdeal.nD).tc : Thread Cert.ReferenceClipIdeal.nD Cert.ReferenceClipIdeal.τ).loc Cert.ReferenceClipIdeal.main_arg1) = m' (((0 : Dev Cert.ReferenceClipIdeal.nD).tc : Thread Cert.ReferenceClipIdeal.nD Cert.ReferenceClipIdeal.τ).loc Cert.ReferenceClipIdeal.main_arg1))

def Claim : Prop :=
  ∃ (hKernel : Cert.Kernel.Facts) (hKernelIdeal : Cert.KernelIdeal.Facts) (hReferenceIdeal : Cert.ReferenceIdeal.Facts) (hReferenceClipIdeal : Cert.ReferenceClipIdeal.Facts) (hOn_unclipped : Cert.On_unclipped.Facts),
    quiescent_Kernel (hKernel := hKernel)
    ∧ quiescent_KernelIdeal (hKernelIdeal := hKernelIdeal)
    ∧ quiescent_ReferenceIdeal (hReferenceIdeal := hReferenceIdeal)
    ∧ quiescent_ReferenceClipIdeal (hReferenceClipIdeal := hReferenceClipIdeal)
    ∧ preserves_Kernel_KernelIdeal
    ∧ algebraic_KernelIdeal_ReferenceIdeal (hKernelIdeal := hKernelIdeal) (hReferenceIdeal := hReferenceIdeal)
    ∧ algebraic_KernelIdeal_ReferenceClipIdeal_on_unclipped (hKernelIdeal := hKernelIdeal) (hReferenceClipIdeal := hReferenceClipIdeal) (hOn_unclipped := hOn_unclipped)
-- ==== On_unclipped.lean ====
abbrev S8192x8192 : Shape := ⟨2, ![8192, 8192]⟩
abbrev S8192x4096 : Shape := ⟨2, ![8192, 4096]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  dot_S8192x8192_S8192x4096_S8192x4096_1_0_0_1_n_n_wf : DotDims.WF S8192x8192 S8192x4096 S8192x4096 [1] [0] [0] [1] [] []

variable [Facts]

def dot_S8192x8192_S8192x4096_S8192x4096_1_0_0_1_n_n : DotDims S8192x8192 S8192x4096 S8192x4096 where
  lhsContracting := [1]
  rhsContracting := [0]
  lhsNonContracting := [0]
  rhsNonContracting := [1]
  lhsBatch := []
  rhsBatch := []
  wf := dot_S8192x8192_S8192x4096_S8192x4096_1_0_0_1_n_n_wf
def fn {F : FTy → Type} [FloatOps F] (main_arg0 : FVec F S8192x8192 .bf16) (main_arg1 : FVec F S8192x4096 .bf16) : IVec S8192x4096 1 :=
  let main_v0 : FVec F S8192x4096 .f32 := (fun l r => Host.dotGeneral dot_S8192x8192_S8192x4096_S8192x4096_1_0_0_1_n_n none l r) main_arg0 main_arg1
  let main_v1 : FVec F S8192x4096 .bf16 := (truncf .bf16 · bitsLt_bf16_f32) main_v0
  let main_v2 : FVec F S8192x4096 .f32 := (extf .f32 · bitsLt_bf16_f32) main_v1
  let main_cst : FVec F S_ .f32 := constant S_ .f32 0xC2700000#32
  let main_v3 : FVec F S8192x4096 .f32 := broadcastInDim S8192x4096 ![] bcast_S_S8192x4096 main_cst
  let main_v4 : IVec S8192x4096 1 := cmpf .oge main_v2 main_v3
  let main_cst_0 : FVec F S_ .f32 := constant S_ .f32 0x42700000#32
  let main_v5 : FVec F S8192x4096 .f32 := broadcastInDim S8192x4096 ![] bcast_S_S8192x4096 main_cst_0
  let main_v6 : IVec S8192x4096 1 := cmpf .ole main_v2 main_v5
  let main_v7 : IVec S8192x4096 1 := andi main_v4 main_v6
  main_v7
-- ==== Kernel.lean ====
abbrev S8192x256 : Shape := ⟨2, ![8192, 256]⟩
abbrev S256x4096 : Shape := ⟨2, ![256, 4096]⟩
abbrev S8192x4096 : Shape := ⟨2, ![8192, 4096]⟩
abbrev S4x2x256x1024 : Shape := ⟨4, ![4, 2, 256, 1024]⟩
abbrev S4x3x256x1024 : Shape := ⟨4, ![4, 3, 256, 1024]⟩
abbrev S4x2 : Shape := ⟨2, ![4, 2]⟩
abbrev S4x3 : Shape := ⟨2, ![4, 3]⟩
abbrev S4 : Shape := ⟨1, ![4]⟩
abbrev S_ : Shape := ⟨0, ![]⟩
abbrev S256x256 : Shape := ⟨2, ![256, 256]⟩
abbrev S256x1024 : Shape := ⟨2, ![256, 1024]⟩
abbrev S1x1x256x1024 : Shape := ⟨4, ![1, 1, 256, 1024]⟩
abbrev S1 : Shape := ⟨1, ![1]⟩
abbrev S1x1 : Shape := ⟨2, ![1, 1]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S256x4096, .bf16⟩
  | .hbm, ⟨2, _⟩ => ⟨S8192x4096, .f32⟩
  | .local _ .vmem, ⟨0, _⟩ => ⟨S8192x256, .bf16⟩
  | .local _ .vmem, ⟨1, _⟩ => ⟨S256x4096, .bf16⟩
  | .local _ .vmem, ⟨2, _⟩ => ⟨S4x2x256x1024, .bf16⟩
  | .local _ .vmem, ⟨3, _⟩ => ⟨S4x2x256x1024, .bf16⟩
  | .local _ .vmem, ⟨4, _⟩ => ⟨S4x3x256x1024, .bf16⟩
  | .local _ .vmem, ⟨5, _⟩ => ⟨S4x2x256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 9 50 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 8

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v13 : BitVec 32 := Scalar.muli v2 c256_i32
  let v14 : Index := Scalar.indexCast v13
  let c0 : Index := 0#32
  ![v14.toNat, 0]
@[reducible] def k0_t1_loop : Scf.Loop 32 :=
  let c0_i32_37 : BitVec 32 := 0#32
  let c31_i32 : BitVec 32 := 31#32
  let v57 : BitVec 32 := Scalar.addi c0_i32_37 c31_i32
  let c1_i32_38 : BitVec 32 := 1#32
  ⟨c0_i32_37, v57, c1_i32_38⟩
def k0_off2 (k0_t1 : Fin k0_t1_loop.trips) : Fin 2 → Nat :=
  let c0_i32_329 : BitVec 32 := 0#32
  let c0_i32_37 : BitVec 32 := 0#32
  let c1_i32_38 : BitVec 32 := 1#32
  let arg14 : BitVec 32 := Scf.iv c0_i32_37 c1_i32_38 k0_t1
  let c2_i32_321 : BitVec 32 := 2#32
  let v256 : BitVec 32 := Scalar.remsi arg14 c2_i32_321
  ![0, v256.toNat]
def k0_off3 (k0_t1 : Fin k0_t1_loop.trips) : Fin 4 → Nat :=
  let c0_i32_327 : BitVec 32 := 0#32
  let c0_i32_37 : BitVec 32 := 0#32
  let c1_i32_38 : BitVec 32 := 1#32
  let arg14 : BitVec 32 := Scf.iv c0_i32_37 c1_i32_38 k0_t1
  let c2_i32_321 : BitVec 32 := 2#32
  let v256 : BitVec 32 := Scalar.remsi arg14 c2_i32_321
  let c0_i32_332 : BitVec 32 := 0#32
  let c0_i32_333 : BitVec 32 := 0#32
  ![0, v256.toNat, 0, 0]
def k0_dev3 (d0 : Dev nD) : Nat :=
  let c0_i32_331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_330 : BitVec 32 := 1#32
  let v262 : BitVec 32 := Scalar.muli v7 c1_i32_330
  let v263 : BitVec 32 := Scalar.addi c0_i32_331 v262
  v263.toNat
def k0_off4 (k0_t1 : Fin k0_t1_loop.trips) : Fin 2 → Nat :=
  let c1_i32_339 : BitVec 32 := 1#32
  let c0_i32_37 : BitVec 32 := 0#32
  let c1_i32_38 : BitVec 32 := 1#32
  let arg14 : BitVec 32 := Scf.iv c0_i32_37 c1_i32_38 k0_t1
  let c2_i32_321 : BitVec 32 := 2#32
  let v256 : BitVec 32 := Scalar.remsi arg14 c2_i32_321
  ![1, v256.toNat]
def k0_off5 (k0_t1 : Fin k0_t1_loop.trips) : Fin 4 → Nat :=
  let c1_i32_337 : BitVec 32 := 1#32
  let c0_i32_37 : BitVec 32 := 0#32
  let c1_i32_38 : BitVec 32 := 1#32
  let arg14 : BitVec 32 := Scf.iv c0_i32_37 c1_i32_38 k0_t1
  let c2_i32_321 : BitVec 32 := 2#32
  let v256 : BitVec 32 := Scalar.remsi arg14 c2_i32_321
  let c0_i32_342 : BitVec 32 := 0#32
  let c0_i32_343 : BitVec 32 := 0#32
  ![1, v256.toNat, 0, 0]
def k0_dev4 (d0 : Dev nD) : Nat :=
  let c0_i32_341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_340 : BitVec 32 := 1#32
  let v272 : BitVec 32 := Scalar.muli v7 c1_i32_340
  let v273 : BitVec 32 := Scalar.addi c0_i32_341 v272
  v273.toNat
def k0_off6 (k0_t1 : Fin k0_t1_loop.trips) : Fin 2 → Nat :=
  let c2_i32_349 : BitVec 32 := 2#32
  let c0_i32_37 : BitVec 32 := 0#32
  let c1_i32_38 : BitVec 32 := 1#32
  let arg14 : BitVec 32 := Scf.iv c0_i32_37 c1_i32_38 k0_t1
  let c2_i32_321 : BitVec 32 := 2#32
  let v256 : BitVec 32 := Scalar.remsi arg14 c2_i32_321
  ![2, v256.toNat]
def k0_off7 (k0_t1 : Fin k0_t1_loop.trips) : Fin 4 → Nat :=
  let c2_i32_347 : BitVec 32 := 2#32
  let c0_i32_37 : BitVec 32 := 0#32
  let c1_i32_38 : BitVec 32 := 1#32
  let arg14 : BitVec 32 := Scf.iv c0_i32_37 c1_i32_38 k0_t1
  let c2_i32_321 : BitVec 32 := 2#32
  let v256 : BitVec 32 := Scalar.remsi arg14 c2_i32_321
  let c0_i32_352 : BitVec 32 := 0#32
  let c0_i32_353 : BitVec 32 := 0#32
  ![2, v256.toNat, 0, 0]
def k0_dev5 (d0 : Dev nD) : Nat :=
  let c0_i32_351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_350 : BitVec 32 := 1#32
  let v282 : BitVec 32 := Scalar.muli v5 c1_i32_350
  let v283 : BitVec 32 := Scalar.addi c0_i32_351 v282
  v283.toNat
def k0_off8 (k0_t1 : Fin k0_t1_loop.trips) : Fin 2 → Nat :=
  let c3_i32_359 : BitVec 32 := 3#32
  let c0_i32_37 : BitVec 32 := 0#32
  let c1_i32_38 : BitVec 32 := 1#32
  let arg14 : BitVec 32 := Scf.iv c0_i32_37 c1_i32_38 k0_t1
  let c2_i32_321 : BitVec 32 := 2#32
  let v256 : BitVec 32 := Scalar.remsi arg14 c2_i32_321
  ![3, v256.toNat]
def k0_off9 (k0_t1 : Fin k0_t1_loop.trips) : Fin 4 → Nat :=
  let c3_i32_357 : BitVec 32 := 3#32
  let c0_i32_37 : BitVec 32 := 0#32
  let c1_i32_38 : BitVec 32 := 1#32
  let arg14 : BitVec 32 := Scf.iv c0_i32_37 c1_i32_38 k0_t1
  let c2_i32_321 : BitVec 32 := 2#32
  let v256 : BitVec 32 := Scalar.remsi arg14 c2_i32_321
  let c0_i32_362 : BitVec 32 := 0#32
  let c0_i32_363 : BitVec 32 := 0#32
  ![3, v256.toNat, 0, 0]
def k0_dev6 (d0 : Dev nD) : Nat :=
  let c0_i32_361 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_360 : BitVec 32 := 1#32
  let v292 : BitVec 32 := Scalar.muli v5 c1_i32_360
  let v293 : BitVec 32 := Scalar.addi c0_i32_361 v292
  v293.toNat
def k0_off10 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_37 : BitVec 32 := 0#32
  let c1_i32_38 : BitVec 32 := 1#32
  let arg14 : BitVec 32 := Scf.iv c0_i32_37 c1_i32_38 k0_t1
  let v302 : BitVec 32 := Scalar.subi v2 arg14
  let c1_i32_366 : BitVec 32 := 1#32
  let v303 : BitVec 32 := Scalar.subi v302 c1_i32_366
  let c32_i32_367 : BitVec 32 := 32#32
  let v304 : BitVec 32 := Scalar.addi v303 c32_i32_367
  let c32_i32_368 : BitVec 32 := 32#32
  let v305 : BitVec 32 := Scalar.remsi v304 c32_i32_368
  let c256_i32_371 : BitVec 32 := 256#32
  let v309 : BitVec 32 := Scalar.muli v305 c256_i32_371
  let v310 : Index := Scalar.indexCast v309
  let c0_372 : Index := 0#32
  ![v310.toNat, 0]
def k0_off11 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_37 : BitVec 32 := 0#32
  let c1_i32_38 : BitVec 32 := 1#32
  let arg14 : BitVec 32 := Scf.iv c0_i32_37 c1_i32_38 k0_t1
  let v306 : BitVec 32 := Scalar.addi v2 arg14
  let c1_i32_369 : BitVec 32 := 1#32
  let v307 : BitVec 32 := Scalar.addi v306 c1_i32_369
  let c32_i32_370 : BitVec 32 := 32#32
  let v308 : BitVec 32 := Scalar.remsi v307 c32_i32_370
  let c256_i32_381 : BitVec 32 := 256#32
  let v323 : BitVec 32 := Scalar.muli v308 c256_i32_381
  let v324 : Index := Scalar.indexCast v323
  let c0_382 : Index := 0#32
  ![v324.toNat, 0]
def k0_cond2 (k0_t1 : Fin k0_t1_loop.trips) : BitVec 1 :=
  let c0_i32_37 : BitVec 32 := 0#32
  let c1_i32_38 : BitVec 32 := 1#32
  let arg14 : BitVec 32 := Scf.iv c0_i32_37 c1_i32_38 k0_t1
  let c1_i32_401 : BitVec 32 := 1#32
  let v345 : BitVec 1 := Scalar.cmpi .sge arg14 c1_i32_401
  let v346 : BitVec 32 := Scalar.extui v345
  let c0_i32_402 : BitVec 32 := 0#32
  let v347 : BitVec 1 := Scalar.cmpi .ne v346 c0_i32_402
  v347

def k0_off12 (k0_t1 : Fin k0_t1_loop.trips) : Fin 2 → Nat :=
  let c0_i32_472 : BitVec 32 := 0#32
  let c0_i32_37 : BitVec 32 := 0#32
  let c1_i32_38 : BitVec 32 := 1#32
  let arg14 : BitVec 32 := Scf.iv c0_i32_37 c1_i32_38 k0_t1
  let c1_i32_322 : BitVec 32 := 1#32
  let v257 : BitVec 32 := Scalar.addi arg14 c1_i32_322
  let c2_i32_323 : BitVec 32 := 2#32
  let v258 : BitVec 32 := Scalar.remsi v257 c2_i32_323
  ![0, v258.toNat]
def k0_off13 (k0_t1 : Fin k0_t1_loop.trips) : Fin 4 → Nat :=
  let c0_i32_471 : BitVec 32 := 0#32
  let c0_i32_37 : BitVec 32 := 0#32
  let c1_i32_38 : BitVec 32 := 1#32
  let arg14 : BitVec 32 := Scf.iv c0_i32_37 c1_i32_38 k0_t1
  let c1_i32_322 : BitVec 32 := 1#32
  let v257 : BitVec 32 := Scalar.addi arg14 c1_i32_322
  let c2_i32_323 : BitVec 32 := 2#32
  let v258 : BitVec 32 := Scalar.remsi v257 c2_i32_323
  let c0_i32_475 : BitVec 32 := 0#32
  let c0_i32_476 : BitVec 32 := 0#32
  ![0, v258.toNat, 0, 0]
def k0_off14 (k0_t1 : Fin k0_t1_loop.trips) : Fin 4 → Nat :=
  let c0_403 : Index := 0#32
  let c0_i32_37 : BitVec 32 := 0#32
  let c1_i32_38 : BitVec 32 := 1#32
  let arg14 : BitVec 32 := Scf.iv c0_i32_37 c1_i32_38 k0_t1
  let c2_i32_321 : BitVec 32 := 2#32
  let v256 : BitVec 32 := Scalar.remsi arg14 c2_i32_321
  let v348 : Index := Scalar.indexCast v256
  let c0_404 : Index := 0#32
  let c0_405 : Index := 0#32
  ![0, v348.toNat, 0, 0]
def k0_off15 (k0_t1 : Fin k0_t1_loop.trips) : Fin 4 → Nat :=
  let c0_406 : Index := 0#32
  let c0_i32_37 : BitVec 32 := 0#32
  let c1_i32_38 : BitVec 32 := 1#32
  let arg14 : BitVec 32 := Scf.iv c0_i32_37 c1_i32_38 k0_t1
  let c1_i32_322 : BitVec 32 := 1#32
  let v257 : BitVec 32 := Scalar.addi arg14 c1_i32_322
  let c2_i32_323 : BitVec 32 := 2#32
  let v258 : BitVec 32 := Scalar.remsi v257 c2_i32_323
  let v354 : Index := Scalar.indexCast v258
  let c0_407 : Index := 0#32
  let c0_408 : Index := 0#32
  ![0, v354.toNat, 0, 0]
def k0_cond3 (k0_t1 : Fin k0_t1_loop.trips) : BitVec 1 :=
  let c0_i32_37 : BitVec 32 := 0#32
  let c1_i32_38 : BitVec 32 := 1#32
  let arg14 : BitVec 32 := Scf.iv c0_i32_37 c1_i32_38 k0_t1
  let c28_i32 : BitVec 32 := 28#32
  let v358 : BitVec 1 := Scalar.cmpi .sle arg14 c28_i32
  let v359 : BitVec 32 := Scalar.extui v358
  let c0_i32_409 : BitVec 32 := 0#32
  let v360 : BitVec 1 := Scalar.cmpi .ne v359 c0_i32_409
  v360

def k0_dev7 (d0 : Dev nD) : Nat :=
  let c0_i32_473 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_472 : BitVec 32 := 1#32
  let v435 : BitVec 32 := Scalar.muli v5 c1_i32_472
  let v436 : BitVec 32 := Scalar.addi c0_i32_473 v435
  v436.toNat
def k0_cond4 (k0_t1 : Fin k0_t1_loop.trips) : BitVec 1 :=
  let c0_i32_37 : BitVec 32 := 0#32
  let c1_i32_38 : BitVec 32 := 1#32
  let arg14 : BitVec 32 := Scf.iv c0_i32_37 c1_i32_38 k0_t1
  let c1_i32_420 : BitVec 32 := 1#32
  let v369 : BitVec 1 := Scalar.cmpi .sge arg14 c1_i32_420
  let v370 : BitVec 32 := Scalar.extui v369
  let c0_i32_421 : BitVec 32 := 0#32
  let v371 : BitVec 1 := Scalar.cmpi .ne v370 c0_i32_421
  v371

def k0_off16 (k0_t1 : Fin k0_t1_loop.trips) : Fin 2 → Nat :=
  let c1_i32_472 : BitVec 32 := 1#32
  let c0_i32_37 : BitVec 32 := 0#32
  let c1_i32_38 : BitVec 32 := 1#32
  let arg14 : BitVec 32 := Scf.iv c0_i32_37 c1_i32_38 k0_t1
  let c1_i32_322 : BitVec 32 := 1#32
  let v257 : BitVec 32 := Scalar.addi arg14 c1_i32_322
  let c2_i32_323 : BitVec 32 := 2#32
  let v258 : BitVec 32 := Scalar.remsi v257 c2_i32_323
  ![1, v258.toNat]
def k0_off17 (k0_t1 : Fin k0_t1_loop.trips) : Fin 4 → Nat :=
  let c1_i32_471 : BitVec 32 := 1#32
  let c0_i32_37 : BitVec 32 := 0#32
  let c1_i32_38 : BitVec 32 := 1#32
  let arg14 : BitVec 32 := Scf.iv c0_i32_37 c1_i32_38 k0_t1
  let c1_i32_322 : BitVec 32 := 1#32
  let v257 : BitVec 32 := Scalar.addi arg14 c1_i32_322
  let c2_i32_323 : BitVec 32 := 2#32
  let v258 : BitVec 32 := Scalar.remsi v257 c2_i32_323
  let c0_i32_475 : BitVec 32 := 0#32
  let c0_i32_476 : BitVec 32 := 0#32
  ![1, v258.toNat, 0, 0]
def k0_off18 (k0_t1 : Fin k0_t1_loop.trips) : Fin 4 → Nat :=
  let c1_422 : Index := 1#32
  let c0_i32_37 : BitVec 32 := 0#32
  let c1_i32_38 : BitVec 32 := 1#32
  let arg14 : BitVec 32 := Scf.iv c0_i32_37 c1_i32_38 k0_t1
  let c2_i32_321 : BitVec 32 := 2#32
  let v256 : BitVec 32 := Scalar.remsi arg14 c2_i32_321
  let v372 : Index := Scalar.indexCast v256
  let c0_423 : Index := 0#32
  let c0_424 : Index := 0#32
  ![1, v372.toNat, 0, 0]
def k0_off19 (k0_t1 : Fin k0_t1_loop.trips) : Fin 4 → Nat :=
  let c1_425 : Index := 1#32
  let c0_i32_37 : BitVec 32 := 0#32
  let c1_i32_38 : BitVec 32 := 1#32
  let arg14 : BitVec 32 := Scf.iv c0_i32_37 c1_i32_38 k0_t1
  let c1_i32_322 : BitVec 32 := 1#32
  let v257 : BitVec 32 := Scalar.addi arg14 c1_i32_322
  let c2_i32_323 : BitVec 32 := 2#32
  let v258 : BitVec 32 := Scalar.remsi v257 c2_i32_323
  let v378 : Index := Scalar.indexCast v258
  let c0_426 : Index := 0#32
  let c0_427 : Index := 0#32
  ![1, v378.toNat, 0, 0]
def k0_cond5 (k0_t1 : Fin k0_t1_loop.trips) : BitVec 1 :=
  let c0_i32_37 : BitVec 32 := 0#32
  let c1_i32_38 : BitVec 32 := 1#32
  let arg14 : BitVec 32 := Scf.iv c0_i32_37 c1_i32_38 k0_t1
  let c28_i32_428 : BitVec 32 := 28#32
  let v382 : BitVec 1 := Scalar.cmpi .sle arg14 c28_i32_428
  let v383 : BitVec 32 := Scalar.extui v382
  let c0_i32_429 : BitVec 32 := 0#32
  let v384 : BitVec 1 := Scalar.cmpi .ne v383 c0_i32_429
  v384

def k0_dev8 (d0 : Dev nD) : Nat :=
  let c0_i32_473 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_472 : BitVec 32 := 1#32
  let v435 : BitVec 32 := Scalar.muli v5 c1_i32_472
  let v436 : BitVec 32 := Scalar.addi c0_i32_473 v435
  v436.toNat
def k0_cond6 (k0_t1 : Fin k0_t1_loop.trips) : BitVec 1 :=
  let c0_i32_37 : BitVec 32 := 0#32
  let c1_i32_38 : BitVec 32 := 1#32
  let arg14 : BitVec 32 := Scf.iv c0_i32_37 c1_i32_38 k0_t1
  let c1_i32_440 : BitVec 32 := 1#32
  let v393 : BitVec 1 := Scalar.cmpi .sge arg14 c1_i32_440
  let v394 : BitVec 32 := Scalar.extui v393
  let c0_i32_441 : BitVec 32 := 0#32
  let v395 : BitVec 1 := Scalar.cmpi .ne v394 c0_i32_441
  v395

def k0_off20 (k0_t1 : Fin k0_t1_loop.trips) : Fin 2 → Nat :=
  let c2_i32_472 : BitVec 32 := 2#32
  let c0_i32_37 : BitVec 32 := 0#32
  let c1_i32_38 : BitVec 32 := 1#32
  let arg14 : BitVec 32 := Scf.iv c0_i32_37 c1_i32_38 k0_t1
  let c1_i32_322 : BitVec 32 := 1#32
  let v257 : BitVec 32 := Scalar.addi arg14 c1_i32_322
  let c2_i32_323 : BitVec 32 := 2#32
  let v258 : BitVec 32 := Scalar.remsi v257 c2_i32_323
  ![2, v258.toNat]
def k0_off21 (k0_t1 : Fin k0_t1_loop.trips) : Fin 4 → Nat :=
  let c2_i32_471 : BitVec 32 := 2#32
  let c0_i32_37 : BitVec 32 := 0#32
  let c1_i32_38 : BitVec 32 := 1#32
  let arg14 : BitVec 32 := Scf.iv c0_i32_37 c1_i32_38 k0_t1
  let c1_i32_322 : BitVec 32 := 1#32
  let v257 : BitVec 32 := Scalar.addi arg14 c1_i32_322
  let c2_i32_323 : BitVec 32 := 2#32
  let v258 : BitVec 32 := Scalar.remsi v257 c2_i32_323
  let c0_i32_475 : BitVec 32 := 0#32
  let c0_i32_476 : BitVec 32 := 0#32
  ![2, v258.toNat, 0, 0]
def k0_off22 (k0_t1 : Fin k0_t1_loop.trips) : Fin 4 → Nat :=
  let c2_442 : Index := 2#32
  let c0_i32_37 : BitVec 32 := 0#32
  let c1_i32_38 : BitVec 32 := 1#32
  let arg14 : BitVec 32 := Scf.iv c0_i32_37 c1_i32_38 k0_t1
  let c2_i32_321 : BitVec 32 := 2#32
  let v256 : BitVec 32 := Scalar.remsi arg14 c2_i32_321
  let v396 : Index := Scalar.indexCast v256
  let c0_443 : Index := 0#32
  let c0_444 : Index := 0#32
  ![2, v396.toNat, 0, 0]
def k0_off23 (k0_t1 : Fin k0_t1_loop.trips) : Fin 4 → Nat :=
  let c2_445 : Index := 2#32
  let c0_i32_37 : BitVec 32 := 0#32
  let c1_i32_38 : BitVec 32 := 1#32
  let arg14 : BitVec 32 := Scf.iv c0_i32_37 c1_i32_38 k0_t1
  let c1_i32_322 : BitVec 32 := 1#32
  let v257 : BitVec 32 := Scalar.addi arg14 c1_i32_322
  let c2_i32_323 : BitVec 32 := 2#32
  let v258 : BitVec 32 := Scalar.remsi v257 c2_i32_323
  let v402 : Index := Scalar.indexCast v258
  let c0_446 : Index := 0#32
  let c0_447 : Index := 0#32
  ![2, v402.toNat, 0, 0]
def k0_cond7 (k0_t1 : Fin k0_t1_loop.trips) : BitVec 1 :=
  let c0_i32_37 : BitVec 32 := 0#32
  let c1_i32_38 : BitVec 32 := 1#32
  let arg14 : BitVec 32 := Scf.iv c0_i32_37 c1_i32_38 k0_t1
  let c28_i32_448 : BitVec 32 := 28#32
  let v406 : BitVec 1 := Scalar.cmpi .sle arg14 c28_i32_448
  let v407 : BitVec 32 := Scalar.extui v406
  let c0_i32_449 : BitVec 32 := 0#32
  let v408 : BitVec 1 := Scalar.cmpi .ne v407 c0_i32_449
  v408

def k0_dev9 (d0 : Dev nD) : Nat :=
  let c0_i32_473 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_472 : BitVec 32 := 1#32
  let v435 : BitVec 32 := Scalar.muli v7 c1_i32_472
  let v436 : BitVec 32 := Scalar.addi c0_i32_473 v435
  v436.toNat
def k0_cond8 (k0_t1 : Fin k0_t1_loop.trips) : BitVec 1 :=
  let c0_i32_37 : BitVec 32 := 0#32
  let c1_i32_38 : BitVec 32 := 1#32
  let arg14 : BitVec 32 := Scf.iv c0_i32_37 c1_i32_38 k0_t1
  let c1_i32_460 : BitVec 32 := 1#32
  let v417 : BitVec 1 := Scalar.cmpi .sge arg14 c1_i32_460
  let v418 : BitVec 32 := Scalar.extui v417
  let c0_i32_461 : BitVec 32 := 0#32
  let v419 : BitVec 1 := Scalar.cmpi .ne v418 c0_i32_461
  v419

def k0_off24 (k0_t1 : Fin k0_t1_loop.trips) : Fin 2 → Nat :=
  let c3_i32_472 : BitVec 32 := 3#32
  let c0_i32_37 : BitVec 32 := 0#32
  let c1_i32_38 : BitVec 32 := 1#32
  let arg14 : BitVec 32 := Scf.iv c0_i32_37 c1_i32_38 k0_t1
  let c1_i32_322 : BitVec 32 := 1#32
  let v257 : BitVec 32 := Scalar.addi arg14 c1_i32_322
  let c2_i32_323 : BitVec 32 := 2#32
  let v258 : BitVec 32 := Scalar.remsi v257 c2_i32_323
  ![3, v258.toNat]
def k0_off25 (k0_t1 : Fin k0_t1_loop.trips) : Fin 4 → Nat :=
  let c3_i32_471 : BitVec 32 := 3#32
  let c0_i32_37 : BitVec 32 := 0#32
  let c1_i32_38 : BitVec 32 := 1#32
  let arg14 : BitVec 32 := Scf.iv c0_i32_37 c1_i32_38 k0_t1
  let c1_i32_322 : BitVec 32 := 1#32
  let v257 : BitVec 32 := Scalar.addi arg14 c1_i32_322
  let c2_i32_323 : BitVec 32 := 2#32
  let v258 : BitVec 32 := Scalar.remsi v257 c2_i32_323
  let c0_i32_475 : BitVec 32 := 0#32
  let c0_i32_476 : BitVec 32 := 0#32
  ![3, v258.toNat, 0, 0]
def k0_off26 (k0_t1 : Fin k0_t1_loop.trips) : Fin 4 → Nat :=
  let c3_462 : Index := 3#32
  let c0_i32_37 : BitVec 32 := 0#32
  let c1_i32_38 : BitVec 32 := 1#32
  let arg14 : BitVec 32 := Scf.iv c0_i32_37 c1_i32_38 k0_t1
  let c2_i32_321 : BitVec 32 := 2#32
  let v256 : BitVec 32 := Scalar.remsi arg14 c2_i32_321
  let v420 : Index := Scalar.indexCast v256
  let c0_463 : Index := 0#32
  let c0_464 : Index := 0#32
  ![3, v420.toNat, 0, 0]
def k0_off27 (k0_t1 : Fin k0_t1_loop.trips) : Fin 4 → Nat :=
  let c3_465 : Index := 3#32
  let c0_i32_37 : BitVec 32 := 0#32
  let c1_i32_38 : BitVec 32 := 1#32
  let arg14 : BitVec 32 := Scf.iv c0_i32_37 c1_i32_38 k0_t1
  let c1_i32_322 : BitVec 32 := 1#32
  let v257 : BitVec 32 := Scalar.addi arg14 c1_i32_322
  let c2_i32_323 : BitVec 32 := 2#32
  let v258 : BitVec 32 := Scalar.remsi v257 c2_i32_323
  let v426 : Index := Scalar.indexCast v258
  let c0_466 : Index := 0#32
  let c0_467 : Index := 0#32
  ![3, v426.toNat, 0, 0]
def k0_cond9 (k0_t1 : Fin k0_t1_loop.trips) : BitVec 1 :=
  let c0_i32_37 : BitVec 32 := 0#32
  let c1_i32_38 : BitVec 32 := 1#32
  let arg14 : BitVec 32 := Scf.iv c0_i32_37 c1_i32_38 k0_t1
  let c28_i32_468 : BitVec 32 := 28#32
  let v430 : BitVec 1 := Scalar.cmpi .sle arg14 c28_i32_468
  let v431 : BitVec 32 := Scalar.extui v430
  let c0_i32_469 : BitVec 32 := 0#32
  let v432 : BitVec 1 := Scalar.cmpi .ne v431 c0_i32_469
  v432

def k0_dev10 (d0 : Dev nD) : Nat :=
  let c0_i32_473 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_472 : BitVec 32 := 1#32
  let v435 : BitVec 32 := Scalar.muli v7 c1_i32_472
  let v436 : BitVec 32 := Scalar.addi c0_i32_473 v435
  v436.toNat
def k0_off28 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_91 : BitVec 32 := 1#32
  let v82 : BitVec 32 := Scalar.addi v2 c1_i32_91
  let c32_i32_92 : BitVec 32 := 32#32
  let v83 : BitVec 32 := Scalar.remsi v82 c32_i32_92
  let c256_i32_111 : BitVec 32 := 256#32
  let v105 : BitVec 32 := Scalar.muli v83 c256_i32_111
  let c0_i32_116 : BitVec 32 := 0#32
  ![v105.toNat, 0]
def k0_off29 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_91 : BitVec 32 := 1#32
  let v82 : BitVec 32 := Scalar.addi v2 c1_i32_91
  let c32_i32_92 : BitVec 32 := 32#32
  let v83 : BitVec 32 := Scalar.remsi v82 c32_i32_92
  let c256_i32_134 : BitVec 32 := 256#32
  let v129 : BitVec 32 := Scalar.muli v83 c256_i32_134
  let c1024_i32 : BitVec 32 := 1024#32
  ![v129.toNat, 1024]
def k0_off30 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_93 : BitVec 32 := 1#32
  let v84 : BitVec 32 := Scalar.subi v2 c1_i32_93
  let c32_i32_94 : BitVec 32 := 32#32
  let v85 : BitVec 32 := Scalar.addi v84 c32_i32_94
  let c32_i32_95 : BitVec 32 := 32#32
  let v86 : BitVec 32 := Scalar.remsi v85 c32_i32_95
  let c256_i32_156 : BitVec 32 := 256#32
  let v153 : BitVec 32 := Scalar.muli v86 c256_i32_156
  let c2048_i32 : BitVec 32 := 2048#32
  ![v153.toNat, 2048]
def k0_off31 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_93 : BitVec 32 := 1#32
  let v84 : BitVec 32 := Scalar.subi v2 c1_i32_93
  let c32_i32_94 : BitVec 32 := 32#32
  let v85 : BitVec 32 := Scalar.addi v84 c32_i32_94
  let c32_i32_95 : BitVec 32 := 32#32
  let v86 : BitVec 32 := Scalar.remsi v85 c32_i32_95
  let c256_i32_178 : BitVec 32 := 256#32
  let v177 : BitVec 32 := Scalar.muli v86 c256_i32_178
  let c3072_i32 : BitVec 32 := 3072#32
  ![v177.toNat, 3072]
@[reducible] def k0_t2_loop : Scf.Loop 32 :=
  let c0_i32_185 : BitVec 32 := 0#32
  let c31_i32_186 : BitVec 32 := 31#32
  let v183 : BitVec 32 := Scalar.addi c0_i32_185 c31_i32_186
  let c1_i32_187 : BitVec 32 := 1#32
  ⟨c0_i32_185, v183, c1_i32_187⟩
def k0_off32 (k0_t2 : Fin k0_t2_loop.trips) : Fin 2 → Nat :=
  let c0_i32_330 : BitVec 32 := 0#32
  let c0_i32_185 : BitVec 32 := 0#32
  let c1_i32_187 : BitVec 32 := 1#32
  let arg14 : BitVec 32 := Scf.iv c0_i32_185 c1_i32_187 k0_t2
  let c3_i32_321 : BitVec 32 := 3#32
  let v256 : BitVec 32 := Scalar.remsi arg14 c3_i32_321
  ![0, v256.toNat]
def k0_off33 (k0_t2 : Fin k0_t2_loop.trips) : Fin 2 → Nat :=
  let c0_i32_329 : BitVec 32 := 0#32
  let c0_i32_185 : BitVec 32 := 0#32
  let c1_i32_187 : BitVec 32 := 1#32
  let arg14 : BitVec 32 := Scf.iv c0_i32_185 c1_i32_187 k0_t2
  let c1_i32_322 : BitVec 32 := 1#32
  let v257 : BitVec 32 := Scalar.addi arg14 c1_i32_322
  let c3_i32_323 : BitVec 32 := 3#32
  let v258 : BitVec 32 := Scalar.remsi v257 c3_i32_323
  ![0, v258.toNat]
def k0_off34 (k0_t2 : Fin k0_t2_loop.trips) : Fin 4 → Nat :=
  let c0_i32_328 : BitVec 32 := 0#32
  let c0_i32_185 : BitVec 32 := 0#32
  let c1_i32_187 : BitVec 32 := 1#32
  let arg14 : BitVec 32 := Scf.iv c0_i32_185 c1_i32_187 k0_t2
  let c1_i32_322 : BitVec 32 := 1#32
  let v257 : BitVec 32 := Scalar.addi arg14 c1_i32_322
  let c3_i32_323 : BitVec 32 := 3#32
  let v258 : BitVec 32 := Scalar.remsi v257 c3_i32_323
  let c0_i32_333 : BitVec 32 := 0#32
  let c0_i32_334 : BitVec 32 := 0#32
  ![0, v258.toNat, 0, 0]
def k0_off35 (k0_t2 : Fin k0_t2_loop.trips) : Fin 4 → Nat :=
  let c0_i32_327 : BitVec 32 := 0#32
  let c0_i32_185 : BitVec 32 := 0#32
  let c1_i32_187 : BitVec 32 := 1#32
  let arg14 : BitVec 32 := Scf.iv c0_i32_185 c1_i32_187 k0_t2
  let c3_i32_321 : BitVec 32 := 3#32
  let v256 : BitVec 32 := Scalar.remsi arg14 c3_i32_321
  let c0_i32_335 : BitVec 32 := 0#32
  let c0_i32_336 : BitVec 32 := 0#32
  ![0, v256.toNat, 0, 0]
def k0_dev11 (d0 : Dev nD) : Nat :=
  let c0_i32_332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_331 : BitVec 32 := 1#32
  let v263 : BitVec 32 := Scalar.muli v7 c1_i32_331
  let v264 : BitVec 32 := Scalar.addi c0_i32_332 v263
  v264.toNat
def k0_off36 (k0_t2 : Fin k0_t2_loop.trips) : Fin 2 → Nat :=
  let c1_i32_340 : BitVec 32 := 1#32
  let c0_i32_185 : BitVec 32 := 0#32
  let c1_i32_187 : BitVec 32 := 1#32
  let arg14 : BitVec 32 := Scf.iv c0_i32_185 c1_i32_187 k0_t2
  let c3_i32_321 : BitVec 32 := 3#32
  let v256 : BitVec 32 := Scalar.remsi arg14 c3_i32_321
  ![1, v256.toNat]
def k0_off37 (k0_t2 : Fin k0_t2_loop.trips) : Fin 2 → Nat :=
  let c1_i32_339 : BitVec 32 := 1#32
  let c0_i32_185 : BitVec 32 := 0#32
  let c1_i32_187 : BitVec 32 := 1#32
  let arg14 : BitVec 32 := Scf.iv c0_i32_185 c1_i32_187 k0_t2
  let c1_i32_322 : BitVec 32 := 1#32
  let v257 : BitVec 32 := Scalar.addi arg14 c1_i32_322
  let c3_i32_323 : BitVec 32 := 3#32
  let v258 : BitVec 32 := Scalar.remsi v257 c3_i32_323
  ![1, v258.toNat]
def k0_off38 (k0_t2 : Fin k0_t2_loop.trips) : Fin 4 → Nat :=
  let c1_i32_338 : BitVec 32 := 1#32
  let c0_i32_185 : BitVec 32 := 0#32
  let c1_i32_187 : BitVec 32 := 1#32
  let arg14 : BitVec 32 := Scf.iv c0_i32_185 c1_i32_187 k0_t2
  let c1_i32_322 : BitVec 32 := 1#32
  let v257 : BitVec 32 := Scalar.addi arg14 c1_i32_322
  let c3_i32_323 : BitVec 32 := 3#32
  let v258 : BitVec 32 := Scalar.remsi v257 c3_i32_323
  let c0_i32_343 : BitVec 32 := 0#32
  let c0_i32_344 : BitVec 32 := 0#32
  ![1, v258.toNat, 0, 0]
def k0_off39 (k0_t2 : Fin k0_t2_loop.trips) : Fin 4 → Nat :=
  let c1_i32_337 : BitVec 32 := 1#32
  let c0_i32_185 : BitVec 32 := 0#32
  let c1_i32_187 : BitVec 32 := 1#32
  let arg14 : BitVec 32 := Scf.iv c0_i32_185 c1_i32_187 k0_t2
  let c3_i32_321 : BitVec 32 := 3#32
  let v256 : BitVec 32 := Scalar.remsi arg14 c3_i32_321
  let c0_i32_345 : BitVec 32 := 0#32
  let c0_i32_346 : BitVec 32 := 0#32
  ![1, v256.toNat, 0, 0]
def k0_dev12 (d0 : Dev nD) : Nat :=
  let c0_i32_342 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_341 : BitVec 32 := 1#32
  let v273 : BitVec 32 := Scalar.muli v7 c1_i32_341
  let v274 : BitVec 32 := Scalar.addi c0_i32_342 v273
  v274.toNat
def k0_off40 (k0_t2 : Fin k0_t2_loop.trips) : Fin 2 → Nat :=
  let c2_i32_350 : BitVec 32 := 2#32
  let c0_i32_185 : BitVec 32 := 0#32
  let c1_i32_187 : BitVec 32 := 1#32
  let arg14 : BitVec 32 := Scf.iv c0_i32_185 c1_i32_187 k0_t2
  let c3_i32_321 : BitVec 32 := 3#32
  let v256 : BitVec 32 := Scalar.remsi arg14 c3_i32_321
  ![2, v256.toNat]
def k0_off41 (k0_t2 : Fin k0_t2_loop.trips) : Fin 2 → Nat :=
  let c2_i32_349 : BitVec 32 := 2#32
  let c0_i32_185 : BitVec 32 := 0#32
  let c1_i32_187 : BitVec 32 := 1#32
  let arg14 : BitVec 32 := Scf.iv c0_i32_185 c1_i32_187 k0_t2
  let c1_i32_322 : BitVec 32 := 1#32
  let v257 : BitVec 32 := Scalar.addi arg14 c1_i32_322
  let c3_i32_323 : BitVec 32 := 3#32
  let v258 : BitVec 32 := Scalar.remsi v257 c3_i32_323
  ![2, v258.toNat]
def k0_off42 (k0_t2 : Fin k0_t2_loop.trips) : Fin 4 → Nat :=
  let c2_i32_348 : BitVec 32 := 2#32
  let c0_i32_185 : BitVec 32 := 0#32
  let c1_i32_187 : BitVec 32 := 1#32
  let arg14 : BitVec 32 := Scf.iv c0_i32_185 c1_i32_187 k0_t2
  let c1_i32_322 : BitVec 32 := 1#32
  let v257 : BitVec 32 := Scalar.addi arg14 c1_i32_322
  let c3_i32_323 : BitVec 32 := 3#32
  let v258 : BitVec 32 := Scalar.remsi v257 c3_i32_323
  let c0_i32_353 : BitVec 32 := 0#32
  let c0_i32_354 : BitVec 32 := 0#32
  ![2, v258.toNat, 0, 0]
def k0_off43 (k0_t2 : Fin k0_t2_loop.trips) : Fin 4 → Nat :=
  let c2_i32_347 : BitVec 32 := 2#32
  let c0_i32_185 : BitVec 32 := 0#32
  let c1_i32_187 : BitVec 32 := 1#32
  let arg14 : BitVec 32 := Scf.iv c0_i32_185 c1_i32_187 k0_t2
  let c3_i32_321 : BitVec 32 := 3#32
  let v256 : BitVec 32 := Scalar.remsi arg14 c3_i32_321
  let c0_i32_355 : BitVec 32 := 0#32
  let c0_i32_356 : BitVec 32 := 0#32
  ![2, v256.toNat, 0, 0]
def k0_dev13 (d0 : Dev nD) : Nat :=
  let c0_i32_352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_351 : BitVec 32 := 1#32
  let v283 : BitVec 32 := Scalar.muli v5 c1_i32_351
  let v284 : BitVec 32 := Scalar.addi c0_i32_352 v283
  v284.toNat
def k0_off44 (k0_t2 : Fin k0_t2_loop.trips) : Fin 2 → Nat :=
  let c3_i32_360 : BitVec 32 := 3#32
  let c0_i32_185 : BitVec 32 := 0#32
  let c1_i32_187 : BitVec 32 := 1#32
  let arg14 : BitVec 32 := Scf.iv c0_i32_185 c1_i32_187 k0_t2
  let c3_i32_321 : BitVec 32 := 3#32
  let v256 : BitVec 32 := Scalar.remsi arg14 c3_i32_321
  ![3, v256.toNat]
def k0_off45 (k0_t2 : Fin k0_t2_loop.trips) : Fin 2 → Nat :=
  let c3_i32_359 : BitVec 32 := 3#32
  let c0_i32_185 : BitVec 32 := 0#32
  let c1_i32_187 : BitVec 32 := 1#32
  let arg14 : BitVec 32 := Scf.iv c0_i32_185 c1_i32_187 k0_t2
  let c1_i32_322 : BitVec 32 := 1#32
  let v257 : BitVec 32 := Scalar.addi arg14 c1_i32_322
  let c3_i32_323 : BitVec 32 := 3#32
  let v258 : BitVec 32 := Scalar.remsi v257 c3_i32_323
  ![3, v258.toNat]
def k0_off46 (k0_t2 : Fin k0_t2_loop.trips) : Fin 4 → Nat :=
  let c3_i32_358 : BitVec 32 := 3#32
  let c0_i32_185 : BitVec 32 := 0#32
  let c1_i32_187 : BitVec 32 := 1#32
  let arg14 : BitVec 32 := Scf.iv c0_i32_185 c1_i32_187 k0_t2
  let c1_i32_322 : BitVec 32 := 1#32
  let v257 : BitVec 32 := Scalar.addi arg14 c1_i32_322
  let c3_i32_323 : BitVec 32 := 3#32
  let v258 : BitVec 32 := Scalar.remsi v257 c3_i32_323
  let c0_i32_363 : BitVec 32 := 0#32
  let c0_i32_364 : BitVec 32 := 0#32
  ![3, v258.toNat, 0, 0]
def k0_off47 (k0_t2 : Fin k0_t2_loop.trips) : Fin 4 → Nat :=
  let c3_i32_357 : BitVec 32 := 3#32
  let c0_i32_185 : BitVec 32 := 0#32
  let c1_i32_187 : BitVec 32 := 1#32
  let arg14 : BitVec 32 := Scf.iv c0_i32_185 c1_i32_187 k0_t2
  let c3_i32_321 : BitVec 32 := 3#32
  let v256 : BitVec 32 := Scalar.remsi arg14 c3_i32_321
  let c0_i32_365 : BitVec 32 := 0#32
  let c0_i32_366 : BitVec 32 := 0#32
  ![3, v256.toNat, 0, 0]
def k0_dev14 (d0 : Dev nD) : Nat :=
  let c0_i32_362 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_361 : BitVec 32 := 1#32
  let v293 : BitVec 32 := Scalar.muli v5 c1_i32_361
  let v294 : BitVec 32 := Scalar.addi c0_i32_362 v293
  v294.toNat
def k0_cond11 (k0_t2 : Fin k0_t2_loop.trips) : BitVec 1 :=
  let c0_i32_185 : BitVec 32 := 0#32
  let c1_i32_187 : BitVec 32 := 1#32
  let arg14 : BitVec 32 := Scf.iv c0_i32_185 c1_i32_187 k0_t2
  let c2_i32_380 : BitVec 32 := 2#32
  let v316 : BitVec 1 := Scalar.cmpi .sge arg14 c2_i32_380
  let c0_i32_381 : BitVec 32 := 0#32
  let v317 : BitVec 1 := Scalar.cmpi .eq arg14 c0_i32_381
  let v318 : BitVec 1 := Scalar.ori v316 v317
  let v319 : BitVec 32 := Scalar.extui v318
  let c0_i32_382 : BitVec 32 := 0#32
  let v320 : BitVec 1 := Scalar.cmpi .ne v319 c0_i32_382
  v320

def k0_off48 (k0_t2 : Fin k0_t2_loop.trips) : Fin 2 → Nat :=
  let c0_i32_491 : BitVec 32 := 0#32
  let c0_i32_185 : BitVec 32 := 0#32
  let c1_i32_187 : BitVec 32 := 1#32
  let arg14 : BitVec 32 := Scf.iv c0_i32_185 c1_i32_187 k0_t2
  let c2_i32_324 : BitVec 32 := 2#32
  let v259 : BitVec 32 := Scalar.remsi arg14 c2_i32_324
  ![0, v259.toNat]
def k0_off49 (k0_t2 : Fin k0_t2_loop.trips) : Fin 4 → Nat :=
  let c0_i32_490 : BitVec 32 := 0#32
  let c0_i32_185 : BitVec 32 := 0#32
  let c1_i32_187 : BitVec 32 := 1#32
  let arg14 : BitVec 32 := Scf.iv c0_i32_185 c1_i32_187 k0_t2
  let c2_i32_324 : BitVec 32 := 2#32
  let v259 : BitVec 32 := Scalar.remsi arg14 c2_i32_324
  let c0_i32_492 : BitVec 32 := 0#32
  let c0_i32_493 : BitVec 32 := 0#32
  ![0, v259.toNat, 0, 0]
def k0_off50 (k0_t2 : Fin k0_t2_loop.trips) : Fin 4 → Nat :=
  let c0_383 : Index := 0#32
  let c0_i32_185 : BitVec 32 := 0#32
  let c1_i32_187 : BitVec 32 := 1#32
  let arg14 : BitVec 32 := Scf.iv c0_i32_185 c1_i32_187 k0_t2
  let c1_i32_322 : BitVec 32 := 1#32
  let v257 : BitVec 32 := Scalar.addi arg14 c1_i32_322
  let c3_i32_323 : BitVec 32 := 3#32
  let v258 : BitVec 32 := Scalar.remsi v257 c3_i32_323
  let v321 : Index := Scalar.indexCast v258
  let c0_384 : Index := 0#32
  let c0_385 : Index := 0#32
  ![0, v321.toNat, 0, 0]
def k0_off51 (k0_t2 : Fin k0_t2_loop.trips) : Fin 4 → Nat :=
  let c0_386 : Index := 0#32
  let c0_i32_185 : BitVec 32 := 0#32
  let c1_i32_187 : BitVec 32 := 1#32
  let arg14 : BitVec 32 := Scf.iv c0_i32_185 c1_i32_187 k0_t2
  let c2_i32_324 : BitVec 32 := 2#32
  let v259 : BitVec 32 := Scalar.remsi arg14 c2_i32_324
  let v325 : Index := Scalar.indexCast v259
  let c0_387 : Index := 0#32
  let c0_388 : Index := 0#32
  ![0, v325.toNat, 0, 0]
def k0_off52 (k0_t2 : Fin k0_t2_loop.trips) : Fin 2 → Nat :=
  let c0_i32_391 : BitVec 32 := 0#32
  let c0_i32_185 : BitVec 32 := 0#32
  let c1_i32_187 : BitVec 32 := 1#32
  let arg14 : BitVec 32 := Scf.iv c0_i32_185 c1_i32_187 k0_t2
  let c2_i32_324 : BitVec 32 := 2#32
  let v259 : BitVec 32 := Scalar.remsi arg14 c2_i32_324
  ![0, v259.toNat]
def k0_off53 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_185 : BitVec 32 := 0#32
  let c1_i32_187 : BitVec 32 := 1#32
  let arg14 : BitVec 32 := Scf.iv c0_i32_185 c1_i32_187 k0_t2
  let v303 : BitVec 32 := Scalar.subi v2 arg14
  let c32_i32_367 : BitVec 32 := 32#32
  let v304 : BitVec 32 := Scalar.addi v303 c32_i32_367
  let c32_i32_368 : BitVec 32 := 32#32
  let v305 : BitVec 32 := Scalar.remsi v304 c32_i32_368
  let c256_i32_389 : BitVec 32 := 256#32
  let v329 : BitVec 32 := Scalar.muli v305 c256_i32_389
  let c0_i32_392 : BitVec 32 := 0#32
  ![v329.toNat, 0]
def k0_off54 (k0_t2 : Fin k0_t2_loop.trips) : Fin 4 → Nat :=
  let c0_i32_390 : BitVec 32 := 0#32
  let c0_i32_185 : BitVec 32 := 0#32
  let c1_i32_187 : BitVec 32 := 1#32
  let arg14 : BitVec 32 := Scf.iv c0_i32_185 c1_i32_187 k0_t2
  let c2_i32_324 : BitVec 32 := 2#32
  let v259 : BitVec 32 := Scalar.remsi arg14 c2_i32_324
  let c0_i32_393 : BitVec 32 := 0#32
  let c0_i32_394 : BitVec 32 := 0#32
  ![0, v259.toNat, 0, 0]
def k0_cond12 (k0_t2 : Fin k0_t2_loop.trips) : BitVec 1 :=
  let c0_i32_185 : BitVec 32 := 0#32
  let c1_i32_187 : BitVec 32 := 1#32
  let arg14 : BitVec 32 := Scf.iv c0_i32_185 c1_i32_187 k0_t2
  let c1_i32_395 : BitVec 32 := 1#32
  let v335 : BitVec 1 := Scalar.cmpi .sge arg14 c1_i32_395
  let v336 : BitVec 32 := Scalar.extui v335
  let c0_i32_396 : BitVec 32 := 0#32
  let v337 : BitVec 1 := Scalar.cmpi .ne v336 c0_i32_396
  v337

def k0_off55 (k0_t2 : Fin k0_t2_loop.trips) : Fin 2 → Nat :=
  let c0_i32_494 : BitVec 32 := 0#32
  let c0_i32_185 : BitVec 32 := 0#32
  let c1_i32_187 : BitVec 32 := 1#32
  let arg14 : BitVec 32 := Scf.iv c0_i32_185 c1_i32_187 k0_t2
  let c2_i32_489 : BitVec 32 := 2#32
  let v448 : BitVec 32 := Scalar.addi arg14 c2_i32_489
  let c3_i32_490 : BitVec 32 := 3#32
  let v449 : BitVec 32 := Scalar.remsi v448 c3_i32_490
  ![0, v449.toNat]
def k0_off56 (k0_t2 : Fin k0_t2_loop.trips) : Fin 4 → Nat :=
  let c0_i32_493 : BitVec 32 := 0#32
  let c0_i32_185 : BitVec 32 := 0#32
  let c1_i32_187 : BitVec 32 := 1#32
  let arg14 : BitVec 32 := Scf.iv c0_i32_185 c1_i32_187 k0_t2
  let c2_i32_489 : BitVec 32 := 2#32
  let v448 : BitVec 32 := Scalar.addi arg14 c2_i32_489
  let c3_i32_490 : BitVec 32 := 3#32
  let v449 : BitVec 32 := Scalar.remsi v448 c3_i32_490
  let c0_i32_497 : BitVec 32 := 0#32
  let c0_i32_498 : BitVec 32 := 0#32
  ![0, v449.toNat, 0, 0]
def k0_off57 (k0_t2 : Fin k0_t2_loop.trips) : Fin 4 → Nat :=
  let c0_i32_492 : BitVec 32 := 0#32
  let c0_i32_185 : BitVec 32 := 0#32
  let c1_i32_187 : BitVec 32 := 1#32
  let arg14 : BitVec 32 := Scf.iv c0_i32_185 c1_i32_187 k0_t2
  let c3_i32_491 : BitVec 32 := 3#32
  let v450 : BitVec 32 := Scalar.remsi arg14 c3_i32_491
  let c0_i32_499 : BitVec 32 := 0#32
  let c0_i32_500 : BitVec 32 := 0#32
  ![0, v450.toNat, 0, 0]
def k0_cond13 (k0_t2 : Fin k0_t2_loop.trips) : BitVec 1 :=
  let c0_i32_185 : BitVec 32 := 0#32
  let c1_i32_187 : BitVec 32 := 1#32
  let arg14 : BitVec 32 := Scf.iv c0_i32_185 c1_i32_187 k0_t2
  let c1_i32_397 : BitVec 32 := 1#32
  let v338 : BitVec 1 := Scalar.cmpi .sge arg14 c1_i32_397
  let c29_i32 : BitVec 32 := 29#32
  let v339 : BitVec 1 := Scalar.cmpi .sle arg14 c29_i32
  let v340 : BitVec 1 := Scalar.andi v338 v339
  let v341 : BitVec 32 := Scalar.extui v340
  let c0_i32_398 : BitVec 32 := 0#32
  let v342 : BitVec 1 := Scalar.cmpi .ne v341 c0_i32_398
  v342

def k0_dev15 (d0 : Dev nD) : Nat :=
  let c0_i32_492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_491 : BitVec 32 := 1#32
  let v450 : BitVec 32 := Scalar.muli v5 c1_i32_491
  let v451 : BitVec 32 := Scalar.addi c0_i32_492 v450
  v451.toNat
def k0_cond14 (k0_t2 : Fin k0_t2_loop.trips) : BitVec 1 :=
  let c0_i32_185 : BitVec 32 := 0#32
  let c1_i32_187 : BitVec 32 := 1#32
  let arg14 : BitVec 32 := Scf.iv c0_i32_185 c1_i32_187 k0_t2
  let c2_i32_409 : BitVec 32 := 2#32
  let v351 : BitVec 1 := Scalar.cmpi .sge arg14 c2_i32_409
  let c0_i32_410 : BitVec 32 := 0#32
  let v352 : BitVec 1 := Scalar.cmpi .eq arg14 c0_i32_410
  let v353 : BitVec 1 := Scalar.ori v351 v352
  let v354 : BitVec 32 := Scalar.extui v353
  let c0_i32_411 : BitVec 32 := 0#32
  let v355 : BitVec 1 := Scalar.cmpi .ne v354 c0_i32_411
  v355

def k0_off58 (k0_t2 : Fin k0_t2_loop.trips) : Fin 2 → Nat :=
  let c1_i32_491 : BitVec 32 := 1#32
  let c0_i32_185 : BitVec 32 := 0#32
  let c1_i32_187 : BitVec 32 := 1#32
  let arg14 : BitVec 32 := Scf.iv c0_i32_185 c1_i32_187 k0_t2
  let c2_i32_324 : BitVec 32 := 2#32
  let v259 : BitVec 32 := Scalar.remsi arg14 c2_i32_324
  ![1, v259.toNat]
def k0_off59 (k0_t2 : Fin k0_t2_loop.trips) : Fin 4 → Nat :=
  let c1_i32_490 : BitVec 32 := 1#32
  let c0_i32_185 : BitVec 32 := 0#32
  let c1_i32_187 : BitVec 32 := 1#32
  let arg14 : BitVec 32 := Scf.iv c0_i32_185 c1_i32_187 k0_t2
  let c2_i32_324 : BitVec 32 := 2#32
  let v259 : BitVec 32 := Scalar.remsi arg14 c2_i32_324
  let c0_i32_492 : BitVec 32 := 0#32
  let c0_i32_493 : BitVec 32 := 0#32
  ![1, v259.toNat, 0, 0]
def k0_off60 (k0_t2 : Fin k0_t2_loop.trips) : Fin 4 → Nat :=
  let c1_412 : Index := 1#32
  let c0_i32_185 : BitVec 32 := 0#32
  let c1_i32_187 : BitVec 32 := 1#32
  let arg14 : BitVec 32 := Scf.iv c0_i32_185 c1_i32_187 k0_t2
  let c1_i32_322 : BitVec 32 := 1#32
  let v257 : BitVec 32 := Scalar.addi arg14 c1_i32_322
  let c3_i32_323 : BitVec 32 := 3#32
  let v258 : BitVec 32 := Scalar.remsi v257 c3_i32_323
  let v356 : Index := Scalar.indexCast v258
  let c0_413 : Index := 0#32
  let c0_414 : Index := 0#32
  ![1, v356.toNat, 0, 0]
def k0_off61 (k0_t2 : Fin k0_t2_loop.trips) : Fin 4 → Nat :=
  let c1_415 : Index := 1#32
  let c0_i32_185 : BitVec 32 := 0#32
  let c1_i32_187 : BitVec 32 := 1#32
  let arg14 : BitVec 32 := Scf.iv c0_i32_185 c1_i32_187 k0_t2
  let c2_i32_324 : BitVec 32 := 2#32
  let v259 : BitVec 32 := Scalar.remsi arg14 c2_i32_324
  let v360 : Index := Scalar.indexCast v259
  let c0_416 : Index := 0#32
  let c0_417 : Index := 0#32
  ![1, v360.toNat, 0, 0]
def k0_off62 (k0_t2 : Fin k0_t2_loop.trips) : Fin 2 → Nat :=
  let c1_i32_420 : BitVec 32 := 1#32
  let c0_i32_185 : BitVec 32 := 0#32
  let c1_i32_187 : BitVec 32 := 1#32
  let arg14 : BitVec 32 := Scf.iv c0_i32_185 c1_i32_187 k0_t2
  let c2_i32_324 : BitVec 32 := 2#32
  let v259 : BitVec 32 := Scalar.remsi arg14 c2_i32_324
  ![1, v259.toNat]
def k0_off63 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_185 : BitVec 32 := 0#32
  let c1_i32_187 : BitVec 32 := 1#32
  let arg14 : BitVec 32 := Scf.iv c0_i32_185 c1_i32_187 k0_t2
  let v303 : BitVec 32 := Scalar.subi v2 arg14
  let c32_i32_367 : BitVec 32 := 32#32
  let v304 : BitVec 32 := Scalar.addi v303 c32_i32_367
  let c32_i32_368 : BitVec 32 := 32#32
  let v305 : BitVec 32 := Scalar.remsi v304 c32_i32_368
  let c256_i32_418 : BitVec 32 := 256#32
  let v364 : BitVec 32 := Scalar.muli v305 c256_i32_418
  let c1024_i32_421 : BitVec 32 := 1024#32
  ![v364.toNat, 1024]
def k0_off64 (k0_t2 : Fin k0_t2_loop.trips) : Fin 4 → Nat :=
  let c1_i32_419 : BitVec 32 := 1#32
  let c0_i32_185 : BitVec 32 := 0#32
  let c1_i32_187 : BitVec 32 := 1#32
  let arg14 : BitVec 32 := Scf.iv c0_i32_185 c1_i32_187 k0_t2
  let c2_i32_324 : BitVec 32 := 2#32
  let v259 : BitVec 32 := Scalar.remsi arg14 c2_i32_324
  let c0_i32_422 : BitVec 32 := 0#32
  let c0_i32_423 : BitVec 32 := 0#32
  ![1, v259.toNat, 0, 0]
def k0_cond15 (k0_t2 : Fin k0_t2_loop.trips) : BitVec 1 :=
  let c0_i32_185 : BitVec 32 := 0#32
  let c1_i32_187 : BitVec 32 := 1#32
  let arg14 : BitVec 32 := Scf.iv c0_i32_185 c1_i32_187 k0_t2
  let c1_i32_424 : BitVec 32 := 1#32
  let v370 : BitVec 1 := Scalar.cmpi .sge arg14 c1_i32_424
  let v371 : BitVec 32 := Scalar.extui v370
  let c0_i32_425 : BitVec 32 := 0#32
  let v372 : BitVec 1 := Scalar.cmpi .ne v371 c0_i32_425
  v372

def k0_off65 (k0_t2 : Fin k0_t2_loop.trips) : Fin 2 → Nat :=
  let c1_i32_494 : BitVec 32 := 1#32
  let c0_i32_185 : BitVec 32 := 0#32
  let c1_i32_187 : BitVec 32 := 1#32
  let arg14 : BitVec 32 := Scf.iv c0_i32_185 c1_i32_187 k0_t2
  let c2_i32_489 : BitVec 32 := 2#32
  let v448 : BitVec 32 := Scalar.addi arg14 c2_i32_489
  let c3_i32_490 : BitVec 32 := 3#32
  let v449 : BitVec 32 := Scalar.remsi v448 c3_i32_490
  ![1, v449.toNat]
def k0_off66 (k0_t2 : Fin k0_t2_loop.trips) : Fin 4 → Nat :=
  let c1_i32_493 : BitVec 32 := 1#32
  let c0_i32_185 : BitVec 32 := 0#32
  let c1_i32_187 : BitVec 32 := 1#32
  let arg14 : BitVec 32 := Scf.iv c0_i32_185 c1_i32_187 k0_t2
  let c2_i32_489 : BitVec 32 := 2#32
  let v448 : BitVec 32 := Scalar.addi arg14 c2_i32_489
  let c3_i32_490 : BitVec 32 := 3#32
  let v449 : BitVec 32 := Scalar.remsi v448 c3_i32_490
  let c0_i32_497 : BitVec 32 := 0#32
  let c0_i32_498 : BitVec 32 := 0#32
  ![1, v449.toNat, 0, 0]
def k0_off67 (k0_t2 : Fin k0_t2_loop.trips) : Fin 4 → Nat :=
  let c1_i32_492 : BitVec 32 := 1#32
  let c0_i32_185 : BitVec 32 := 0#32
  let c1_i32_187 : BitVec 32 := 1#32
  let arg14 : BitVec 32 := Scf.iv c0_i32_185 c1_i32_187 k0_t2
  let c3_i32_491 : BitVec 32 := 3#32
  let v450 : BitVec 32 := Scalar.remsi arg14 c3_i32_491
  let c0_i32_499 : BitVec 32 := 0#32
  let c0_i32_500 : BitVec 32 := 0#32
  ![1, v450.toNat, 0, 0]
def k0_cond16 (k0_t2 : Fin k0_t2_loop.trips) : BitVec 1 :=
  let c0_i32_185 : BitVec 32 := 0#32
  let c1_i32_187 : BitVec 32 := 1#32
  let arg14 : BitVec 32 := Scf.iv c0_i32_185 c1_i32_187 k0_t2
  let c1_i32_426 : BitVec 32 := 1#32
  let v373 : BitVec 1 := Scalar.cmpi .sge arg14 c1_i32_426
  let c29_i32_427 : BitVec 32 := 29#32
  let v374 : BitVec 1 := Scalar.cmpi .sle arg14 c29_i32_427
  let v375 : BitVec 1 := Scalar.andi v373 v374
  let v376 : BitVec 32 := Scalar.extui v375
  let c0_i32_428 : BitVec 32 := 0#32
  let v377 : BitVec 1 := Scalar.cmpi .ne v376 c0_i32_428
  v377

def k0_dev16 (d0 : Dev nD) : Nat :=
  let c0_i32_492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_491 : BitVec 32 := 1#32
  let v450 : BitVec 32 := Scalar.muli v5 c1_i32_491
  let v451 : BitVec 32 := Scalar.addi c0_i32_492 v450
  v451.toNat
def k0_cond17 (k0_t2 : Fin k0_t2_loop.trips) : BitVec 1 :=
  let c0_i32_185 : BitVec 32 := 0#32
  let c1_i32_187 : BitVec 32 := 1#32
  let arg14 : BitVec 32 := Scf.iv c0_i32_185 c1_i32_187 k0_t2
  let c2_i32_439 : BitVec 32 := 2#32
  let v386 : BitVec 1 := Scalar.cmpi .sge arg14 c2_i32_439
  let c0_i32_440 : BitVec 32 := 0#32
  let v387 : BitVec 1 := Scalar.cmpi .eq arg14 c0_i32_440
  let v388 : BitVec 1 := Scalar.ori v386 v387
  let v389 : BitVec 32 := Scalar.extui v388
  let c0_i32_441 : BitVec 32 := 0#32
  let v390 : BitVec 1 := Scalar.cmpi .ne v389 c0_i32_441
  v390

def k0_off68 (k0_t2 : Fin k0_t2_loop.trips) : Fin 2 → Nat :=
  let c2_i32_491 : BitVec 32 := 2#32
  let c0_i32_185 : BitVec 32 := 0#32
  let c1_i32_187 : BitVec 32 := 1#32
  let arg14 : BitVec 32 := Scf.iv c0_i32_185 c1_i32_187 k0_t2
  let c2_i32_324 : BitVec 32 := 2#32
  let v259 : BitVec 32 := Scalar.remsi arg14 c2_i32_324
  ![2, v259.toNat]
def k0_off69 (k0_t2 : Fin k0_t2_loop.trips) : Fin 4 → Nat :=
  let c2_i32_490 : BitVec 32 := 2#32
  let c0_i32_185 : BitVec 32 := 0#32
  let c1_i32_187 : BitVec 32 := 1#32
  let arg14 : BitVec 32 := Scf.iv c0_i32_185 c1_i32_187 k0_t2
  let c2_i32_324 : BitVec 32 := 2#32
  let v259 : BitVec 32 := Scalar.remsi arg14 c2_i32_324
  let c0_i32_492 : BitVec 32 := 0#32
  let c0_i32_493 : BitVec 32 := 0#32
  ![2, v259.toNat, 0, 0]
def k0_off70 (k0_t2 : Fin k0_t2_loop.trips) : Fin 4 → Nat :=
  let c2_442 : Index := 2#32
  let c0_i32_185 : BitVec 32 := 0#32
  let c1_i32_187 : BitVec 32 := 1#32
  let arg14 : BitVec 32 := Scf.iv c0_i32_185 c1_i32_187 k0_t2
  let c1_i32_322 : BitVec 32 := 1#32
  let v257 : BitVec 32 := Scalar.addi arg14 c1_i32_322
  let c3_i32_323 : BitVec 32 := 3#32
  let v258 : BitVec 32 := Scalar.remsi v257 c3_i32_323
  let v391 : Index := Scalar.indexCast v258
  let c0_443 : Index := 0#32
  let c0_444 : Index := 0#32
  ![2, v391.toNat, 0, 0]
def k0_off71 (k0_t2 : Fin k0_t2_loop.trips) : Fin 4 → Nat :=
  let c2_445 : Index := 2#32
  let c0_i32_185 : BitVec 32 := 0#32
  let c1_i32_187 : BitVec 32 := 1#32
  let arg14 : BitVec 32 := Scf.iv c0_i32_185 c1_i32_187 k0_t2
  let c2_i32_324 : BitVec 32 := 2#32
  let v259 : BitVec 32 := Scalar.remsi arg14 c2_i32_324
  let v395 : Index := Scalar.indexCast v259
  let c0_446 : Index := 0#32
  let c0_447 : Index := 0#32
  ![2, v395.toNat, 0, 0]
def k0_off72 (k0_t2 : Fin k0_t2_loop.trips) : Fin 2 → Nat :=
  let c2_i32_450 : BitVec 32 := 2#32
  let c0_i32_185 : BitVec 32 := 0#32
  let c1_i32_187 : BitVec 32 := 1#32
  let arg14 : BitVec 32 := Scf.iv c0_i32_185 c1_i32_187 k0_t2
  let c2_i32_324 : BitVec 32 := 2#32
  let v259 : BitVec 32 := Scalar.remsi arg14 c2_i32_324
  ![2, v259.toNat]
def k0_off73 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_185 : BitVec 32 := 0#32
  let c1_i32_187 : BitVec 32 := 1#32
  let arg14 : BitVec 32 := Scf.iv c0_i32_185 c1_i32_187 k0_t2
  let v306 : BitVec 32 := Scalar.addi v2 arg14
  let c32_i32_369 : BitVec 32 := 32#32
  let v307 : BitVec 32 := Scalar.remsi v306 c32_i32_369
  let c256_i32_448 : BitVec 32 := 256#32
  let v399 : BitVec 32 := Scalar.muli v307 c256_i32_448
  let c2048_i32_451 : BitVec 32 := 2048#32
  ![v399.toNat, 2048]
def k0_off74 (k0_t2 : Fin k0_t2_loop.trips) : Fin 4 → Nat :=
  let c2_i32_449 : BitVec 32 := 2#32
  let c0_i32_185 : BitVec 32 := 0#32
  let c1_i32_187 : BitVec 32 := 1#32
  let arg14 : BitVec 32 := Scf.iv c0_i32_185 c1_i32_187 k0_t2
  let c2_i32_324 : BitVec 32 := 2#32
  let v259 : BitVec 32 := Scalar.remsi arg14 c2_i32_324
  let c0_i32_452 : BitVec 32 := 0#32
  let c0_i32_453 : BitVec 32 := 0#32
  ![2, v259.toNat, 0, 0]
def k0_cond18 (k0_t2 : Fin k0_t2_loop.trips) : BitVec 1 :=
  let c0_i32_185 : BitVec 32 := 0#32
  let c1_i32_187 : BitVec 32 := 1#32
  let arg14 : BitVec 32 := Scf.iv c0_i32_185 c1_i32_187 k0_t2
  let c1_i32_454 : BitVec 32 := 1#32
  let v405 : BitVec 1 := Scalar.cmpi .sge arg14 c1_i32_454
  let v406 : BitVec 32 := Scalar.extui v405
  let c0_i32_455 : BitVec 32 := 0#32
  let v407 : BitVec 1 := Scalar.cmpi .ne v406 c0_i32_455
  v407

def k0_off75 (k0_t2 : Fin k0_t2_loop.trips) : Fin 2 → Nat :=
  let c2_i32_494 : BitVec 32 := 2#32
  let c0_i32_185 : BitVec 32 := 0#32
  let c1_i32_187 : BitVec 32 := 1#32
  let arg14 : BitVec 32 := Scf.iv c0_i32_185 c1_i32_187 k0_t2
  let c2_i32_489 : BitVec 32 := 2#32
  let v448 : BitVec 32 := Scalar.addi arg14 c2_i32_489
  let c3_i32_490 : BitVec 32 := 3#32
  let v449 : BitVec 32 := Scalar.remsi v448 c3_i32_490
  ![2, v449.toNat]
def k0_off76 (k0_t2 : Fin k0_t2_loop.trips) : Fin 4 → Nat :=
  let c2_i32_493 : BitVec 32 := 2#32
  let c0_i32_185 : BitVec 32 := 0#32
  let c1_i32_187 : BitVec 32 := 1#32
  let arg14 : BitVec 32 := Scf.iv c0_i32_185 c1_i32_187 k0_t2
  let c2_i32_489 : BitVec 32 := 2#32
  let v448 : BitVec 32 := Scalar.addi arg14 c2_i32_489
  let c3_i32_490 : BitVec 32 := 3#32
  let v449 : BitVec 32 := Scalar.remsi v448 c3_i32_490
  let c0_i32_497 : BitVec 32 := 0#32
  let c0_i32_498 : BitVec 32 := 0#32
  ![2, v449.toNat, 0, 0]
def k0_off77 (k0_t2 : Fin k0_t2_loop.trips) : Fin 4 → Nat :=
  let c2_i32_492 : BitVec 32 := 2#32
  let c0_i32_185 : BitVec 32 := 0#32
  let c1_i32_187 : BitVec 32 := 1#32
  let arg14 : BitVec 32 := Scf.iv c0_i32_185 c1_i32_187 k0_t2
  let c3_i32_491 : BitVec 32 := 3#32
  let v450 : BitVec 32 := Scalar.remsi arg14 c3_i32_491
  let c0_i32_499 : BitVec 32 := 0#32
  let c0_i32_500 : BitVec 32 := 0#32
  ![2, v450.toNat, 0, 0]
def k0_cond19 (k0_t2 : Fin k0_t2_loop.trips) : BitVec 1 :=
  let c0_i32_185 : BitVec 32 := 0#32
  let c1_i32_187 : BitVec 32 := 1#32
  let arg14 : BitVec 32 := Scf.iv c0_i32_185 c1_i32_187 k0_t2
  let c1_i32_456 : BitVec 32 := 1#32
  let v408 : BitVec 1 := Scalar.cmpi .sge arg14 c1_i32_456
  let c29_i32_457 : BitVec 32 := 29#32
  let v409 : BitVec 1 := Scalar.cmpi .sle arg14 c29_i32_457
  let v410 : BitVec 1 := Scalar.andi v408 v409
  let v411 : BitVec 32 := Scalar.extui v410
  let c0_i32_458 : BitVec 32 := 0#32
  let v412 : BitVec 1 := Scalar.cmpi .ne v411 c0_i32_458
  v412

def k0_dev17 (d0 : Dev nD) : Nat :=
  let c0_i32_492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_491 : BitVec 32 := 1#32
  let v450 : BitVec 32 := Scalar.muli v7 c1_i32_491
  let v451 : BitVec 32 := Scalar.addi c0_i32_492 v450
  v451.toNat
def k0_cond20 (k0_t2 : Fin k0_t2_loop.trips) : BitVec 1 :=
  let c0_i32_185 : BitVec 32 := 0#32
  let c1_i32_187 : BitVec 32 := 1#32
  let arg14 : BitVec 32 := Scf.iv c0_i32_185 c1_i32_187 k0_t2
  let c2_i32_469 : BitVec 32 := 2#32
  let v421 : BitVec 1 := Scalar.cmpi .sge arg14 c2_i32_469
  let c0_i32_470 : BitVec 32 := 0#32
  let v422 : BitVec 1 := Scalar.cmpi .eq arg14 c0_i32_470
  let v423 : BitVec 1 := Scalar.ori v421 v422
  let v424 : BitVec 32 := Scalar.extui v423
  let c0_i32_471 : BitVec 32 := 0#32
  let v425 : BitVec 1 := Scalar.cmpi .ne v424 c0_i32_471
  v425

def k0_off78 (k0_t2 : Fin k0_t2_loop.trips) : Fin 2 → Nat :=
  let c3_i32_491 : BitVec 32 := 3#32
  let c0_i32_185 : BitVec 32 := 0#32
  let c1_i32_187 : BitVec 32 := 1#32
  let arg14 : BitVec 32 := Scf.iv c0_i32_185 c1_i32_187 k0_t2
  let c2_i32_324 : BitVec 32 := 2#32
  let v259 : BitVec 32 := Scalar.remsi arg14 c2_i32_324
  ![3, v259.toNat]
def k0_off79 (k0_t2 : Fin k0_t2_loop.trips) : Fin 4 → Nat :=
  let c3_i32_490 : BitVec 32 := 3#32
  let c0_i32_185 : BitVec 32 := 0#32
  let c1_i32_187 : BitVec 32 := 1#32
  let arg14 : BitVec 32 := Scf.iv c0_i32_185 c1_i32_187 k0_t2
  let c2_i32_324 : BitVec 32 := 2#32
  let v259 : BitVec 32 := Scalar.remsi arg14 c2_i32_324
  let c0_i32_492 : BitVec 32 := 0#32
  let c0_i32_493 : BitVec 32 := 0#32
  ![3, v259.toNat, 0, 0]
def k0_off80 (k0_t2 : Fin k0_t2_loop.trips) : Fin 4 → Nat :=
  let c3_472 : Index := 3#32
  let c0_i32_185 : BitVec 32 := 0#32
  let c1_i32_187 : BitVec 32 := 1#32
  let arg14 : BitVec 32 := Scf.iv c0_i32_185 c1_i32_187 k0_t2
  let c1_i32_322 : BitVec 32 := 1#32
  let v257 : BitVec 32 := Scalar.addi arg14 c1_i32_322
  let c3_i32_323 : BitVec 32 := 3#32
  let v258 : BitVec 32 := Scalar.remsi v257 c3_i32_323
  let v426 : Index := Scalar.indexCast v258
  let c0_473 : Index := 0#32
  let c0_474 : Index := 0#32
  ![3, v426.toNat, 0, 0]
def k0_off81 (k0_t2 : Fin k0_t2_loop.trips) : Fin 4 → Nat :=
  let c3_475 : Index := 3#32
  let c0_i32_185 : BitVec 32 := 0#32
  let c1_i32_187 : BitVec 32 := 1#32
  let arg14 : BitVec 32 := Scf.iv c0_i32_185 c1_i32_187 k0_t2
  let c2_i32_324 : BitVec 32 := 2#32
  let v259 : BitVec 32 := Scalar.remsi arg14 c2_i32_324
  let v430 : Index := Scalar.indexCast v259
  let c0_476 : Index := 0#32
  let c0_477 : Index := 0#32
  ![3, v430.toNat, 0, 0]
def k0_off82 (k0_t2 : Fin k0_t2_loop.trips) : Fin 2 → Nat :=
  let c3_i32_480 : BitVec 32 := 3#32
  let c0_i32_185 : BitVec 32 := 0#32
  let c1_i32_187 : BitVec 32 := 1#32
  let arg14 : BitVec 32 := Scf.iv c0_i32_185 c1_i32_187 k0_t2
  let c2_i32_324 : BitVec 32 := 2#32
  let v259 : BitVec 32 := Scalar.remsi arg14 c2_i32_324
  ![3, v259.toNat]
def k0_off83 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_185 : BitVec 32 := 0#32
  let c1_i32_187 : BitVec 32 := 1#32
  let arg14 : BitVec 32 := Scf.iv c0_i32_185 c1_i32_187 k0_t2
  let v306 : BitVec 32 := Scalar.addi v2 arg14
  let c32_i32_369 : BitVec 32 := 32#32
  let v307 : BitVec 32 := Scalar.remsi v306 c32_i32_369
  let c256_i32_478 : BitVec 32 := 256#32
  let v434 : BitVec 32 := Scalar.muli v307 c256_i32_478
  let c3072_i32_481 : BitVec 32 := 3072#32
  ![v434.toNat, 3072]
def k0_off84 (k0_t2 : Fin k0_t2_loop.trips) : Fin 4 → Nat :=
  let c3_i32_479 : BitVec 32 := 3#32
  let c0_i32_185 : BitVec 32 := 0#32
  let c1_i32_187 : BitVec 32 := 1#32
  let arg14 : BitVec 32 := Scf.iv c0_i32_185 c1_i32_187 k0_t2
  let c2_i32_324 : BitVec 32 := 2#32
  let v259 : BitVec 32 := Scalar.remsi arg14 c2_i32_324
  let c0_i32_482 : BitVec 32 := 0#32
  let c0_i32_483 : BitVec 32 := 0#32
  ![3, v259.toNat, 0, 0]
def k0_cond21 (k0_t2 : Fin k0_t2_loop.trips) : BitVec 1 :=
  let c0_i32_185 : BitVec 32 := 0#32
  let c1_i32_187 : BitVec 32 := 1#32
  let arg14 : BitVec 32 := Scf.iv c0_i32_185 c1_i32_187 k0_t2
  let c1_i32_484 : BitVec 32 := 1#32
  let v440 : BitVec 1 := Scalar.cmpi .sge arg14 c1_i32_484
  let v441 : BitVec 32 := Scalar.extui v440
  let c0_i32_485 : BitVec 32 := 0#32
  let v442 : BitVec 1 := Scalar.cmpi .ne v441 c0_i32_485
  v442

def k0_off85 (k0_t2 : Fin k0_t2_loop.trips) : Fin 2 → Nat :=
  let c3_i32_494 : BitVec 32 := 3#32
  let c0_i32_185 : BitVec 32 := 0#32
  let c1_i32_187 : BitVec 32 := 1#32
  let arg14 : BitVec 32 := Scf.iv c0_i32_185 c1_i32_187 k0_t2
  let c2_i32_489 : BitVec 32 := 2#32
  let v448 : BitVec 32 := Scalar.addi arg14 c2_i32_489
  let c3_i32_490 : BitVec 32 := 3#32
  let v449 : BitVec 32 := Scalar.remsi v448 c3_i32_490
  ![3, v449.toNat]
def k0_off86 (k0_t2 : Fin k0_t2_loop.trips) : Fin 4 → Nat :=
  let c3_i32_493 : BitVec 32 := 3#32
  let c0_i32_185 : BitVec 32 := 0#32
  let c1_i32_187 : BitVec 32 := 1#32
  let arg14 : BitVec 32 := Scf.iv c0_i32_185 c1_i32_187 k0_t2
  let c2_i32_489 : BitVec 32 := 2#32
  let v448 : BitVec 32 := Scalar.addi arg14 c2_i32_489
  let c3_i32_490 : BitVec 32 := 3#32
  let v449 : BitVec 32 := Scalar.remsi v448 c3_i32_490
  let c0_i32_497 : BitVec 32 := 0#32
  let c0_i32_498 : BitVec 32 := 0#32
  ![3, v449.toNat, 0, 0]
def k0_off87 (k0_t2 : Fin k0_t2_loop.trips) : Fin 4 → Nat :=
  let c3_i32_492 : BitVec 32 := 3#32
  let c0_i32_185 : BitVec 32 := 0#32
  let c1_i32_187 : BitVec 32 := 1#32
  let arg14 : BitVec 32 := Scf.iv c0_i32_185 c1_i32_187 k0_t2
  let c3_i32_491 : BitVec 32 := 3#32
  let v450 : BitVec 32 := Scalar.remsi arg14 c3_i32_491
  let c0_i32_499 : BitVec 32 := 0#32
  let c0_i32_500 : BitVec 32 := 0#32
  ![3, v450.toNat, 0, 0]
def k0_cond22 (k0_t2 : Fin k0_t2_loop.trips) : BitVec 1 :=
  let c0_i32_185 : BitVec 32 := 0#32
  let c1_i32_187 : BitVec 32 := 1#32
  let arg14 : BitVec 32 := Scf.iv c0_i32_185 c1_i32_187 k0_t2
  let c1_i32_486 : BitVec 32 := 1#32
  let v443 : BitVec 1 := Scalar.cmpi .sge arg14 c1_i32_486
  let c29_i32_487 : BitVec 32 := 29#32
  let v444 : BitVec 1 := Scalar.cmpi .sle arg14 c29_i32_487
  let v445 : BitVec 1 := Scalar.andi v443 v444
  let v446 : BitVec 32 := Scalar.extui v445
  let c0_i32_488 : BitVec 32 := 0#32
  let v447 : BitVec 1 := Scalar.cmpi .ne v446 c0_i32_488
  v447

def k0_dev18 (d0 : Dev nD) : Nat :=
  let c0_i32_492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_491 : BitVec 32 := 1#32
  let v450 : BitVec 32 := Scalar.muli v7 c1_i32_491
  let v451 : BitVec 32 := Scalar.addi c0_i32_492 v450
  v451.toNat
abbrev stage0_0 : Fin 1 → Memref sig .tc .vmem S8192x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x4096, .f32⟩
  | .hbm, ⟨3, _⟩ => ⟨S8192x4096, .bf16⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== ReferenceClipIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x4096, .f32⟩
  | .hbm, ⟨3, _⟩ => ⟨S8192x4096, .bf16⟩
  | .hbm, ⟨4, _⟩ => ⟨S8192x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Proof.KernelIdealCommon.lean ====
/-
  The all-reduce over 32 devices: what every part of its proof shares.

  A device works in four lanes of 1024 columns. Lanes 0 and 1 send to the device on the right, lanes 2 and 3 to the
  device on the left. A lane first passes partial sums 31 times round the ring (reduce-scatter), applies
  `y * (1 / (1 + exp (-y)))` to the row block it ends up with, and then passes that block 31 times round (all-gather),
  copying each block it sees into the result.

  This module has the resource algebra, the semaphores of one device as cells of the rounds library, the values the
  buffers hold at each step, and the schedule: which transfer or signal pays which cell in which round, and what the
  owner of the cell gets for it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.Rounds
public import Idealize.ShloMosaic.Lib.Tactic

@[expose] public section

noncomputable section

namespace Cert.KernelIdealProof

open Cert.KernelIdeal Cert.KernelIdeal.Gen Idealize.ShloMosaic TcCoe Rounds Release Idealize.SL RA BI BI.BIBase BI.Laws ProofMode Idealize.SL.Sem
open scoped Idealize.SL.BI
open Pipeline (Dat Cfg Window BodyObligation cellOf)

variable {F : FTy → Type} [FloatOps F]

/-! ## The resource algebra -/

/-- A landing slot of the reduce-scatter: device, lane, parity. -/
abbrev RK : Type := Dev nD × Fin 4 × Fin 2
abbrev UC : Type := URounds (GSem nD τ sig) ℕ
abbrev UU : Type := UR sig nD τ × (UC × USlots RK)

local notation "𝕄" => MT nD τ sig ℕ (Elt F) ℕ UU ℕ

abbrev EP : Emb (UR sig nD τ) (MT nD τ sig ℕ (Elt F) ℕ UU ℕ) := embL
def ER : Emb UC (MT nD τ sig ℕ (Elt F) ℕ UU ℕ) := (Emb.inl : Emb UC (UC × USlots RK)).trans embR
def EL : Emb (USlots RK) (MT nD τ sig ℕ (Elt F) ℕ UU ℕ) := (Emb.inr : Emb (USlots RK) (UC × USlots RK)).trans embR

instance ER_landsIn : (ER : Emb UC 𝕄).LandsIn (upEmb : UEmb _ 𝕄) := by unfold ER; infer_instance
instance EL_landsIn : (EL : Emb (USlots RK) 𝕄).LandsIn (upEmb : UEmb _ 𝕄) := by unfold EL; infer_instance

/-! ## The ring -/

set_option backward.proofsInPublic true in
/-- The device to the right (`true`) or to the left (`false`). -/
def mv (b : Bool) (c : Dev nD) : Dev nD := ⟨(if b then c.val + 1 else c.val + 31) % 32, Nat.mod_lt _ (by decide)⟩

theorem mv_mv (b : Bool) (c : Dev nD) : mv b (mv (!b) c) = c := by revert b c; decide
theorem mv_mv' (b : Bool) (c : Dev nD) : mv (!b) (mv b c) = c := by revert b c; decide

/-- Lanes 0 and 1 go right. -/
def rgt (l : Fin 4) : Bool := decide (l.val < 2)
/-- The device lane `l` of `c` sends to, and the one it receives from. -/
def dst (l : Fin 4) (c : Dev nD) : Dev nD := mv (rgt l) c
def src (l : Fin 4) (c : Dev nD) : Dev nD := mv (!(rgt l)) c
theorem dst_src (l : Fin 4) (c : Dev nD) : dst l (src l c) = c := mv_mv _ c
theorem src_dst (l : Fin 4) (c : Dev nD) : src l (dst l c) = c := mv_mv' _ c

/-- Step `s` uses slot `s % 2` of two, `s % 3` of three. -/
def m2 (s : ℕ) : Fin 2 := ⟨s % 2, Nat.mod_lt _ (by decide)⟩
def m3 (s : ℕ) : Fin 3 := ⟨s % 3, Nat.mod_lt _ (by decide)⟩

/-! ## Rectangles and slots -/

theorem inb42 (l : Fin 4) (b : Fin 2) : ∀ a : Fin S4x2.rank, (![l.val, b.val] : Fin 2 → ℕ) a + S1x1.size a ≤ S4x2.size a := by
  revert l b; decide
theorem inb43 (l : Fin 4) (b : Fin 3) : ∀ a : Fin S4x3.rank, (![l.val, b.val] : Fin 2 → ℕ) a + S1x1.size a ≤ S4x3.size a := by
  revert l b; decide
theorem inb4 (l : Fin 4) : ∀ a : Fin S4.rank, (![l.val] : Fin 1 → ℕ) a + S1.size a ≤ S4.size a := by
  revert l; decide
theorem inb2 (l : Fin 4) (b : Fin 2) : ∀ a : Fin S4x2x256x1024.rank, (![l.val, b.val, 0, 0] : Fin 4 → ℕ) a + S1x1x256x1024.size a ≤ S4x2x256x1024.size a := by
  revert l b; decide
theorem inb3 (l : Fin 4) (b : Fin 3) : ∀ a : Fin S4x3x256x1024.rank, (![l.val, b.val, 0, 0] : Fin 4 → ℕ) a + S1x1x256x1024.size a ≤ S4x3x256x1024.size a := by
  revert l b; decide

/-- Slot `b` of lane `l` of a two-slot buffer, of a three-slot buffer. -/
abbrev r2 (l : Fin 4) (b : Fin 2) : Rect S4x2x256x1024 := Rect.unit (s := S4x2x256x1024) ![l.val, b.val, 0, 0] S1x1x256x1024.size (inb2 l b)
abbrev r3 (l : Fin 4) (b : Fin 3) : Rect S4x3x256x1024 := Rect.unit (s := S4x3x256x1024) ![l.val, b.val, 0, 0] S1x1x256x1024.size (inb3 l b)

theorem inbx (k : ℕ) : ∀ a : Fin S8192x256.rank, (![256 * (k % 32), 0] : Fin 2 → ℕ) a + S256x256.size a ≤ S8192x256.size a := fun a => by
  have := Nat.mod_lt k (show 0 < 32 by decide)
  match a with
  | ⟨0, _⟩ => show 256 * (k % 32) + 256 ≤ 8192; omega
  | ⟨1, _⟩ => show 0 + 256 ≤ 256; omega
theorem inbw (l : Fin 4) : ∀ a : Fin S256x4096.rank, (![0, 1024 * l.val] : Fin 2 → ℕ) a + S256x1024.size a ≤ S256x4096.size a := by
  revert l; decide
theorem inbo (k : ℕ) (l : Fin 4) : ∀ a : Fin S8192x4096.rank, (![256 * (k % 32), 1024 * l.val] : Fin 2 → ℕ) a + S256x1024.size a ≤ S8192x4096.size a := fun a => by
  have := Nat.mod_lt k (show 0 < 32 by decide)
  have := l.isLt
  match a with
  | ⟨0, _⟩ => show 256 * (k % 32) + 256 ≤ 8192; omega
  | ⟨1, _⟩ => show 1024 * l.val + 1024 ≤ 4096; omega

/-- Row block `k` of the `x` block, column block `l` of the `w` block, the tile of the result at both. -/
abbrev rx (k : ℕ) : Rect S8192x256 := Rect.unit (s := S8192x256) ![256 * (k % 32), 0] S256x256.size (inbx k)
abbrev rw_ (l : Fin 4) : Rect S256x4096 := Rect.unit (s := S256x4096) ![0, 1024 * l.val] S256x1024.size (inbw l)
abbrev ro (k : ℕ) (l : Fin 4) : Rect S8192x4096 := Rect.unit (s := S8192x4096) ![256 * (k % 32), 1024 * l.val] S256x1024.size (inbo k l)

/-! ## The memrefs -/

abbrev xM : Memref sig .tc .vmem S8192x256 .bf16 := Memref.whole cc0_stg0_0
abbrev wM : Memref sig .tc .vmem S256x4096 .bf16 := Memref.whole cc0_stg1_0
abbrev oM : Memref sig .tc .hbm S8192x4096 .f32 := Memref.whole main_v1
abbrev accB : Memref sig .tc .vmem S4x2x256x1024 .bf16 := Memref.whole cc0_scratch0
abbrev rcvB : Memref sig .tc .vmem S4x2x256x1024 .bf16 := Memref.whole cc0_scratch1
abbrev agB : Memref sig .tc .vmem S4x3x256x1024 .bf16 := Memref.whole cc0_scratch2
abbrev stB : Memref sig .tc .vmem S4x2x256x1024 .f32 := Memref.whole cc0_scratch3

/-- A slot of a buffer as the transfers see it. -/
abbrev sl2 {e : EltTy} (M : Memref sig .tc .vmem S4x2x256x1024 e) (l : Fin 4) (b : Fin 2) : Memref sig .tc .vmem S256x1024 e :=
  (M.slice (r2 l b) (fun _ => rfl)).squeeze S256x1024 squeezes_S1x1x256x1024_S256x1024
abbrev sl3 {e : EltTy} (M : Memref sig .tc .vmem S4x3x256x1024 e) (l : Fin 4) (b : Fin 3) : Memref sig .tc .vmem S256x1024 e :=
  (M.slice (r3 l b) (fun _ => rfl)).squeeze S256x1024 squeezes_S1x1x256x1024_S256x1024
/-- The same at a slot's offsets, in whatever form they are given. -/
abbrev d2 {e : EltTy} (M : Memref sig .tc .vmem S4x2x256x1024 e) (o : Fin 4 → ℕ) (i : ∀ a : Fin S4x2x256x1024.rank, o a + S1x1x256x1024.size a ≤ S4x2x256x1024.size a) :
    Memref sig .tc .vmem S256x1024 e := (M.slice (Rect.unit (s := S4x2x256x1024) o S1x1x256x1024.size i) (fun _ => rfl)).squeeze S256x1024 squeezes_S1x1x256x1024_S256x1024
abbrev d3 {e : EltTy} (M : Memref sig .tc .vmem S4x3x256x1024 e) (o : Fin 4 → ℕ) (i : ∀ a : Fin S4x3x256x1024.rank, o a + S1x1x256x1024.size a ≤ S4x3x256x1024.size a) :
    Memref sig .tc .vmem S256x1024 e := (M.slice (Rect.unit (s := S4x3x256x1024) o S1x1x256x1024.size i) (fun _ => rfl)).squeeze S256x1024 squeezes_S1x1x256x1024_S256x1024
/-- A tile of the result. -/
abbrev slo (k : ℕ) (l : Fin 4) : Memref sig .tc .hbm S256x1024 .f32 := oM.slice (ro k l) (fun _ => rfl)

/-! ## The semaphores -/

abbrev sem42 (A : DmaSems sig S4x2) (l : Fin 4) (b : Fin 2) : DmaSem sig :=
  ((A.slice (Rect.unit (s := S4x2) ![l.val, b.val] S1x1.size (inb42 l b))).squeeze S_ squeezes_S1x1_S_).sem
abbrev sem43 (A : DmaSems sig S4x3) (l : Fin 4) (b : Fin 3) : DmaSem sig :=
  ((A.slice (Rect.unit (s := S4x3) ![l.val, b.val] S1x1.size (inb43 l b))).squeeze S_ squeezes_S1x1_S_).sem
abbrev sem4 (A : Sems sig S4) (l : Fin 4) : Sem sig :=
  ((A.slice (Rect.unit (s := S4) ![l.val] S1.size (inb4 l))).squeeze S_ squeezes_S1_S_).sem

/-- Reduce-scatter: read-out and landing; all-gather: read-out and landing; copies to the result; the two credits; the
    barrier. -/
abbrev rsS (l : Fin 4) (b : Fin 2) : DmaSem sig := sem42 cc0_scratch4 l b
abbrev rsR (l : Fin 4) (b : Fin 2) : DmaSem sig := sem42 cc0_scratch5 l b
abbrev agS (l : Fin 4) (b : Fin 3) : DmaSem sig := sem43 cc0_scratch6 l b
abbrev agR (l : Fin 4) (b : Fin 3) : DmaSem sig := sem43 cc0_scratch7 l b
abbrev stS (l : Fin 4) (b : Fin 2) : DmaSem sig := sem42 cc0_scratch8 l b
abbrev rcS (l : Fin 4) : Sem sig := sem4 cc0_scratch9 l
abbrev acS (l : Fin 4) : Sem sig := sem4 cc0_scratch10 l
abbrev barS : Sem sig := (SemArray.scalar (sig.barrier 0 rfl) : Sems sig S_).sem

/-- The kernel's semaphores by lane and kind; `none` is the barrier. -/
abbrev CK : Type := Option (Fin 4 × Fin 14)

abbrev kS (b : Fin 2) : Fin 14 := ⟨b.val, by omega⟩
abbrev kR (b : Fin 2) : Fin 14 := ⟨2 + b.val, by omega⟩
abbrev kT (b : Fin 2) : Fin 14 := ⟨4 + b.val, by omega⟩
abbrev kU (b : Fin 3) : Fin 14 := ⟨6 + b.val, by omega⟩
abbrev kV (b : Fin 3) : Fin 14 := ⟨9 + b.val, by omega⟩

def lsem (l : Fin 4) : Fin 14 → SemLoc sig
  | 0 => .dma (rsS l 0) | 1 => .dma (rsS l 1)
  | 2 => .dma (rsR l 0) | 3 => .dma (rsR l 1)
  | 4 => .dma (stS l 0) | 5 => .dma (stS l 1)
  | 6 => .dma (agS l 0) | 7 => .dma (agS l 1) | 8 => .dma (agS l 2)
  | 9 => .dma (agR l 0) | 10 => .dma (agR l 1) | 11 => .dma (agR l 2)
  | 12 => .reg (rcS l) | 13 => .reg (acS l)

def csem : CK → SemLoc sig
  | none => .reg barS
  | some (l, k) => lsem l k

theorem csem_S (l : Fin 4) (b : Fin 2) : csem (some (l, kS b)) = .dma (rsS l b) := by fin_cases b <;> rfl
theorem csem_R (l : Fin 4) (b : Fin 2) : csem (some (l, kR b)) = .dma (rsR l b) := by fin_cases b <;> rfl
theorem csem_T (l : Fin 4) (b : Fin 2) : csem (some (l, kT b)) = .dma (stS l b) := by fin_cases b <;> rfl
theorem csem_U (l : Fin 4) (b : Fin 3) : csem (some (l, kU b)) = .dma (agS l b) := by fin_cases b <;> rfl
theorem csem_V (l : Fin 4) (b : Fin 3) : csem (some (l, kV b)) = .dma (agR l b) := by fin_cases b <;> rfl

/-- The semaphores numbered as the program lays them out. -/
def num : CK → ℕ
  | none => 108
  | some (l, k) =>
    if k.val < 2 then 2 + 2 * l.val + k.val
    else if k.val < 4 then 10 + 2 * l.val + (k.val - 2)
    else if k.val < 6 then 42 + 2 * l.val + (k.val - 4)
    else if k.val < 9 then 18 + 3 * l.val + (k.val - 6)
    else if k.val < 12 then 30 + 3 * l.val + (k.val - 9)
    else if k.val < 13 then 100 + l.val else 104 + l.val

def snum : SemLoc sig → ℕ
  | .dma s => s.val
  | .reg s => 100 + s.val

theorem snum_csem : ∀ k : CK, snum (csem k) = num k := by decide +kernel

theorem num_inj : ∀ k k' : CK, num k = num k' → k = k' := by decide +kernel

theorem csem_inj : Function.Injective csem := fun k k' h => num_inj k k' (by rw [← snum_csem, ← snum_csem, h])

open Classical in
/-- Which of the kernel's semaphores one is. -/
def dec (s : SemLoc sig) : Option CK := if h : ∃ k, csem k = s then some h.choose else none

theorem dec_csem (k : CK) : dec (csem k) = some k := by
  have h : ∃ k', csem k' = csem k := ⟨k, rfl⟩
  unfold dec; rw [dif_pos h]; exact congrArg some (csem_inj h.choose_spec)

/-- Cell `k` of device `c`. -/
abbrev kcell (ck : Dev nD × CK) : GSem nD τ sig := ((ck.1 : Thread nD τ), csem ck.2)

theorem kcell_inj : Function.Injective kcell := fun a b h => by
  have h1 : (a.1 : Thread nD τ) = (b.1 : Thread nD τ) := congrArg Prod.fst h
  have h2 : csem a.2 = csem b.2 := congrArg Prod.snd h
  exact Prod.ext (congrArg (fun t : Thread nD τ => t.1) h1 : a.1 = b.1) (csem_inj h2)

/-- What a transfer of one bf16 block, one f32 block credits. -/
abbrev N : ℕ := (sl2 accB 0 0).view.dmaCredit
abbrev NT : ℕ := (sl2 stB 0 0).view.dmaCredit
theorem N_pos : 0 < N := View.dmaCredit_pos _ (by decide)
theorem NT_pos : 0 < NT := View.dmaCredit_pos _ (by decide)

end Cert.KernelIdealProof
-- ==== Proof.KernelIdealSched.lean ====
/-
  The values the buffers hold at each step, what each transfer and signal hands over, and what a device owes.
-/
module

public import proofs.«01_k».proof.Proof.KernelIdealCommon

@[expose] public section

noncomputable section

namespace Cert.KernelIdealProof

open Cert.KernelIdeal Cert.KernelIdeal.Gen Idealize.ShloMosaic TcCoe Rounds Release Idealize.SL RA BI BI.BIBase BI.Laws ProofMode Idealize.SL.Sem
open scoped Idealize.SL.BI
open Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## Values -/

/-- The blocks of `x` and of `w` on device `c`. -/
def xs (c : Dev nD) : (cc0_stg0_0 : Ref sig .tc).ty.Contents (Elt F) :=
  (win0_0.blk (0 : Fin 1)).view.read (Elt F) (m ((c : Thread nD τ).loc main_arg0))
def ws (c : Dev nD) : (cc0_stg1_0 : Ref sig .tc).ty.Contents (Elt F) :=
  (win0_1.blk (0 : Fin 1)).view.read (Elt F) (m ((c : Thread nD τ).loc main_arg1))

def xrow (c : Dev nD) (k : ℕ) : Vec F S256x256 .bf16 := xM.view.readAt (Elt F) (rx k).toLoadRect (xs m c)
def wcol (c : Dev nD) (l : Fin 4) : Vec F S256x1024 .bf16 := wM.view.readAt (Elt F) (rw_ l).toLoadRect (ws m c)

/-- The first partial sum of a lane: one product. -/
def accInit (l : Fin 4) (x : Vec F S256x256 .bf16) (w : Vec F S256x1024 .bf16) : Vec F S1x1x256x1024 .bf16 :=
  match l with
  | 0 => k0_pay15 x w
  | 1 => k0_pay17 (k0_pay16 x) w
  | 2 => k0_pay18 x w
  | 3 => k0_pay19 x w

/-- The product of a step. -/
def mmV (l : Fin 4) (x : Vec F S256x256 .bf16) (w : Vec F S256x1024 .bf16) : FVec F S256x1024 .f32 :=
  match l with
  | 0 => k0_pay3 (k0_pay1 x) (k0_pay2 w) (constant S256x1024 .f32 0x00000000#32)
  | 1 => k0_pay4 x w
  | 2 => k0_pay5 x w
  | 3 => k0_pay6 x w

/-- The received partial sum and the product added. -/
def accStep (l : Fin 4) (mm : FVec F S256x1024 .f32) (r : Vec F S1x1x256x1024 .bf16) : Vec F S1x1x256x1024 .bf16 :=
  match l with
  | 0 => k0_pay7 mm r
  | 1 => k0_pay9 (k0_pay8 mm r)
  | 2 => k0_pay10 mm r
  | 3 => k0_pay20 mm r

/-- The row block lane `l` of device `c` adds at step `s`. -/
def rsRow (l : Fin 4) (c : Dev nD) (s : ℕ) : ℕ := if rgt l then c.val + 31 - s else c.val + s + 1

/-- Lane `l`'s partial sum on device `c` before step `s`. -/
def accV (l : Fin 4) : ℕ → Dev nD → Vec F S1x1x256x1024 .bf16
  | 0, c => accInit l (xrow m c c.val) (wcol m c l)
  | s + 1, c => accStep l (mmV l (xrow m c (rsRow l c s)) (wcol m c l)) (accV l s (src l c))

def agInit (l : Fin 4) (a : Vec F S1x1x256x1024 .bf16) : Vec F S1x1x256x1024 .bf16 :=
  match l with
  | 0 => k0_pay22 a
  | 1 => k0_pay25 a
  | 2 => k0_pay28 a
  | 3 => k0_pay31 a
def stInit (l : Fin 4) (a : Vec F S1x1x256x1024 .bf16) : Vec F S1x1x256x1024 .f32 :=
  match l with
  | 0 => k0_pay23 (k0_pay21 a)
  | 1 => k0_pay26 a
  | 2 => k0_pay29 a
  | 3 => k0_pay32 a
def stStep (l : Fin 4) (a : Vec F S1x1x256x1024 .bf16) : Vec F S1x1x256x1024 .f32 :=
  match l with
  | 0 => k0_pay11 a
  | 1 => k0_pay12 a
  | 2 => k0_pay13 a
  | 3 => k0_pay33 (k0_pay14 a)

/-- The block lane `l` of device `c` passes on at step `t` of the all-gather. -/
def agV (l : Fin 4) : ℕ → Dev nD → Vec F S1x1x256x1024 .bf16
  | 0, c => agInit l (accV m l 31 c)
  | t + 1, c => agV l t (src l c)

/-- The `k`-th block lane `l` of device `c` copies to the result, and its row block. -/
def outV (l : Fin 4) (c : Dev nD) : ℕ → Vec F S1x1x256x1024 .f32
  | 0 => stInit l (accV m l 31 c)
  | k + 1 => stStep l (agV m l (k + 1) c)
def outRow (l : Fin 4) (c : Dev nD) (k : ℕ) : ℕ := if rgt l then c.val + 33 - k else c.val + 31 + k

/-! ## Regions -/

/-- A slot of a buffer holding `X`. -/
def at2 {e : EltTy} (M : Memref sig .tc .vmem S4x2x256x1024 e) (c : Dev nD) (l : Fin 4) (b : Fin 2) (X : S1x1x256x1024.Idx → Elt F e) : sProp 𝕄 :=
  iprop(∃ f : Buf (Elt F) ((sl2 M l b).view.loc (c : Thread nD τ)), ⌜M.view.readAt (Elt F) (r2 l b).toLoadRect f = X⌝
    ∗ ((sl2 M l b).view.loc (c : Thread nD τ) ↦[(sl2 M l b).view.set]{fullShare} f))
def at3 {e : EltTy} (M : Memref sig .tc .vmem S4x3x256x1024 e) (c : Dev nD) (l : Fin 4) (b : Fin 3) (X : S1x1x256x1024.Idx → Elt F e) : sProp 𝕄 :=
  iprop(∃ f : Buf (Elt F) ((sl3 M l b).view.loc (c : Thread nD τ)), ⌜M.view.readAt (Elt F) (r3 l b).toLoadRect f = X⌝
    ∗ ((sl3 M l b).view.loc (c : Thread nD τ) ↦[(sl3 M l b).view.set]{fullShare} f))
def free2 {e : EltTy} (M : Memref sig .tc .vmem S4x2x256x1024 e) (c : Dev nD) (l : Fin 4) (b : Fin 2) : sProp 𝕄 :=
  slot ((sl2 M l b).view.loc (c : Thread nD τ)) (sl2 M l b).view.set
def free3 {e : EltTy} (M : Memref sig .tc .vmem S4x3x256x1024 e) (c : Dev nD) (l : Fin 4) (b : Fin 3) : sProp 𝕄 :=
  slot ((sl3 M l b).view.loc (c : Thread nD τ)) (sl3 M l b).view.set

abbrev accAt (c : Dev nD) (l : Fin 4) (b : Fin 2) (X : Vec F S1x1x256x1024 .bf16) : sProp 𝕄 := at2 accB c l b X
abbrev rcvAt (c : Dev nD) (l : Fin 4) (b : Fin 2) (X : Vec F S1x1x256x1024 .bf16) : sProp 𝕄 := at2 rcvB c l b X
abbrev agAt (c : Dev nD) (l : Fin 4) (b : Fin 3) (X : Vec F S1x1x256x1024 .bf16) : sProp 𝕄 := at3 agB c l b X
abbrev stAt (c : Dev nD) (l : Fin 4) (b : Fin 2) (X : Vec F S1x1x256x1024 .f32) : sProp 𝕄 := at2 stB c l b X
abbrev accFree (c : Dev nD) (l : Fin 4) (b : Fin 2) : sProp 𝕄 := free2 accB c l b
abbrev rcvFree (c : Dev nD) (l : Fin 4) (b : Fin 2) : sProp 𝕄 := free2 rcvB c l b
abbrev agFree (c : Dev nD) (l : Fin 4) (b : Fin 3) : sProp 𝕄 := free3 agB c l b
abbrev stFree (c : Dev nD) (l : Fin 4) (b : Fin 2) : sProp 𝕄 := free2 stB c l b

/-- Tile `k` of lane `l` of the result, not yet copied, copied. -/
def outTodo (c : Dev nD) (l : Fin 4) (k : ℕ) : sProp 𝕄 :=
  slot ((slo (outRow l c k) l).view.loc (c : Thread nD τ)) (slo (outRow l c k) l).view.set
def outDone (c : Dev nD) (l : Fin 4) (k : ℕ) : sProp 𝕄 :=
  iprop(∃ f : Buf (Elt F) ((slo (outRow l c k) l).view.loc (c : Thread nD τ)),
    ⌜(slo (outRow l c k) l).view.read (Elt F) f = shapeCast S256x1024 (outV m l c k) shapeCasts_S1x1x256x1024_S256x1024⌝
    ∗ ((slo (outRow l c k) l).view.loc (c : Thread nD τ) ↦[(slo (outRow l c k) l).view.set]{fullShare} f))

omit [FloatOps F] in
instance at2_storable {e} (M : Memref sig .tc .vmem S4x2x256x1024 e) (c l b X) : BI.Storable (upEmb : UEmb _ 𝕄) (at2 (F := F) M c l b X) := by
  unfold at2; infer_instance
omit [FloatOps F] in
instance at3_storable {e} (M : Memref sig .tc .vmem S4x3x256x1024 e) (c l b X) : BI.Storable (upEmb : UEmb _ 𝕄) (at3 (F := F) M c l b X) := by
  unfold at3; infer_instance
omit [FloatOps F] in
instance free2_storable {e} (M : Memref sig .tc .vmem S4x2x256x1024 e) (c l b) : BI.Storable (upEmb : UEmb _ 𝕄) (free2 (F := F) M c l b) := by
  unfold free2; infer_instance
omit [FloatOps F] in
instance free3_storable {e} (M : Memref sig .tc .vmem S4x3x256x1024 e) (c l b) : BI.Storable (upEmb : UEmb _ 𝕄) (free3 (F := F) M c l b) := by
  unfold free3; infer_instance
instance outDone_storable (c l k) : BI.Storable (upEmb : UEmb _ 𝕄) (outDone m c l k) := by unfold outDone; infer_instance

omit [FloatOps F] in
theorem at2_free {e} (M : Memref sig .tc .vmem S4x2x256x1024 e) (c l b X) : (at2 (F := F) M c l b X : sProp 𝕄) ⊢ free2 M c l b := by
  unfold at2 free2 slot; iintro ⟨%f, -, H⟩; iexists f; iexact H
omit [FloatOps F] in
theorem at3_free {e} (M : Memref sig .tc .vmem S4x3x256x1024 e) (c l b X) : (at3 (F := F) M c l b X : sProp 𝕄) ⊢ free3 M c l b := by
  unfold at3 free3 slot; iintro ⟨%f, -, H⟩; iexists f; iexact H

/-! ## Cells -/

abbrev cS (c : Dev nD) (l : Fin 4) (b : Fin 2) : GSem nD τ sig := ((c : Thread nD τ), .dma (rsS l b))
abbrev cR (c : Dev nD) (l : Fin 4) (b : Fin 2) : GSem nD τ sig := ((c : Thread nD τ), .dma (rsR l b))
abbrev cT (c : Dev nD) (l : Fin 4) (b : Fin 2) : GSem nD τ sig := ((c : Thread nD τ), .dma (stS l b))
abbrev cU (c : Dev nD) (l : Fin 4) (b : Fin 3) : GSem nD τ sig := ((c : Thread nD τ), .dma (agS l b))
abbrev cV (c : Dev nD) (l : Fin 4) (b : Fin 3) : GSem nD τ sig := ((c : Thread nD τ), .dma (agR l b))
abbrev cC (c : Dev nD) (l : Fin 4) : GSem nD τ sig := ((c : Thread nD τ), .reg (rcS l))
abbrev cA (c : Dev nD) (l : Fin 4) : GSem nD τ sig := ((c : Thread nD τ), .reg (acS l))
abbrev cB (c : Dev nD) : GSem nD τ sig := ((c : Thread nD τ), .reg barS)

/-! ## What is handed over -/

/-- What device `c` must know to send lane `l`'s partial sum of step `i`: the landing slot has been released and the
    landing cell has reached the step's round. -/
def Kn (c : Dev nD) (l : Fin 4) (i : ℕ) : sProp 𝕄 :=
  iprop(released EL (dst l c, l, m2 i) (i / 2 + 1) ∗ reached ER (cR (dst l c) l (m2 i)) (i / 2))

/-- What device `c` must hold to send lane `l`'s block of step `t` of the all-gather: the receiver's slot. -/
def DK (c : Dev nD) (l : Fin 4) (t : ℕ) : sProp 𝕄 :=
  iprop(agFree (dst l c) l (m3 (t + 1)) ∗ reached ER (cV (dst l c) l (m3 (t + 1))) (t / 3))

/-- What a neighbour's signal on the barrier hands over for one lane. -/
def LP (c : Dev nD) (l : Fin 4) : sProp 𝕄 :=
  iprop(Kn c l 0 ∗ Kn c l 1 ∗ agFree (dst l c) l 1 ∗ agFree (dst l c) l 2)

def stPay (c : Dev nD) (l : Fin 4) (b : Fin 2) (n : ℕ) : sProp 𝕄 := iprop(stFree c l b ∗ outDone m c l (n - 1))
def agPay (c : Dev nD) (l : Fin 4) (b : Fin 3) (t : ℕ) : sProp 𝕄 :=
  iprop(agAt c l b (agV m l (t + 1) c) ∗ reached ER (cA (src l c) l) (t - 1))

instance Kn_persistent (c l i) : BI.Persistent (Kn (F := F) c l i) := by unfold Kn; infer_instance
instance Kn_storable (c l i) : BI.Storable (upEmb : UEmb _ 𝕄) (Kn (F := F) c l i) := by unfold Kn; infer_instance
instance DK_storable (c l i) : BI.Storable (upEmb : UEmb _ 𝕄) (DK (F := F) c l i) := by unfold DK; infer_instance
instance LP_storable (c l) : BI.Storable (upEmb : UEmb _ 𝕄) (LP (F := F) c l) := by unfold LP; infer_instance
instance stPay_storable (c l b n) : BI.Storable (upEmb : UEmb _ 𝕄) (stPay m c l b n) := by unfold stPay; infer_instance
instance agPay_storable (c l b t) : BI.Storable (upEmb : UEmb _ 𝕄) (agPay m c l b t) := by unfold agPay; infer_instance

/-- The payload of a cell of lane `l` of device `c`. -/
def lpay (c : Dev nD) (l : Fin 4) (k : Fin 14) (r d : ℕ) : sProp 𝕄 :=
  match k with
  | 0 => accFree c l 0 | 1 => accFree c l 1
  | 2 => rcvAt c l 0 (accV m l (2 * r) (src l c)) | 3 => rcvAt c l 1 (accV m l (2 * r + 1) (src l c))
  | 4 => stPay m c l 0 (2 * r) | 5 => stPay m c l 1 (2 * r + 3)
  | 6 => agFree c l 0 | 7 => agFree c l 1 | 8 => agFree c l 2
  | 9 => agPay m c l 0 (3 * r + 2) | 10 => agPay m c l 1 (3 * r) | 11 => agPay m c l 2 (3 * r + 1)
  | 12 => iprop(Kn c l (d + 1) ∗ Kn c l (d + 2))
  | 13 => DK c l (r + 2)

instance lpay_storable (c l k r d) : BI.Storable (upEmb : UEmb _ 𝕄) (lpay m c l k r d) := by
  unfold lpay; split <;> infer_instance

def pay (c : Dev nD) (k : CK) (r d : ℕ) : sProp 𝕄 :=
  match k with
  | none => if d = 1 then iprop(LP c 0 ∗ LP c 1) else iprop(LP c 2 ∗ LP c 3)
  | some (l, k) => lpay m c l k r d

instance pay_storable (c k r d) : BI.Storable (upEmb : UEmb _ 𝕄) (pay m c k r d) := by
  unfold pay; split
  · split <;> infer_instance
  · infer_instance

def ldut (k : Fin 14) (r : ℕ) : Finset ℕ :=
  match k with
  | 0 => if 2 * r < 31 then {0} else ∅ | 1 => if 2 * r + 1 < 31 then {0} else ∅
  | 2 => if 2 * r < 31 then {0} else ∅ | 3 => if 2 * r + 1 < 31 then {0} else ∅
  | 4 => if 2 * r < 33 then {0} else ∅ | 5 => if 2 * r + 3 < 33 then {0} else ∅
  | 6 => if 3 * r < 31 then {0} else ∅ | 7 => if 3 * r + 1 < 31 then {0} else ∅ | 8 => if 3 * r + 2 < 31 then {0} else ∅
  | 9 => if 3 * r + 2 < 31 then {0} else ∅ | 10 => if 3 * r < 31 then {0} else ∅ | 11 => if 3 * r + 1 < 31 then {0} else ∅
  | 12 => if r = 0 then Finset.range 29 else ∅
  | 13 => if r < 29 then {0} else ∅
def dut (k : CK) (r : ℕ) : Finset ℕ :=
  match k with
  | none => if r = 0 then {0, 1} else ∅
  | some (_, k) => ldut k r

def lamt (k : Fin 14) : ℕ := if k.val < 4 then N else if k.val < 6 then NT else if k.val < 12 then N else 1
def amt (k : CK) : ℕ :=
  match k with
  | none => 1
  | some (_, k) => lamt k

theorem amt_pos (k : CK) : 0 < amt k := by
  unfold amt lamt
  split
  · exact Nat.one_pos
  · split
    · exact N_pos
    · split
      · exact NT_pos
      · split
        · exact N_pos
        · exact Nat.one_pos

/-- The schedule. -/
def Rd : Rounds.Schedule (GSem nD τ sig) ℕ 𝕄 where
  duties g r := match dec g.2 with
    | some k => if g.1.2 = .tc then dut k r else ∅
    | none => ∅
  unitless _ := False
  amount g _ _ := match dec g.2 with
    | some k => amt k
    | none => 1
  payload g r d := match dec g.2 with
    | some k => pay m g.1.1 k r d
    | none => iprop(emp)
  amount_pos g _ _ _ := by
    cases dec g.2 with
    | none => exact Nat.one_pos
    | some k => exact amt_pos k

instance Rd_payload_storable (g : GSem nD τ sig) (r d : ℕ) : BI.Storable (upEmb : UEmb _ 𝕄) ((Rd m).payload g r d) := by
  show BI.Storable upEmb (match dec g.2 with | some k => pay m g.1.1 k r d | none => iprop(emp))
  split <;> infer_instance

theorem duties_k (c : Dev nD) (k : CK) (r : ℕ) : (Rd m).duties ((c : Thread nD τ), csem k) r = dut k r := by
  dsimp only [Rd]; rw [dec_csem]; exact if_pos rfl
theorem amount_k (c : Dev nD) (k : CK) (r d : ℕ) : (Rd m).amount ((c : Thread nD τ), csem k) r d = amt k := by
  dsimp only [Rd]; rw [dec_csem]
theorem payload_k (c : Dev nD) (k : CK) (r d : ℕ) : (Rd m).payload ((c : Thread nD τ), csem k) r d = pay m c k r d := by
  dsimp only [Rd]; rw [dec_csem]

/-! ### Per kind -/

section Kinds
variable (c : Dev nD) (l : Fin 4)

theorem dutS {s : ℕ} (h : s < 31) : (Rd m).duties (cS c l (m2 s)) (s / 2) = {0} := by
  rw [cS, ← csem_S, duties_k]
  have h2 : s % 2 = 0 ∨ s % 2 = 1 := by omega
  rcases h2 with h2 | h2
  · rw [show m2 s = 0 from Fin.ext h2]; exact if_pos (by omega)
  · rw [show m2 s = 1 from Fin.ext h2]; exact if_pos (by omega)
theorem dutR {s : ℕ} (h : s < 31) : (Rd m).duties (cR c l (m2 s)) (s / 2) = {0} := by
  rw [cR, ← csem_R, duties_k]
  have h2 : s % 2 = 0 ∨ s % 2 = 1 := by omega
  rcases h2 with h2 | h2
  · rw [show m2 s = 0 from Fin.ext h2]; exact if_pos (by omega)
  · rw [show m2 s = 1 from Fin.ext h2]; exact if_pos (by omega)
theorem dutU {t : ℕ} (h : t < 31) : (Rd m).duties (cU c l (m3 t)) (t / 3) = {0} := by
  rw [cU, ← csem_U, duties_k]
  have h2 : t % 3 = 0 ∨ t % 3 = 1 ∨ t % 3 = 2 := by omega
  rcases h2 with h2 | h2 | h2
  · rw [show m3 t = 0 from Fin.ext h2]; exact if_pos (by omega)
  · rw [show m3 t = 1 from Fin.ext h2]; exact if_pos (by omega)
  · rw [show m3 t = 2 from Fin.ext h2]; exact if_pos (by omega)
theorem dutV {t : ℕ} (h : t < 31) : (Rd m).duties (cV c l (m3 (t + 1))) (t / 3) = {0} := by
  rw [cV, ← csem_V, duties_k]
  have h2 : t % 3 = 0 ∨ t % 3 = 1 ∨ t % 3 = 2 := by omega
  rcases h2 with h2 | h2 | h2
  · rw [show m3 (t + 1) = 1 from Fin.ext (show (t + 1) % 3 = 1 by omega)]; exact if_pos (by omega)
  · rw [show m3 (t + 1) = 2 from Fin.ext (show (t + 1) % 3 = 2 by omega)]; exact if_pos (by omega)
  · rw [show m3 (t + 1) = 0 from Fin.ext (show (t + 1) % 3 = 0 by omega)]; exact if_pos (by omega)

/-- The round of the copy numbered `n`: 0, 2, 4, … in slot 0 and 3, 5, … in slot 1. -/
def rst (n : ℕ) : ℕ := n / 2 - n % 2

theorem dutT {n : ℕ} (h : n < 33) (h1 : n ≠ 1) : (Rd m).duties (cT c l (m2 n)) (rst n) = {0} := by
  rw [cT, ← csem_T, duties_k]
  have h2 : n % 2 = 0 ∨ n % 2 = 1 := by omega
  unfold rst
  rcases h2 with h2 | h2
  · rw [show m2 n = 0 from Fin.ext h2]; exact if_pos (by omega)
  · rw [show m2 n = 1 from Fin.ext h2]; exact if_pos (by omega)
theorem dutC : (Rd m).duties (cC c l) 0 = Finset.range 29 := by
  rw [cC, show SemLoc.reg (rcS l) = csem (some (l, 12)) from rfl, duties_k]; rfl
theorem dutA {r : ℕ} (h : r < 29) : (Rd m).duties (cA c l) r = {0} := by
  rw [cA, show SemLoc.reg (acS l) = csem (some (l, 13)) from rfl, duties_k]; exact if_pos h
theorem dutB : (Rd m).duties (cB c) 0 = {0, 1} := by
  rw [cB, show SemLoc.reg barS = csem none from rfl, duties_k]; rfl

theorem amtS (b r d) : (Rd m).amount (cS c l b) r d = N := by rw [cS, ← csem_S, amount_k]; fin_cases b <;> rfl
theorem amtR (b r d) : (Rd m).amount (cR c l b) r d = N := by rw [cR, ← csem_R, amount_k]; fin_cases b <;> rfl
theorem amtT (b r d) : (Rd m).amount (cT c l b) r d = NT := by rw [cT, ← csem_T, amount_k]; fin_cases b <;> rfl
theorem amtU (b r d) : (Rd m).amount (cU c l b) r d = N := by rw [cU, ← csem_U, amount_k]; fin_cases b <;> rfl
theorem amtV (b r d) : (Rd m).amount (cV c l b) r d = N := by rw [cV, ← csem_V, amount_k]; fin_cases b <;> rfl
theorem amtC (r d) : (Rd m).amount (cC c l) r d = 1 := by
  rw [cC, show SemLoc.reg (rcS l) = csem (some (l, 12)) from rfl, amount_k]; rfl
theorem amtA (r d) : (Rd m).amount (cA c l) r d = 1 := by
  rw [cA, show SemLoc.reg (acS l) = csem (some (l, 13)) from rfl, amount_k]; rfl
theorem amtB (r d) : (Rd m).amount (cB c) r d = 1 := by
  rw [cB, show SemLoc.reg barS = csem none from rfl, amount_k]; rfl

theorem payS (b r d) : (Rd m).payload (cS c l b) r d = accFree c l b := by rw [cS, ← csem_S, payload_k]; fin_cases b <;> rfl
theorem payR (s : ℕ) (d) : (Rd m).payload (cR c l (m2 s)) (s / 2) d = rcvAt c l (m2 s) (accV m l s (src l c)) := by
  rw [cR, ← csem_R, payload_k]
  have h2 : s % 2 = 0 ∨ s % 2 = 1 := by omega
  rcases h2 with h2 | h2
  · rw [show m2 s = 0 from Fin.ext h2]
    show rcvAt c l 0 (accV m l (2 * (s / 2)) (src l c)) = _
    rw [show 2 * (s / 2) = s by omega]
  · rw [show m2 s = 1 from Fin.ext h2]
    show rcvAt c l 1 (accV m l (2 * (s / 2) + 1) (src l c)) = _
    rw [show 2 * (s / 2) + 1 = s by omega]
theorem payU (b r d) : (Rd m).payload (cU c l b) r d = agFree c l b := by rw [cU, ← csem_U, payload_k]; fin_cases b <;> rfl
theorem payV (t : ℕ) (d) : (Rd m).payload (cV c l (m3 (t + 1))) (t / 3) d = agPay m c l (m3 (t + 1)) t := by
  rw [cV, ← csem_V, payload_k]
  have h2 : t % 3 = 0 ∨ t % 3 = 1 ∨ t % 3 = 2 := by omega
  rcases h2 with h2 | h2 | h2
  · rw [show m3 (t + 1) = 1 from Fin.ext (show (t + 1) % 3 = 1 by omega)]
    show agPay m c l 1 (3 * (t / 3)) = _
    rw [show 3 * (t / 3) = t by omega]
  · rw [show m3 (t + 1) = 2 from Fin.ext (show (t + 1) % 3 = 2 by omega)]
    show agPay m c l 2 (3 * (t / 3) + 1) = _
    rw [show 3 * (t / 3) + 1 = t by omega]
  · rw [show m3 (t + 1) = 0 from Fin.ext (show (t + 1) % 3 = 0 by omega)]
    show agPay m c l 0 (3 * (t / 3) + 2) = _
    rw [show 3 * (t / 3) + 2 = t by omega]
theorem payT (n : ℕ) (h1 : n ≠ 1) (d) : (Rd m).payload (cT c l (m2 n)) (rst n) d = stPay m c l (m2 n) n := by
  rw [cT, ← csem_T, payload_k]
  have h2 : n % 2 = 0 ∨ n % 2 = 1 := by omega
  rcases h2 with h2 | h2
  · rw [show m2 n = 0 from Fin.ext h2]
    show stPay m c l 0 (2 * (n / 2 - n % 2)) = _
    rw [show 2 * (n / 2 - n % 2) = n by omega]
  · rw [show m2 n = 1 from Fin.ext h2]
    show stPay m c l 1 (2 * (n / 2 - n % 2) + 3) = _
    rw [show 2 * (n / 2 - n % 2) + 3 = n by omega]
theorem payC (r d) : (Rd m).payload (cC c l) r d = iprop(Kn c l (d + 1) ∗ Kn c l (d + 2)) := by
  rw [cC, show SemLoc.reg (rcS l) = csem (some (l, 12)) from rfl, payload_k]; rfl
theorem payA (r d) : (Rd m).payload (cA c l) r d = DK c l (r + 2) := by
  rw [cA, show SemLoc.reg (acS l) = csem (some (l, 13)) from rfl, payload_k]; rfl
theorem payB1 (r) : (Rd m).payload (cB c) r 1 = iprop(LP c 0 ∗ LP c 1) := by
  rw [cB, show SemLoc.reg barS = csem none from rfl, payload_k]; rfl
theorem payB0 (r) : (Rd m).payload (cB c) r 0 = iprop(LP c 2 ∗ LP c 3) := by
  rw [cB, show SemLoc.reg barS = csem none from rfl, payload_k]; rfl

theorem exp_one {g : GSem nD τ sig} {r n : ℕ} (h : (Rd m).duties g r = {0}) (ha : (Rd m).amount g r 0 = n) : (Rd m).expect g r = n := by
  unfold Schedule.expect Schedule.amountOf; rw [h, Finset.sum_singleton, ha]
theorem expC : (Rd m).expect (cC c l) 0 = 29 := by
  unfold Schedule.expect Schedule.amountOf; rw [dutC]; simp only [amtC]; rfl
theorem expB : (Rd m).expect (cB c) 0 = 2 := by
  unfold Schedule.expect Schedule.amountOf; rw [dutB]; simp only [amtB]; rfl
theorem rest_one {g : GSem nD τ sig} {r : ℕ} (h : (Rd m).duties g r = {0}) :
    bigSep ((Rd m).duties g r \ ∅) (fun d => (Rd m).payload g r d) = (Rd m).payload g r 0 := by
  rw [Finset.sdiff_empty, h, bigSep_singleton]

/-- The cells have no duties past their last round. -/
theorem duties_past {k : CK} {R : ℕ} (h : ∀ r, R ≤ r → dut k r = ∅) : ∀ r, R ≤ r → (Rd m).duties (kcell (c, k)) r = ∅ :=
  fun r hr => (duties_k m c k r).trans (h r hr)

end Kinds

/-! ## Debts -/

def ln (q : ℕ) : Fin 4 := ⟨q % 4, Nat.mod_lt _ (by decide)⟩

/-- What device `c` pays at position `q` of its program. Position `16 * i + r` is in trip `i - 1` of the first loop for
    `i` up to 31 and in trip `i - 32` of the second from 32 on; `r` below 4 is the lane's transfer, `8 + l` lane `l`'s
    credit. Positions 1 and 2 are the barrier signals. -/
def due (c : Dev nD) (q : ℕ) : CellTallies nD τ sig ℕ :=
  if q < 16 then (if q = 1 then tallyAt (cB (mv false c)) 2 1 else if q = 2 then tallyAt (cB (mv true c)) 2 1 else 0)
  else if q < 512 then
    (if q % 16 < 4 then tallyAt (cR (dst (ln q) c) (ln q) (m2 (q / 16 - 1))) q N
     else if 8 ≤ q % 16 ∧ q % 16 < 12 ∧ q / 16 ≤ 29 then tallyAt (cC (src (ln q) c) (ln q)) q 1 else 0)
  else if q < 1008 then
    (if q % 16 < 4 then tallyAt (cV (dst (ln q) c) (ln q) (m3 (q / 16 - 31))) q N
     else if 8 ≤ q % 16 ∧ q % 16 < 12 ∧ 33 ≤ q / 16 ∧ q / 16 ≤ 61 then tallyAt (cA (src (ln q) c) (ln q)) q 1 else 0)
  else 0

theorem due_bar1 (c : Dev nD) : due c 1 = tallyAt (cB (mv false c)) 2 1 := rfl
theorem due_bar2 (c : Dev nD) : due c 2 = tallyAt (cB (mv true c)) 2 1 := rfl
theorem due_rs (c : Dev nD) (l : Fin 4) {s : ℕ} (h : s < 31) :
    due c (16 * (s + 1) + l.val) = tallyAt (cR (dst l c) l (m2 s)) (16 * (s + 1) + l.val) N := by
  have := l.isLt
  have e : ln (16 * (s + 1) + l.val) = l := Fin.ext (show (16 * (s + 1) + l.val) % 4 = l.val by omega)
  unfold due
  rw [if_neg (by omega), if_pos (by omega), if_pos (by omega), e, show (16 * (s + 1) + l.val) / 16 - 1 = s by omega]
theorem due_rc (c : Dev nD) (l : Fin 4) {s : ℕ} (h : s < 29) :
    due c (16 * (s + 1) + 8 + l.val) = tallyAt (cC (src l c) l) (16 * (s + 1) + 8 + l.val) 1 := by
  have := l.isLt
  have e : ln (16 * (s + 1) + 8 + l.val) = l := Fin.ext (show (16 * (s + 1) + 8 + l.val) % 4 = l.val by omega)
  unfold due
  rw [if_neg (by omega), if_pos (by omega), if_neg (by omega), if_pos (by omega), e]
theorem due_ag (c : Dev nD) (l : Fin 4) {t : ℕ} (h : t < 31) :
    due c (16 * (t + 32) + l.val) = tallyAt (cV (dst l c) l (m3 (t + 1))) (16 * (t + 32) + l.val) N := by
  have := l.isLt
  have e : ln (16 * (t + 32) + l.val) = l := Fin.ext (show (16 * (t + 32) + l.val) % 4 = l.val by omega)
  unfold due
  rw [if_neg (by omega), if_neg (by omega), if_pos (by omega), if_pos (by omega), e, show (16 * (t + 32) + l.val) / 16 - 31 = t + 1 by omega]
theorem due_ac (c : Dev nD) (l : Fin 4) {t : ℕ} (h1 : 1 ≤ t) (h : t < 30) :
    due c (16 * (t + 32) + 8 + l.val) = tallyAt (cA (src l c) l) (16 * (t + 32) + 8 + l.val) 1 := by
  have := l.isLt
  have e : ln (16 * (t + 32) + 8 + l.val) = l := Fin.ext (show (16 * (t + 32) + 8 + l.val) % 4 = l.val by omega)
  unfold due
  rw [if_neg (by omega), if_neg (by omega), if_pos (by omega), if_neg (by omega), if_pos (by omega), e]

/-- A position where nothing is paid. -/
def idle (q : ℕ) : Prop := (q < 16 ∧ q ≠ 1 ∧ q ≠ 2) ∨ (16 ≤ q ∧ ((4 ≤ q % 16 ∧ q % 16 < 8) ∨ 12 ≤ q % 16)) ∨ (480 ≤ q ∧ q < 528 ∧ 4 ≤ q % 16) ∨ (992 ≤ q ∧ 4 ≤ q % 16) ∨ 1008 ≤ q
theorem due_idle (c : Dev nD) {q : ℕ} (h : idle q) : due c q = 0 := by
  unfold idle at h
  unfold due
  split
  · rw [if_neg (by omega), if_neg (by omega)]
  · split
    · rw [if_neg (by omega), if_neg (by omega)]
    · split
      · rw [if_neg (by omega), if_neg (by omega)]
      · rfl

theorem tallyAt_pos {g g' : GSem nD τ sig} {i j n : ℕ} (h : 0 < (tallyAt g i n : CellTallies nD τ sig ℕ) g' j) : g' = g ∧ j = i := by
  rw [tallyAt_apply] at h
  by_contra hn
  rw [if_neg hn] at h
  exact Nat.lt_irrefl 0 h

theorem due_pos {c : Dev nD} {q : ℕ} {g : GSem nD τ sig} {i : ℕ} (h : 0 < due c q g i) : q ≤ i ∧ i < 1008 ∧ g.1.2 = .tc := by
  have h0 : ¬ 0 < (0 : CellTallies nD τ sig ℕ) g i := Nat.lt_irrefl 0
  unfold due at h
  split at h
  · split at h
    · obtain ⟨rfl, rfl⟩ := tallyAt_pos h; exact ⟨by omega, by omega, rfl⟩
    · split at h
      · obtain ⟨rfl, rfl⟩ := tallyAt_pos h; exact ⟨by omega, by omega, rfl⟩
      · exact absurd h h0
  · split at h
    · split at h
      · obtain ⟨rfl, rfl⟩ := tallyAt_pos h; exact ⟨by omega, by omega, rfl⟩
      · split at h
        · obtain ⟨rfl, rfl⟩ := tallyAt_pos h; exact ⟨by omega, by omega, rfl⟩
        · exact absurd h h0
    · split at h
      · split at h
        · obtain ⟨rfl, rfl⟩ := tallyAt_pos h; exact ⟨by omega, by omega, rfl⟩
        · split at h
          · obtain ⟨rfl, rfl⟩ := tallyAt_pos h; exact ⟨by omega, by omega, rfl⟩
          · exact absurd h h0
      · exact absurd h h0

/-- What is still owed from position `p` on. -/
def O (c : Dev nD) (p : ℕ) : CellTallies nD τ sig ℕ := ∑ q ∈ Finset.Ico p 1008, due c q

theorem O_step (c : Dev nD) {p : ℕ} (h : p < 1008) : O c p = O c (p + 1) + due c p := by
  have e : Finset.Ico p 1008 = insert p (Finset.Ico (p + 1) 1008) := by
    ext q; rw [Finset.mem_insert, Finset.mem_Ico, Finset.mem_Ico]; omega
  unfold O
  rw [e, Finset.sum_insert (by rw [Finset.mem_Ico]; omega), add_comm]
theorem O_skip (c : Dev nD) {p p' : ℕ} (h : p ≤ p') (h' : p' ≤ 1008) (hz : ∀ q, p ≤ q → q < p' → idle q) : O c p = O c p' := by
  unfold O
  refine (Finset.sum_subset (fun q hq => ?_) (fun q hq hn => ?_)).symm
  · rw [Finset.mem_Ico] at hq ⊢; omega
  · rw [Finset.mem_Ico] at hq hn; exact due_idle c (hz q hq.1 (by omega))
theorem O_end (c : Dev nD) : O c 1008 = 0 := by unfold O; simp

theorem O_pos {c : Dev nD} {p : ℕ} {g : GSem nD τ sig} {i : ℕ} (h : 0 < O c p g i) : p ≤ i ∧ i < 1008 ∧ g.1.2 = .tc := by
  unfold O at h
  rw [Finset.sum_apply, Finsupp.finset_sum_apply] at h
  obtain ⟨q, hq, hp⟩ := Finset.exists_ne_zero_of_sum_ne_zero (Nat.pos_iff_ne_zero.mp h)
  obtain ⟨h1, h2, h3⟩ := due_pos (Nat.pos_of_ne_zero hp)
  exact ⟨(Finset.mem_Ico.mp hq).1.trans h1, h2, h3⟩

def L (g : GSem nD τ sig) : Finset ℕ := if g.1.2 = .tc then Finset.range 1008 else ∅
def lv (g : GSem nD τ sig) (i : ℕ) : ℕ := i
theorem L_of_ne (g : GSem nD τ sig) (h : g.1.2 ≠ .tc) : L g = ∅ := if_neg h

omit [FloatOps F] in
theorem mayWait (c : Dev nD) (sm : SemLoc sig) {j p : ℕ} (h : j < p) (hj : j < 1008) :
    (levAts L lv : sProp 𝕄) ⊢ MayWait (c : Thread nD τ) sm j (O c p) :=
  Pipeline.mayWait_of_levAts (by unfold L; rw [if_pos rfl]; exact Finset.mem_range.mpr hj)
    (fun g i hg => by
      obtain ⟨h1, h2, h3⟩ := O_pos hg
      exact ⟨by unfold L; rw [if_pos h3]; exact Finset.mem_range.mpr h2, lt_of_lt_of_le h h1⟩)

/-- What device `c` owes at position `p`, whatever it has waited for. -/
def Owes (c : Dev nD) (p : ℕ) : sProp 𝕄 := iprop(∃ W, owes (c : Thread nD τ) (O c p) W)

omit [FloatOps F] in
theorem Owes_skip (c : Dev nD) {p p' : ℕ} (h : p ≤ p') (h' : p' ≤ 1008) (hz : ∀ q, p ≤ q → q < p' → idle q) :
    (Owes c p : sProp 𝕄) ⊢ Owes c p' := by unfold Owes; rw [O_skip c h h' hz]

end Cert.KernelIdealProof
-- ==== Proof.KernelIdealOps.lean ====
/-
  One rule for each kind of operation the kernel's body performs, in terms of the slots and cells of
  `KernelIdealSched`.
-/
module

public import proofs.«01_k».proof.Proof.KernelIdealSched
public import Idealize.ShloMosaic.Lib.Pipeline.Value
public import Idealize.ShloMosaic.Lib.Writes

@[expose] public section

noncomputable section

namespace Cert.KernelIdealProof

open Cert.KernelIdeal Cert.KernelIdeal.Gen Idealize.ShloMosaic TcCoe Rounds Release Idealize.SL RA BI BI.BIBase BI.Laws ProofMode Idealize.SL.Sem
open scoped Idealize.SL.BI
open Pipeline (Dat Cfg Window BodyObligation cellOf)

variable {F : FTy → Type} [FloatOps F]

local notation "𝕄" => MT nD τ sig ℕ (Elt F) ℕ UU ℕ

variable (m : (ℓ : Loc nD τ sig) → Buf (Elt F) ℓ)

abbrev 𝒱₀ : Variants := Variants.none

/-- Running `p` on device `c` to `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows throughout -/

variable (K : Dev nD × CK → ℕ) (κ : RK → ℕ)

def slotS (k : RK) : sProp 𝕄 := rcvFree k.1 k.2.1 k.2.2
omit [FloatOps F] in
instance slotS_storable (k) : BI.Storable (upEmb : UEmb _ 𝕄) (slotS (F := F) k) := by unfold slotS; infer_instance

def Ctx : sProp 𝕄 :=
  iprop(bigSep Finset.univ (fun ck : Dev nD × CK => cellInv ER (Rd m) (K ck) (kcell ck))
    ∗ bigSep Finset.univ (fun k : RK => slotInv EL (κ k) k (slotS k))
    ∗ bigSep Finset.univ (fun ck : Dev nD × CK => reached ER (kcell ck) 0)
    ∗ (levAts L lv : sProp 𝕄))

instance Ctx_persistent : BI.Persistent (Ctx m K κ) := by unfold Ctx; infer_instance

theorem Ctx_inv (c : Dev nD) (k : CK) : Ctx m K κ ⊢ cellInv ER (Rd m) (K (c, k)) ((c : Thread nD τ), csem k) := by
  have h : bigSep Finset.univ (fun ck : Dev nD × CK => cellInv ER (Rd m) (K ck) (kcell ck)) ⊢ cellInv ER (Rd m) (K (c, k)) ((c : Thread nD τ), csem k) :=
    bigSep_elim (Finset.mem_univ (c, k))
  unfold Ctx
  iintro ⟨H, -⟩
  iapply h; iexact H
theorem Ctx_reached (c : Dev nD) (k : CK) : Ctx m K κ ⊢ reached ER ((c : Thread nD τ), csem k) 0 := by
  have h : bigSep Finset.univ (fun ck : Dev nD × CK => (reached ER (kcell ck) 0 : sProp 𝕄)) ⊢ reached ER ((c : Thread nD τ), csem k) 0 :=
    bigSep_elim (Finset.mem_univ (c, k))
  unfold Ctx
  iintro ⟨-, -, H, -⟩
  iapply h; iexact H
theorem Ctx_slot (k : RK) : Ctx m K κ ⊢ slotInv EL (κ k) k (slotS k) := by
  have h : bigSep Finset.univ (fun k : RK => (slotInv EL (κ k) k (slotS (F := F) k) : sProp 𝕄)) ⊢ slotInv EL (κ k) k (slotS k) :=
    bigSep_elim (Finset.mem_univ k)
  unfold Ctx
  iintro ⟨-, H, -⟩
  iapply h; iexact H
theorem Ctx_lev : Ctx m K κ ⊢ (levAts L lv : sProp 𝕄) := by unfold Ctx; iintro ⟨-, -, -, H⟩; iexact H

set_option maxRecDepth 20000 in
theorem Ctx_mayWait (c : Dev nD) (sm : SemLoc sig) {j p : ℕ} (h : j < p) (hj : j < 1008) :
    Ctx m K κ ⊢ MayWait (c : Thread nD τ) sm j (O c p) := (Ctx_lev m K κ).trans (mayWait c sm h hj)

theorem Ctx_S (c l b) : Ctx m K κ ⊢ cellInv ER (Rd m) (K (c, some (l, kS b))) (cS c l b) := by rw [cS, ← csem_S]; exact Ctx_inv m K κ c _
theorem Ctx_R (c l b) : Ctx m K κ ⊢ cellInv ER (Rd m) (K (c, some (l, kR b))) (cR c l b) := by rw [cR, ← csem_R]; exact Ctx_inv m K κ c _
theorem Ctx_T (c l b) : Ctx m K κ ⊢ cellInv ER (Rd m) (K (c, some (l, kT b))) (cT c l b) := by rw [cT, ← csem_T]; exact Ctx_inv m K κ c _
theorem Ctx_U (c l b) : Ctx m K κ ⊢ cellInv ER (Rd m) (K (c, some (l, kU b))) (cU c l b) := by rw [cU, ← csem_U]; exact Ctx_inv m K κ c _
theorem Ctx_V (c l b) : Ctx m K κ ⊢ cellInv ER (Rd m) (K (c, some (l, kV b))) (cV c l b) := by rw [cV, ← csem_V]; exact Ctx_inv m K κ c _
theorem Ctx_C (c l) : Ctx m K κ ⊢ cellInv ER (Rd m) (K (c, some (l, 12))) (cC c l) := Ctx_inv m K κ c (some (l, 12))
theorem Ctx_A (c l) : Ctx m K κ ⊢ cellInv ER (Rd m) (K (c, some (l, 13))) (cA c l) := Ctx_inv m K κ c (some (l, 13))
theorem Ctx_B (c) : Ctx m K κ ⊢ cellInv ER (Rd m) (K (c, none)) (cB c) := Ctx_inv m K κ c none
theorem Ctx_C0 (c l) : Ctx m K κ ⊢ reached ER (cC c l) 0 := Ctx_reached m K κ c (some (l, 12))

/-! ## Reading and writing slots -/

section Slots
variable {e : EltTy}

omit [FloatOps F] in
theorem setG {s s' : Shape} (M : Memref sig .tc .vmem s e) (r : Rect s) (hr) (hq : r.shape.Squeezes s') :
    ((M.slice r hr).squeeze s' hq).view.set = r.set.map M.view.emb :=
  (View.set_reshape (v := (M.slice r hr).view) hq.numel_eq).trans (View.set_slice _ _)
omit [FloatOps F] in
theorem set2 (M : Memref sig .tc .vmem S4x2x256x1024 e) (l : Fin 4) (b : Fin 2) : (sl2 M l b).view.set = (r2 l b).set.map M.view.emb := setG M _ _ _
omit [FloatOps F] in
theorem set3 (M : Memref sig .tc .vmem S4x3x256x1024 e) (l : Fin 4) (b : Fin 3) : (sl3 M l b).view.set = (r3 l b).set.map M.view.emb := setG M _ _ _

omit [FloatOps F] in
theorem readAt_access {s : Shape} (M : Memref sig .tc .vmem s e) (r : Rect s) (f) (w : r.shape.Idx → Elt F e) :
    M.view.readAt (Elt F) r.toLoadRect ((M.access r).write (Elt F) f w Finset.univ) = w :=
  View.read_write_univ (v := M.access r) f w

omit [FloatOps F] in
/-- A slot written with what another slot reads holds what the other holds. -/
theorem dmaG {s s2 s' : Shape} {n : Fin s.rank → ℕ} (M : Memref sig .tc .vmem s e) (M' : Memref sig .tc .vmem s e)
    (o o' : Fin s.rank → ℕ) (i : ∀ a, o a + n a ≤ s.size a) (i' : ∀ a, o' a + n a ≤ s.size a)
    (hr hr') (hq : (Rect.unit o n i).shape.Squeezes s') (hq' : (Rect.unit o' n i').shape.Squeezes s') (fd fs) :
    M'.view.readAt (Elt F) (Rect.unit o' n i').toLoadRect
        (((M'.slice (Rect.unit o' n i') hr').squeeze s' hq').view.write (Elt F) fd (((M.slice (Rect.unit o n i) hr).squeeze s' hq).view.read (Elt F) fs) Finset.univ)
      = M.view.readAt (Elt F) (Rect.unit o n i).toLoadRect fs := by
  have h := View.write_reshape_univ (Val := Elt F) (v := M'.access (Rect.unit o' n i')) (h := hq'.numel_eq) (f := fd)
    (w := ((M.slice (Rect.unit o n i) hr).squeeze s' hq).view.read (Elt F) fs)
  refine (congrArg (M'.view.readAt (Elt F) (Rect.unit o' n i').toLoadRect) h).trans ?_
  rw [readAt_access]
  funext x
  show M.view.readAt (Elt F) (Rect.unit o n i).toLoadRect fs (Shape.reshapeEquiv _ ((Shape.reshapeEquiv _).symm x)) = _
  exact congrArg (M.view.readAt (Elt F) (Rect.unit o n i).toLoadRect fs) (Equiv.apply_symm_apply _ _)

omit [FloatOps F] in
theorem dma22 (M M' : Memref sig .tc .vmem S4x2x256x1024 e) (l l' : Fin 4) (b b' : Fin 2) (fd fs) :
    M'.view.readAt (Elt F) (r2 l' b').toLoadRect ((sl2 M' l' b').view.write (Elt F) fd ((sl2 M l b).view.read (Elt F) fs) Finset.univ)
      = M.view.readAt (Elt F) (r2 l b).toLoadRect fs := dmaG (s2 := S_) M M' _ _ _ _ _ _ _ _ fd fs
omit [FloatOps F] in
theorem dma33 (M M' : Memref sig .tc .vmem S4x3x256x1024 e) (l l' : Fin 4) (b b' : Fin 3) (fd fs) :
    M'.view.readAt (Elt F) (r3 l' b').toLoadRect ((sl3 M' l' b').view.write (Elt F) fd ((sl3 M l b).view.read (Elt F) fs) Finset.univ)
      = M.view.readAt (Elt F) (r3 l b).toLoadRect fs := dmaG (s2 := S_) M M' _ _ _ _ _ _ _ _ fd fs

omit [FloatOps F] in
theorem read_sl2 (M : Memref sig .tc .vmem S4x2x256x1024 e) (l : Fin 4) (b : Fin 2) (f) :
    (sl2 M l b).view.read (Elt F) f = shapeCast S256x1024 (M.view.readAt (Elt F) (r2 l b).toLoadRect f) shapeCasts_S1x1x256x1024_S256x1024 :=
  Memref.read_squeeze_slice M (r2 l b) _ _ _ f

theorem ld2 {α : Type} {Q : α → sProp 𝕄} (M : Memref sig .tc .vmem S4x2x256x1024 e) (c : Dev nD) (l : Fin 4) (b : Fin 2) (X : S1x1x256x1024.Idx → Elt F e) (off : Fin 4 → ℕ) (inb : ∀ a : Fin S4x2x256x1024.rank, off a + S1x1x256x1024.size a ≤ S4x2x256x1024.size a)
    (hoff : off = ![l.val, b.val, 0, 0]) {hl : M.view.LoadsAt (Rect.unit (s := S4x2x256x1024) off S1x1x256x1024.size inb).toLoadRect} {k : (S1x1x256x1024.Idx → Elt F e) → Prog (TpuEff nD τ sig (Elt F) Λ₀ .tc) α} :
    at2 M c l b X ⊢ iprop((at2 M c l b X -∗ WP c (k X) Q)
      -∗ WP c (.op (.load M (Rect.unit (s := S4x2x256x1024) off S1x1x256x1024.size inb).toLoadRect hl) k) Q) := by
  subst hoff
  unfold at2
  iintro ⟨%f, %hf, H⟩ Hk
  iapply (wp_load 𝒱₀ (c : Thread nD τ) none Set.univ (m := M) (r := (r2 l b).toLoadRect) (S := (sl2 M l b).view.set)
    (by rw [set2]; exact Finset.Subset.refl _)) $$ H
  iintro H
  rw [show M.view.readAt (Elt F) (r2 l b).toLoadRect f = X from hf]
  iapply Hk
  iexists f
  isplitr; · ipureintro; exact hf
  iexact H

theorem ld2f {α : Type} {Q : α → sProp 𝕄} (M : Memref sig .tc .vmem S4x2x256x1024 e) (c : Dev nD) (l : Fin 4) (b : Fin 2) (off : Fin 4 → ℕ) (inb : ∀ a : Fin S4x2x256x1024.rank, off a + S1x1x256x1024.size a ≤ S4x2x256x1024.size a)
    (hoff : off = ![l.val, b.val, 0, 0]) {hl : M.view.LoadsAt (Rect.unit (s := S4x2x256x1024) off S1x1x256x1024.size inb).toLoadRect} {k : (S1x1x256x1024.Idx → Elt F e) → Prog (TpuEff nD τ sig (Elt F) Λ₀ .tc) α} :
    free2 M c l b ⊢ iprop((∀ X, free2 M c l b -∗ WP c (k X) Q)
      -∗ WP c (.op (.load M (Rect.unit (s := S4x2x256x1024) off S1x1x256x1024.size inb).toLoadRect hl) k) Q) := by
  subst hoff
  unfold free2 slot
  iintro ⟨%f, H⟩ Hk
  iapply (wp_load 𝒱₀ (c : Thread nD τ) none Set.univ (m := M) (r := (r2 l b).toLoadRect) (S := (sl2 M l b).view.set)
    (by rw [set2]; exact Finset.Subset.refl _)) $$ H
  iintro H
  iapply Hk
  iexists f
  iexact H

theorem ld3 {α : Type} {Q : α → sProp 𝕄} (M : Memref sig .tc .vmem S4x3x256x1024 e) (c : Dev nD) (l : Fin 4) (b : Fin 3) (X : S1x1x256x1024.Idx → Elt F e) (off : Fin 4 → ℕ) (inb : ∀ a : Fin S4x3x256x1024.rank, off a + S1x1x256x1024.size a ≤ S4x3x256x1024.size a)
    (hoff : off = ![l.val, b.val, 0, 0]) {hl : M.view.LoadsAt (Rect.unit (s := S4x3x256x1024) off S1x1x256x1024.size inb).toLoadRect} {k : (S1x1x256x1024.Idx → Elt F e) → Prog (TpuEff nD τ sig (Elt F) Λ₀ .tc) α} :
    at3 M c l b X ⊢ iprop((at3 M c l b X -∗ WP c (k X) Q)
      -∗ WP c (.op (.load M (Rect.unit (s := S4x3x256x1024) off S1x1x256x1024.size inb).toLoadRect hl) k) Q) := by
  subst hoff
  unfold at3
  iintro ⟨%f, %hf, H⟩ Hk
  iapply (wp_load 𝒱₀ (c : Thread nD τ) none Set.univ (m := M) (r := (r3 l b).toLoadRect) (S := (sl3 M l b).view.set)
    (by rw [set3]; exact Finset.Subset.refl _)) $$ H
  iintro H
  rw [show M.view.readAt (Elt F) (r3 l b).toLoadRect f = X from hf]
  iapply Hk
  iexists f
  isplitr; · ipureintro; exact hf
  iexact H

theorem ld3f {α : Type} {Q : α → sProp 𝕄} (M : Memref sig .tc .vmem S4x3x256x1024 e) (c : Dev nD) (l : Fin 4) (b : Fin 3) (off : Fin 4 → ℕ) (inb : ∀ a : Fin S4x3x256x1024.rank, off a + S1x1x256x1024.size a ≤ S4x3x256x1024.size a)
    (hoff : off = ![l.val, b.val, 0, 0]) {hl : M.view.LoadsAt (Rect.unit (s := S4x3x256x1024) off S1x1x256x1024.size inb).toLoadRect} {k : (S1x1x256x1024.Idx → Elt F e) → Prog (TpuEff nD τ sig (Elt F) Λ₀ .tc) α} :
    free3 M c l b ⊢ iprop((∀ X, free3 M c l b -∗ WP c (k X) Q)
      -∗ WP c (.op (.load M (Rect.unit (s := S4x3x256x1024) off S1x1x256x1024.size inb).toLoadRect hl) k) Q) := by
  subst hoff
  unfold free3 slot
  iintro ⟨%f, H⟩ Hk
  iapply (wp_load 𝒱₀ (c : Thread nD τ) none Set.univ (m := M) (r := (r3 l b).toLoadRect) (S := (sl3 M l b).view.set)
    (by rw [set3]; exact Finset.Subset.refl _)) $$ H
  iintro H
  iapply Hk
  iexists f
  iexact H

theorem st2 {α : Type} {Q : α → sProp 𝕄} (M : Memref sig .tc .vmem S4x2x256x1024 e) (c : Dev nD) (l : Fin 4) (b : Fin 2) (w : S1x1x256x1024.Idx → Elt F e) (off : Fin 4 → ℕ) (inb : ∀ a : Fin S4x2x256x1024.rank, off a + S1x1x256x1024.size a ≤ S4x2x256x1024.size a)
    (hoff : off = ![l.val, b.val, 0, 0]) {h1 : (M.access (Rect.unit (s := S4x2x256x1024) off S1x1x256x1024.size inb)).Stores Finset.univ} {h2 : (Finset.univ : Finset (Rect.unit (s := S4x2x256x1024) off S1x1x256x1024.size inb).shape.Idx) = Finset.univ ∨ ∀ a, (Rect.unit (s := S4x2x256x1024) off S1x1x256x1024.size inb).stride a = 1} {k : PUnit → Prog (TpuEff nD τ sig (Elt F) Λ₀ .tc) α} :
    free2 M c l b ⊢ iprop((at2 M c l b w -∗ WP c (k ⟨⟩) Q)
      -∗ WP c (.op (.store M (Rect.unit (s := S4x2x256x1024) off S1x1x256x1024.size inb) w Finset.univ h1 h2) k) Q) := by
  subst hoff
  unfold free2 slot
  iintro ⟨%f, H⟩ Hk
  iapply (wp_store 𝒱₀ (c : Thread nD τ) none Set.univ (m := M) (r := r2 l b) (Mk := Finset.univ) (S := (sl2 M l b).view.set)
    (by rw [set2, View.setOn_univ]; exact (View.set_slice _ _).subset)) $$ H
  iintro H
  iapply Hk
  unfold at2
  iexists _
  isplitr
  rotate_left
  · iexact H
  · ipureintro; exact readAt_access M (r2 l b) f w

theorem st3 {α : Type} {Q : α → sProp 𝕄} (M : Memref sig .tc .vmem S4x3x256x1024 e) (c : Dev nD) (l : Fin 4) (b : Fin 3) (w : S1x1x256x1024.Idx → Elt F e) (off : Fin 4 → ℕ) (inb : ∀ a : Fin S4x3x256x1024.rank, off a + S1x1x256x1024.size a ≤ S4x3x256x1024.size a)
    (hoff : off = ![l.val, b.val, 0, 0]) {h1 : (M.access (Rect.unit (s := S4x3x256x1024) off S1x1x256x1024.size inb)).Stores Finset.univ} {h2 : (Finset.univ : Finset (Rect.unit (s := S4x3x256x1024) off S1x1x256x1024.size inb).shape.Idx) = Finset.univ ∨ ∀ a, (Rect.unit (s := S4x3x256x1024) off S1x1x256x1024.size inb).stride a = 1} {k : PUnit → Prog (TpuEff nD τ sig (Elt F) Λ₀ .tc) α} :
    free3 M c l b ⊢ iprop((at3 M c l b w -∗ WP c (k ⟨⟩) Q)
      -∗ WP c (.op (.store M (Rect.unit (s := S4x3x256x1024) off S1x1x256x1024.size inb) w Finset.univ h1 h2) k) Q) := by
  subst hoff
  unfold free3 slot
  iintro ⟨%f, H⟩ Hk
  iapply (wp_store 𝒱₀ (c : Thread nD τ) none Set.univ (m := M) (r := r3 l b) (Mk := Finset.univ) (S := (sl3 M l b).view.set)
    (by rw [set3, View.setOn_univ]; exact (View.set_slice _ _).subset)) $$ H
  iintro H
  iapply Hk
  unfold at3
  iexists _
  isplitr
  rotate_left
  · iexact H
  · ipureintro; exact readAt_access M (r3 l b) f w

end Slots

/-! ## Waiting for a cell whose round has one duty -/

section Waits
variable (c : Dev nD)

theorem wait1 {α : Type} {Q : α → sProp 𝕄} {w : TpuEff nD τ sig (Elt F) Λ₀ .tc PUnit} {sm : SemLoc sig} {n R p i : ℕ} {k : CK} {T : sProp 𝕄}
    {kk : PUnit → Prog (TpuEff nD τ sig (Elt F) Λ₀ .tc) α}
    (hsm : csem k = sm)
    (hw : ∀ K' : PUnit → sProp 𝕄, wpE (defs₀ (F := F)) 𝒱₀ (c : Thread nD τ) none Set.univ w K' = waitSpec (c : Thread nD τ) Set.univ sm n K')
    (hd : (Rd m).duties ((c : Thread nD τ), sm) R = {0}) (ha : (Rd m).amount ((c : Thread nD τ), sm) R 0 = n)
    (hT : (Rd m).payload ((c : Thread nD τ), sm) R 0 = T) (hi : i < p) (hi' : i < 1008) :
    iprop(Ctx m K κ ∗ cred (tallyAt ((c : Thread nD τ), sm) i n) ∗ Owes c p ∗ atPos ER ((c : Thread nD τ), sm) R ∅ 0)
      ⊢ iprop(((Owes c p ∗ atPos ER ((c : Thread nD τ), sm) (R + 1) ∅ 0 ∗ reached ER ((c : Thread nD τ), sm) (R + 1) ∗ T) -∗ WP c (kk ⟨⟩) Q)
          -∗ WP c (.op w kk) Q) := by
  subst hsm
  iintro ⟨#HC, Hc, Ho, Hat⟩ Hk
  unfold Owes
  icases Ho with ⟨%W, Ho⟩
  iapply (Rounds.wp_wait_rest_token 𝒱₀ ER (Rd m) (c : Thread nD τ) none (κ := K (c, k)) hw (Set.mem_univ _) i (O := O c p) (W := W) (R := R) (m := 0) (T := ∅)
    ((Nat.zero_add n).trans (exp_one m hd ha).symm)) $$ [Hc Ho Hat]
  · isplitr; · iapply (Ctx_inv m K κ c k); iexact HC
    isplitl [Hc]; · iexact Hc
    isplitl [Ho]; · iexact Ho
    isplitr; · iapply (Ctx_mayWait m K κ c (csem k) hi hi'); iexact HC
    iexact Hat
  iintro ⟨Ho, Hat, Hr, Hp⟩
  iapply Hk
  isplitl [Ho]; · iexists _; iexact Ho
  isplitl [Hat]; · iexact Hat
  isplitl [Hr]; · iexact Hr
  iapply (Entails.of_eq ((rest_one m hd).trans hT)); iexact Hp

end Waits

/-! ## Chaining rules -/

theorem chain {P P' G Y : sProp 𝕄} (h : P ⊢ iprop((P' -∗ G) -∗ Y)) (h' : P' ⊢ G) : P ⊢ Y := by
  iintro H
  iapply h $$ H
  iintro H
  iapply h'; iexact H

theorem chainA {P P' Y : sProp 𝕄} {T : Type} {G : T → sProp 𝕄} (h : P ⊢ iprop((∀ X, P' -∗ G X) -∗ Y)) (h' : ∀ X, P' ⊢ G X) : P ⊢ Y := by
  iintro H
  iapply h $$ H
  iintro %X H
  iapply (h' X); iexact H

/-- What device `c` holds during the body: the shared facts, a rest, the state of each lane, what it owes. -/
def Bd (c : Dev nD) (E A0 A1 A2 A3 : sProp 𝕄) (p : ℕ) : sProp 𝕄 :=
  iprop(Ctx m K κ ∗ E ∗ A0 ∗ A1 ∗ A2 ∗ A3 ∗ Owes c p)

section Frames
variable {m K κ} {c : Dev nD} {E E' A0 A1 A2 A3 A' X Y : sProp (MT nD τ sig ℕ (Elt F) ℕ UU ℕ)} {p p' : ℕ} {T : Type} {G : T → sProp (MT nD τ sig ℕ (Elt F) ℕ UU ℕ)}

theorem fr0 (h : iprop(Ctx m K κ ∗ A0 ∗ Owes c p) ⊢ iprop(((A' ∗ Owes c p') -∗ X) -∗ Y)) :
    Bd m K κ c E A0 A1 A2 A3 p ⊢ iprop((Bd m K κ c E A' A1 A2 A3 p' -∗ X) -∗ Y) := by
  unfold Bd
  iintro ⟨#HC, HE, H0, H1, H2, H3, Ho⟩ Hk
  iapply h $$ [H0 Ho]
  · isplitr; · iexact HC
    isplitl [H0]; · iexact H0
    iexact Ho
  iintro ⟨H0, Ho⟩
  iapply Hk
  isplitr; · iexact HC
  isplitl [HE]; · iexact HE
  isplitl [H0]; · iexact H0
  isplitl [H1]; · iexact H1
  isplitl [H2]; · iexact H2
  isplitl [H3]; · iexact H3
  iexact Ho

theorem sw01 : Bd m K κ c E A0 A1 A2 A3 p ⊢ Bd m K κ c E A1 A0 A2 A3 p := by
  unfold Bd
  iintro ⟨HC, HE, H0, H1, H2, H3, Ho⟩
  isplitl [HC]; · iexact HC
  isplitl [HE]; · iexact HE
  isplitl [H1]; · iexact H1
  isplitl [H0]; · iexact H0
  isplitl [H2]; · iexact H2
  isplitl [H3]; · iexact H3
  iexact Ho
theorem sw02 : Bd m K κ c E A0 A1 A2 A3 p ⊢ Bd m K κ c E A2 A1 A0 A3 p := by
  unfold Bd
  iintro ⟨HC, HE, H0, H1, H2, H3, Ho⟩
  isplitl [HC]; · iexact HC
  isplitl [HE]; · iexact HE
  isplitl [H2]; · iexact H2
  isplitl [H1]; · iexact H1
  isplitl [H0]; · iexact H0
  isplitl [H3]; · iexact H3
  iexact Ho
theorem sw03 : Bd m K κ c E A0 A1 A2 A3 p ⊢ Bd m K κ c E A3 A1 A2 A0 p := by
  unfold Bd
  iintro ⟨HC, HE, H0, H1, H2, H3, Ho⟩
  isplitl [HC]; · iexact HC
  isplitl [HE]; · iexact HE
  isplitl [H3]; · iexact H3
  isplitl [H1]; · iexact H1
  isplitl [H2]; · iexact H2
  isplitl [H0]; · iexact H0
  iexact Ho

theorem swap {P P2 Q2 Q : sProp 𝕄} (h1 : P ⊢ P2) (h2 : Q2 ⊢ Q) (h : P2 ⊢ iprop((Q2 -∗ X) -∗ Y)) (h3 : Q2 ⊢ Q) : P ⊢ iprop((Q -∗ X) -∗ Y) := by
  iintro H Hk
  iapply h $$ [H]; · iapply h1; iexact H
  iintro H
  iapply Hk; iapply h3; iexact H

theorem fr1 (h : iprop(Ctx m K κ ∗ A1 ∗ Owes c p) ⊢ iprop(((A' ∗ Owes c p') -∗ X) -∗ Y)) :
    Bd m K κ c E A0 A1 A2 A3 p ⊢ iprop((Bd m K κ c E A0 A' A2 A3 p' -∗ X) -∗ Y) := swap sw01 sw01 (fr0 h) sw01
theorem fr2 (h : iprop(Ctx m K κ ∗ A2 ∗ Owes c p) ⊢ iprop(((A' ∗ Owes c p') -∗ X) -∗ Y)) :
    Bd m K κ c E A0 A1 A2 A3 p ⊢ iprop((Bd m K κ c E A0 A1 A' A3 p' -∗ X) -∗ Y) := swap sw02 sw02 (fr0 h) sw02
theorem fr3 (h : iprop(Ctx m K κ ∗ A3 ∗ Owes c p) ⊢ iprop(((A' ∗ Owes c p') -∗ X) -∗ Y)) :
    Bd m K κ c E A0 A1 A2 A3 p ⊢ iprop((Bd m K κ c E A0 A1 A2 A' p' -∗ X) -∗ Y) := swap sw03 sw03 (fr0 h) sw03

/-- A load of a lane's state. -/
theorem rd0 (h : A0 ⊢ iprop((A' -∗ X) -∗ Y)) : Bd m K κ c E A0 A1 A2 A3 p ⊢ iprop((Bd m K κ c E A' A1 A2 A3 p -∗ X) -∗ Y) :=
  fr0 (by
    iintro ⟨-, H, Ho⟩ Hk
    iapply h $$ H
    iintro H
    iapply Hk
    isplitl [H]; · iexact H
    iexact Ho)
theorem rd1 (h : A1 ⊢ iprop((A' -∗ X) -∗ Y)) : Bd m K κ c E A0 A1 A2 A3 p ⊢ iprop((Bd m K κ c E A0 A' A2 A3 p -∗ X) -∗ Y) := swap sw01 sw01 (rd0 h) sw01
theorem rd2 (h : A2 ⊢ iprop((A' -∗ X) -∗ Y)) : Bd m K κ c E A0 A1 A2 A3 p ⊢ iprop((Bd m K κ c E A0 A1 A' A3 p -∗ X) -∗ Y) := swap sw02 sw02 (rd0 h) sw02
theorem rd3 (h : A3 ⊢ iprop((A' -∗ X) -∗ Y)) : Bd m K κ c E A0 A1 A2 A3 p ⊢ iprop((Bd m K κ c E A0 A1 A2 A' p -∗ X) -∗ Y) := swap sw03 sw03 (rd0 h) sw03

/-- A load of a lane's state whose value does not matter. -/
theorem rdA0 (h : A0 ⊢ iprop((∀ x, A' -∗ G x) -∗ Y)) : Bd m K κ c E A0 A1 A2 A3 p ⊢ iprop((∀ x, Bd m K κ c E A' A1 A2 A3 p -∗ G x) -∗ Y) := by
  unfold Bd
  iintro ⟨#HC, HE, H0, H1, H2, H3, Ho⟩ Hk
  iapply h $$ H0
  iintro %x H0
  iapply Hk
  isplitr; · iexact HC
  isplitl [HE]; · iexact HE
  isplitl [H0]; · iexact H0
  isplitl [H1]; · iexact H1
  isplitl [H2]; · iexact H2
  isplitl [H3]; · iexact H3
  iexact Ho
theorem swapA {P P2 Q2 Q : sProp 𝕄} (h1 : P ⊢ P2) (h : P2 ⊢ iprop((∀ x, Q2 -∗ G x) -∗ Y)) (h3 : Q2 ⊢ Q) : P ⊢ iprop((∀ x, Q -∗ G x) -∗ Y) := by
  iintro H Hk
  iapply h $$ [H]; · iapply h1; iexact H
  iintro %x H
  iapply Hk; iapply h3; iexact H
theorem rdA1 (h : A1 ⊢ iprop((∀ x, A' -∗ G x) -∗ Y)) : Bd m K κ c E A0 A1 A2 A3 p ⊢ iprop((∀ x, Bd m K κ c E A0 A' A2 A3 p -∗ G x) -∗ Y) := swapA sw01 (rdA0 h) sw01
theorem rdA2 (h : A2 ⊢ iprop((∀ x, A' -∗ G x) -∗ Y)) : Bd m K κ c E A0 A1 A2 A3 p ⊢ iprop((∀ x, Bd m K κ c E A0 A1 A' A3 p -∗ G x) -∗ Y) := swapA sw02 (rdA0 h) sw02
theorem rdA3 (h : A3 ⊢ iprop((∀ x, A' -∗ G x) -∗ Y)) : Bd m K κ c E A0 A1 A2 A3 p ⊢ iprop((∀ x, Bd m K κ c E A0 A1 A2 A' p -∗ G x) -∗ Y) := swapA sw03 (rdA0 h) sw03

/-- An operation on the rest. -/
theorem frE (h : E ⊢ iprop((E' -∗ X) -∗ Y)) : Bd m K κ c E A0 A1 A2 A3 p ⊢ iprop((Bd m K κ c E' A0 A1 A2 A3 p -∗ X) -∗ Y) := by
  unfold Bd
  iintro ⟨#HC, HE, H0, H1, H2, H3, Ho⟩ Hk
  iapply h $$ HE
  iintro HE
  iapply Hk
  isplitr; · iexact HC
  isplitl [HE]; · iexact HE
  isplitl [H0]; · iexact H0
  isplitl [H1]; · iexact H1
  isplitl [H2]; · iexact H2
  isplitl [H3]; · iexact H3
  iexact Ho

/-- A change of the lanes' states that performs nothing. -/
theorem mono4 {B0 B1 B2 B3 : sProp 𝕄} (h0 : A0 ⊢ B0) (h1 : A1 ⊢ B1) (h2 : A2 ⊢ B2) (h3 : A3 ⊢ B3) (hp : (Owes c p : sProp 𝕄) ⊢ Owes c p') :
    Bd m K κ c E A0 A1 A2 A3 p ⊢ Bd m K κ c E B0 B1 B2 B3 p' := by
  unfold Bd
  iintro ⟨HC, HE, H0, H1, H2, H3, Ho⟩
  isplitl [HC]; · iexact HC
  isplitl [HE]; · iexact HE
  isplitl [H0]; · iapply h0; iexact H0
  isplitl [H1]; · iapply h1; iexact H1
  isplitl [H2]; · iapply h2; iexact H2
  isplitl [H3]; · iapply h3; iexact H3
  iapply hp; iexact Ho

end Frames

/-- A part of the body, then the rest. -/
theorem spec_bind {c : Dev nD} {α β : Type} {P : sProp 𝕄} {Q : β → sProp 𝕄} {pr : Prog (TpuEff nD τ sig (Elt F) Λ₀ .tc) α}
    {k : α → Prog (TpuEff nD τ sig (Elt F) Λ₀ .tc) β} {φ : α → Prop} {P' : sProp 𝕄}
    (h : P ⊢ WP c pr (fun v => iprop(⌜φ v⌝ ∗ P'))) (h' : ∀ v, φ v → (P' ⊢ WP c (k v) Q)) : P ⊢ WP c (pr >>= k) Q := by
  unfold WP at h h' ⊢
  rw [wp_bind]
  refine h.trans (wp_mono _ _ _ (fun v => ?_))
  iintro ⟨%hv, H⟩
  iapply (h' v hv); iexact H

/-- The end of a part. -/
theorem spec_ret {c : Dev nD} {α : Type} {P : sProp 𝕄} {φ : α → Prop} {v : α} (h : φ v) : P ⊢ WP c (.ret v) (fun v => iprop(⌜φ v⌝ ∗ P)) := by
  unfold WP; rw [wp_ret]
  iintro H
  imodintro
  isplitr; · ipureintro; exact h
  iexact H

end Cert.KernelIdealProof
-- ==== Proof.KernelIdealRs.lean ====
/-
  The reduce-scatter loop of one lane: what the device holds at each point of a step, and a rule for each operation.
-/
module

public import proofs.«01_k».proof.Proof.KernelIdealOps

@[expose] public section

noncomputable section

namespace Cert.KernelIdealProof

open Cert.KernelIdeal Cert.KernelIdeal.Gen Idealize.ShloMosaic TcCoe Rounds Release Idealize.SL RA BI BI.BIBase BI.Laws ProofMode Idealize.SL.Sem
open scoped Idealize.SL.BI
open Pipeline (Dat Cfg Window BodyObligation cellOf)

variable {F : FTy → Type} [FloatOps F]

local notation "𝕄" => MT nD τ sig ℕ (Elt F) ℕ UU ℕ

variable (m : (ℓ : Loc nD τ sig) → Buf (Elt F) ℓ)
variable (K : Dev nD × CK → ℕ) (κ : RK → ℕ)

/-! ## The reduce-scatter of one lane -/

section State
variable (c : Dev nD) (l : Fin 4)

/-- The read-out cell of step `j` stands before that step's round; a transfer of the step is under way. -/
def PS (j : ℕ) : sProp 𝕄 := iprop(atPos ER (cS c l (m2 j)) (j / 2) ∅ 0 ∗ reached ER (cS c l (m2 j)) (j / 2))
def PSf (j : ℕ) : sProp 𝕄 := iprop(PS c l j ∗ cred (tallyAt (cS c l (m2 j)) 0 N))
/-- The landing cell of step `j` stands before that step's round. -/
def PR (j : ℕ) : sProp 𝕄 := iprop(atPos ER (cR c l (m2 j)) (j / 2) ∅ 0 ∗ reached ER (cR c l (m2 j)) (j / 2))
/-- The landing slot of step `j` has been released for it; past the last step it is at hand. -/
def RDK (j : ℕ) : sProp 𝕄 :=
  if j < 31 then iprop(readerAt EL (c, l, m2 j) (j / 2 + 1) ∗ released EL (c, l, m2 j) (j / 2 + 1)) else rcvFree c l (m2 j)
/-- The other partial-sum slot before step `s`. -/
def Oth (s : ℕ) : sProp 𝕄 := if s = 0 then iprop(accFree c l (m2 1) ∗ PS c l 1) else PSf c l (s - 1)

def Cpay (T : Finset ℕ) : sProp 𝕄 := bigSep T (fun j => iprop(Kn c l (j + 1) ∗ Kn c l (j + 2)))
omit [FloatOps F] in
instance Cpay_persistent (T : Finset ℕ) : BI.Persistent (Cpay (F := F) c l T) := by unfold Cpay; infer_instance
/-- The credits: those of steps 0 and 1 from the barrier, those collected, those still to come. -/
def RC (s : ℕ) : sProp 𝕄 :=
  iprop(Kn c l 0 ∗ Kn c l 1 ∗ (∃ T : Finset ℕ, ⌜T ⊆ Finset.range 29 ∧ s - 2 ≤ T.card⌝ ∗ atPos ER (cC c l) 0 T (s - 2) ∗ Cpay c l T)
    ∗ bigSep (Finset.Ico (s - 2) 29) (fun j => cred (tallyAt (cC c l) (16 * (j + 1) + 8 + l.val) 1)))

def TkS (s : ℕ) : sProp 𝕄 := bigSep (Finset.Ico s 31) (fun j =>
  iprop(dutyTok ER (cS c l (m2 j)) (j / 2) 0 ∗ dutyTok ER (cR (dst l c) l (m2 j)) (j / 2) 0 ∗ writeTok EL (dst l c, l, m2 j) (j / 2 + 1)))
def TkR (s : ℕ) : sProp 𝕄 := bigSep (Finset.Ico s 31) (fun j => cred (tallyAt (cR c l (m2 j)) (16 * (j + 1) + l.val) N))
def TkC (s : ℕ) : sProp 𝕄 := bigSep (Finset.Ico s 29) (fun j => dutyTok ER (cC (src l c) l) 0 j)

/-- What does not change before the landing of step `s`, after it. -/
def Rw (s : ℕ) : sProp 𝕄 := iprop(PR c l s ∗ PR c l (s + 1) ∗ RDK c l s ∗ RDK c l (s + 1) ∗ TkR c l s ∗ TkC c l s)
def Rw' (s : ℕ) : sProp 𝕄 :=
  iprop(PR c l (s + 2) ∗ PR c l (s + 1) ∗ readerAt EL (c, l, m2 s) (s / 2 + 1) ∗ RDK c l (s + 1) ∗ TkR c l (s + 1) ∗ TkC c l s
    ∗ RC c l (s + 1) ∗ TkS c l (s + 1) ∗ PSf c l s)

/-- Before step `s`; with leave to send; sent; landed; the other slot free; the sum stored. -/
def R0 (s : ℕ) : sProp 𝕄 := iprop(accAt c l (m2 s) (accV m l s c) ∗ PS c l s ∗ Oth c l s ∗ Rw c l s ∗ RC c l s ∗ TkS c l s)
def R1 (s : ℕ) : sProp 𝕄 := iprop(accAt c l (m2 s) (accV m l s c) ∗ PS c l s ∗ Oth c l s ∗ Rw c l s ∗ RC c l (s + 1) ∗ TkS c l s ∗ Kn c l s)
def R2 (s : ℕ) : sProp 𝕄 := iprop(PSf c l s ∗ Oth c l s ∗ Rw c l s ∗ RC c l (s + 1) ∗ TkS c l (s + 1))
def R3 (s : ℕ) : sProp 𝕄 := iprop(rcvAt c l (m2 s) (accV m l s (src l c)) ∗ Oth c l s ∗ Rw' c l s)
def R4 (s : ℕ) : sProp 𝕄 := iprop(rcvAt c l (m2 s) (accV m l s (src l c)) ∗ accFree c l (m2 (s + 1)) ∗ PS c l (s + 1) ∗ Rw' c l s)
def R5 (s : ℕ) : sProp 𝕄 := iprop(rcvAt c l (m2 s) (accV m l s (src l c)) ∗ accAt c l (m2 (s + 1)) (accV m l (s + 1) c) ∗ PS c l (s + 1) ∗ Rw' c l s)

end State

theorem m2_add (s : ℕ) : m2 (s + 2) = m2 s := Fin.ext (show (s + 2) % 2 = s % 2 by omega)
theorem m2_sub {s : ℕ} (h : s ≠ 0) : m2 (s - 1) = m2 (s + 1) := Fin.ext (show (s - 1) % 2 = (s + 1) % 2 by omega)

omit [FloatOps F] in
/-- The first of a run of resources. -/
theorem ico_pop {a b : ℕ} (h : a < b) (Φ : ℕ → sProp 𝕄) : bigSep (Finset.Ico a b) Φ ⊢ iprop(Φ a ∗ bigSep (Finset.Ico (a + 1) b) Φ) := by
  have e : Finset.Ico a b = insert a (Finset.Ico (a + 1) b) := by
    ext q; rw [Finset.mem_insert, Finset.mem_Ico, Finset.mem_Ico]; omega
  have hn : a ∉ Finset.Ico (a + 1) b := by rw [Finset.mem_Ico]; omega
  rw [e]; exact Entails.of_eq (bigSep_insert hn)

section Ops
variable (c : Dev nD) (l : Fin 4)

theorem Kn_mono {i s : ℕ} (h : s ≤ i) (hp : i % 2 = s % 2) : (Kn c l i : sProp 𝕄) ⊢ Kn c l s := by
  have e : m2 i = m2 s := Fin.ext hp
  unfold Kn; rw [e]
  iintro ⟨H1, H2⟩
  isplitl [H1]
  · iapply (released_mono EL (show s / 2 + 1 ≤ i / 2 + 1 by omega)); iexact H1
  · iapply (reached_mono ER (show s / 2 ≤ i / 2 by omega)); iexact H2

/-- Enough collected credits give leave for step `s`. -/
theorem Cpay_Kn {T : Finset ℕ} {s : ℕ} (hs : 2 ≤ s) (hT : T ⊆ Finset.range 29) (hc : s - 1 ≤ T.card) : (Cpay c l T : sProp 𝕄) ⊢ Kn c l s := by
  have h : ∃ j ∈ T, s - 2 ≤ j := by
    by_contra hn
    push Not at hn
    have h1 : T ⊆ Finset.range (s - 2) := fun j hj => Finset.mem_range.mpr (hn j hj)
    have := Finset.card_le_card h1
    rw [Finset.card_range] at this
    omega
  obtain ⟨j, hj, hjs⟩ := h
  have h1 : (Cpay c l T : sProp 𝕄) ⊢ iprop(Kn c l (j + 1) ∗ Kn c l (j + 2)) := by unfold Cpay; exact bigSep_elim hj
  refine h1.trans ?_
  rcases Nat.mod_two_eq_zero_or_one (j + s) with hp | hp
  · iintro ⟨-, H⟩; iapply (Kn_mono c l (show s ≤ j + 2 by omega) (by omega)); iexact H
  · iintro ⟨H, -⟩; iapply (Kn_mono c l (show s ≤ j + 1 by omega) (by omega)); iexact H

theorem RC_skip {s : ℕ} (hs : s < 2) : (RC c l s : sProp 𝕄) ⊢ iprop(RC c l (s + 1) ∗ Kn c l s) := by
  unfold RC
  rw [show s + 1 - 2 = s - 2 by omega]
  iintro ⟨#H0, #H1, H2, H3⟩
  isplitl [H2 H3]
  · isplitr; · iexact H0
    isplitr; · iexact H1
    isplitl [H2]; · iexact H2
    iexact H3
  · rcases (show s = 0 ∨ s = 1 by omega) with rfl | rfl
    · iexact H0
    · iexact H1

theorem rs_skipC {s : ℕ} (hs : s < 2) : (R0 m c l s : sProp 𝕄) ⊢ R1 m c l s := by
  unfold R0 R1
  iintro ⟨H1, H2, H3, H4, H5, H6⟩
  isplitl [H1]; · iexact H1
  isplitl [H2]; · iexact H2
  isplitl [H3]; · iexact H3
  isplitl [H4]; · iexact H4
  ihave H := (RC_skip c l hs) $$ H5
  icases H with ⟨H5, H7⟩
  isplitl [H5]; · iexact H5
  isplitl [H6]; · iexact H6
  iexact H7

theorem rs_waitC {α : Type} {Q : α → sProp 𝕄} {s p : ℕ} (hs : 2 ≤ s) (hs' : s < 31) (hp : 16 * s ≤ p)
    {off : Fin 1 → ℕ} {inb : ∀ a : Fin S4.rank, off a + S1.size a ≤ S4.size a} (hoff : off = ![l.val])
    {k : PUnit → Prog (TpuEff nD τ sig (Elt F) Λ₀ .tc) α} :
    iprop(Ctx m K κ ∗ R0 m c l s ∗ Owes c p)
      ⊢ iprop(((R1 m c l s ∗ Owes c p) -∗ WP c (k ⟨⟩) Q)
          -∗ WP c (.op (.semWait ((cc0_scratch9.slice (Rect.unit (s := S4) off S1.size inb)).squeeze S_ squeezes_S1_S_).sem 1) k) Q) := by
  subst hoff
  have hlt := l.isLt
  unfold R0 RC
  iintro ⟨#HC, ⟨H1, H2, H3, H4, ⟨#HK0, #HK1, ⟨%T, %hT, Hat, Hpay⟩, Hcrs⟩, H6⟩, Ho⟩ Hk
  icases (ico_pop (show s - 2 < 29 by omega) _) $$ Hcrs with ⟨Hcr, Hcrs⟩
  unfold Owes
  icases Ho with ⟨%W, Ho⟩
  iapply (Rounds.wp_wait 𝒱₀ ER (Rd m) (c : Thread nD τ) none (κ := K (c, some (l, 12))) (wpE_semWait_eq 𝒱₀ (c : Thread nD τ) none Set.univ) (Set.mem_univ _)
    (cr := Finsupp.single (16 * (s - 2 + 1) + 8 + l.val) 1) (O := O c p) (W := W) {(.reg (rcS l), 16 * (s - 2 + 1) + 8 + l.val)} (R := 0) (m := s - 2) (T := T)
    (by rw [Util.total_single]) (image_single_subset _ _ _)) $$ [Hcr Ho Hat]
  · isplitr; · iapply (Ctx_C m K κ c l); iexact HC
    isplitl [Hcr]; · iexact Hcr
    isplitl [Ho]; · iexact Ho
    isplitr; · iapply (Ctx_mayWait m K κ c (.reg (rcS l)) (show 16 * (s - 2 + 1) + 8 + l.val < p by omega) (by omega)); iexact HC
    iexact Hat
  iintro %S ⟨%hS, Ho, Hat, Hnew⟩
  have hd : (Rd m).duties (cC c l) 0 = Finset.range 29 := dutC m c l
  have he : (Rd m).expect (cC c l) 0 = 29 := expC m c l
  obtain ⟨hS1, hS2, hS3⟩ := hS
  rw [hd] at hS2 hS3
  rw [he] at hS3
  have hS4 : s - 2 + 1 + (Finset.range 29 \ S).card ≤ 29 := hS3
  have hcard : s - 1 ≤ S.card := by
    have h1 := Finset.card_sdiff_add_card_eq_card hS2
    rw [Finset.card_range] at h1
    omega
  have hpayS : iprop(Cpay c l T ∗ bigSep (S \ T) (fun d => (Rd m).payload (cC c l) 0 d)) ⊢ (Cpay c l S : sProp 𝕄) := by
    have e1 : bigSep (S \ T) (fun d => (Rd m).payload (cC c l) 0 d) = Cpay c l (S \ T) := by
      unfold Cpay; exact congrArg _ (funext fun d => payC m c l 0 d)
    rw [e1]; unfold Cpay
    refine (Entails.of_eq (bigSep_union Finset.disjoint_sdiff).symm).trans ?_
    rw [Finset.union_sdiff_of_subset hS1]
  ihave Hpay := hpayS $$ [Hpay Hnew]
  · isplitl [Hpay]; · iexact Hpay
    iexact Hnew
  icases (show (Cpay c l S : sProp 𝕄) ⊢ iprop(Cpay c l S ∗ Kn c l s) from by
    iintro #H
    isplitr; · iexact H
    iapply (Cpay_Kn c l hs hS2 hcard); iexact H) $$ Hpay with ⟨Hpay, HKn⟩
  iapply Hk
  isplitr [Ho]
  · unfold R1 RC
    isplitl [H1]; · iexact H1
    isplitl [H2]; · iexact H2
    isplitl [H3]; · iexact H3
    isplitl [H4]; · iexact H4
    isplitl [Hat Hpay Hcrs]
    · rw [show s + 1 - 2 = s - 2 + 1 by omega]
      isplitr; · iexact HK0
      isplitr; · iexact HK1
      isplitl [Hat Hpay]
      · iexists S
        isplitr; · ipureintro; exact ⟨hS2, by omega⟩
        isplitl [Hat]; · iexact Hat
        iexact Hpay
      · iexact Hcrs
    isplitl [H6]; · iexact H6
    iexact HKn
  · iexists _; iexact Ho

set_option backward.isDefEq.respectTransparency false in
theorem rs_send {α : Type} {Q : α → sProp 𝕄} {s p : ℕ} (hs : s < 31) (hp : p = 16 * (s + 1) + l.val)
    {o1 : Fin 2 → ℕ} {i1 : ∀ a : Fin S4x2.rank, o1 a + S1x1.size a ≤ S4x2.size a} (h1 : o1 = ![l.val, (m2 s).val])
    {o2 : Fin 4 → ℕ} {i2 : ∀ a : Fin S4x2x256x1024.rank, o2 a + S1x1x256x1024.size a ≤ S4x2x256x1024.size a} (h2 : o2 = ![l.val, (m2 s).val, 0, 0])
    {n : Dev nD} (hn : n = dst l c) {w1 w2 w3} {k : PUnit → Prog (TpuEff nD τ sig (Elt F) Λ₀ .tc) α} :
    iprop(Ctx m K κ ∗ R1 m c l s ∗ Owes c p)
      ⊢ iprop(((R2 c l s ∗ Owes c (p + 1)) -∗ WP c (k ⟨⟩) Q)
          -∗ WP c (.op (.enqueueDma
              (d2 accB o2 i2)
              (.remote (Dev.tc n)
                (d2 rcvB o2 i2)
                (.dma ((cc0_scratch4.slice (Rect.unit (s := S4x2) o1 S1x1.size i1)).squeeze S_ squeezes_S1x1_S_).sem))
              (.dma ((cc0_scratch5.slice (Rect.unit (s := S4x2) o1 S1x1.size i1)).squeeze S_ squeezes_S1x1_S_).sem) w1 w2 w3) k) Q) := by
  subst hp h1 h2 hn
  have hlt := l.isLt
  unfold R1 R2 PSf PS TkS Kn Owes
  iintro ⟨#HC, ⟨Hacc, ⟨Hat, #Hr1⟩, H3, H4, H5, H6, ⟨#Hrel, #Hr2⟩⟩, ⟨%W, Ho⟩⟩ Hk
  icases (ico_pop hs _) $$ H6 with ⟨⟨Hd1, Hd2, Hwt⟩, H6⟩
  imod (slot_take EL (ι := κ (dst l c, l, m2 s)) (S := slotS (F := F) (dst l c, l, m2 s)) (Set.mem_univ _) (s / 2 + 1)) $$ [Hwt] with HS
  · isplitr; · iapply (Ctx_slot m K κ (dst l c, l, m2 s)); iexact HC
    isplitr; · iexact Hrel
    iexact Hwt
  unfold slotS rcvFree free2 slot accAt at2
  icases HS with ⟨%fd, HS⟩
  icases Hacc with ⟨%fs, %hfs, Hacc⟩
  iapply (Rounds.wp_send_pointsTo 𝒱₀ ER (Rd m) (c : Thread nD τ) none (κ₁ := K (c, some (l, kS (m2 s)))) (κ₂ := K (dst l c, some (l, kR (m2 s))))
    (c' := (dst l c : Thread nD τ)) (src := sl2 accB l (m2 s)) (dst := sl2 rcvB l (m2 s)) (sS := .dma (rsS l (m2 s))) (sem := .dma (rsR l (m2 s)))
    (r₁ := s / 2) (r₂ := s / 2) (d₁ := 0) (d₂ := 0) (fs := fs) (fd := fd)
    (by rw [dutS m c l hs]; exact Finset.mem_singleton_self _) (by rw [dutR m (dst l c) l hs]; exact Finset.mem_singleton_self _)
    (16 * (s + 1) + l.val) 0 N rfl (amtS m c l _ _ _) (amtR m (dst l c) l _ _ _) (O c (16 * (s + 1) + l.val + 1))
    ((O_step c (by omega)).trans (congrArg _ (due_rs c l hs))) (W := W)
    (by
      rw [payS]
      show _ ⊢ free2 accB c l (m2 s)
      unfold free2 slot
      iintro H; iexists fs; iexact H)
    (by
      rw [payR, src_dst]
      show _ ⊢ at2 rcvB (dst l c) l (m2 s) _
      unfold at2
      iintro H
      iexists _
      isplitr
      rotate_left
      · iexact H
      · ipureintro; exact (dma22 accB rcvB l l (m2 s) (m2 s) fd fs).trans hfs)) $$ [Hacc HS Ho Hd1 Hd2]
  · isplitr; · iapply (Ctx_S m K κ c l (m2 s)); iexact HC
    isplitr; · iapply (Ctx_R m K κ (dst l c) l (m2 s)); iexact HC
    isplitl [Hacc]; · iexact Hacc
    isplitl [HS]; · iexact HS
    isplitl [Ho]; · iexact Ho
    isplitl [Hd1]; · iexact Hd1
    isplitr; · iexact Hr1
    isplitl [Hd2]; · iexact Hd2
    iexact Hr2
  iintro ⟨Hcr, Ho⟩
  iapply Hk
  isplitr [Ho]
  · isplitl [Hat Hcr]
    · isplitl [Hat]
      · isplitl [Hat]; · iexact Hat
        iexact Hr1
      iexact Hcr
    isplitl [H3]; · iexact H3
    isplitl [H4]; · iexact H4
    isplitl [H5]; · iexact H5
    iexact H6
  · iexists W; iexact Ho

theorem rs_recv {α : Type} {Q : α → sProp 𝕄} {s p : ℕ} (hs : s < 31) (hp : 16 * (s + 1) + l.val < p)
    {o1 : Fin 2 → ℕ} {i1 : ∀ a : Fin S4x2.rank, o1 a + S1x1.size a ≤ S4x2.size a} (h1 : o1 = ![l.val, (m2 s).val])
    {o2 : Fin 4 → ℕ} {i2 : ∀ a : Fin S4x2x256x1024.rank, o2 a + S1x1x256x1024.size a ≤ S4x2x256x1024.size a}
    {w1 w2} {k : PUnit → Prog (TpuEff nD τ sig (Elt F) Λ₀ .tc) α} :
    iprop(Ctx m K κ ∗ R2 c l s ∗ Owes c p)
      ⊢ iprop(((R3 m c l s ∗ Owes c p) -∗ WP c (k ⟨⟩) Q)
          -∗ WP c (.op (.waitDma2 ((cc0_scratch5.slice (Rect.unit (s := S4x2) o1 S1x1.size i1)).squeeze S_ squeezes_S1x1_S_).sem
              (d2 accB o2 i2)
              (d2 rcvB o2 i2) w1 w2) k) Q) := by
  subst h1
  have hlt := l.isLt
  unfold R2 R3 Rw Rw' PR TkR
  iintro ⟨#HC, ⟨H1, H2, ⟨⟨Hat, -⟩, Hp1, Hk0, Hk1, Ht, Hc⟩, H5, H6⟩, Ho⟩ Hk
  icases (ico_pop hs _) $$ Ht with ⟨Hcr, Ht⟩
  iapply (wait1 m K κ c (w := .waitDma2 (rsR l (m2 s)) (d2 accB o2 i2) (d2 rcvB o2 i2) w1 w2) (k := some (l, kR (m2 s))) (n := N) (R := s / 2) (i := 16 * (s + 1) + l.val) (csem_R l (m2 s))
    (wpE_waitDma2_eq 𝒱₀ (c : Thread nD τ) none Set.univ) (dutR m c l hs) (amtR m c l _ _ _) (payR m c l s 0) hp (by omega)) $$ [Hcr Ho Hat]
  · isplitr; · iexact HC
    isplitl [Hcr]; · iexact Hcr
    isplitl [Ho]; · iexact Ho
    iexact Hat
  iintro ⟨Ho, Hat, Hr, Hpay⟩
  iapply Hk
  isplitr [Ho]
  · isplitl [Hpay]; · iexact Hpay
    isplitl [H2]; · iexact H2
    isplitl [Hat Hr]
    · rw [m2_add, show (s + 2) / 2 = s / 2 + 1 by omega]
      isplitl [Hat]; · iexact Hat
      iexact Hr
    isplitl [Hp1]; · iexact Hp1
    isplitl [Hk0]
    · iapply (show (RDK c l s : sProp 𝕄) ⊢ readerAt EL (c, l, m2 s) (s / 2 + 1) from by
        unfold RDK; rw [if_pos hs]; iintro ⟨H, -⟩; iexact H)
      iexact Hk0
    isplitl [Hk1]; · iexact Hk1
    isplitl [Ht]; · iexact Ht
    isplitl [Hc]; · iexact Hc
    isplitl [H5]; · iexact H5
    isplitl [H6]; · iexact H6
    iexact H1
  · iexact Ho

theorem rs_skipS {s : ℕ} (hs : s = 0) : (R3 m c l s : sProp 𝕄) ⊢ R4 m c l s := by
  subst hs
  unfold R3 R4 Oth
  rw [if_pos rfl]
  iintro ⟨H1, ⟨H2, H3⟩, H4⟩
  isplitl [H1]; · iexact H1
  isplitl [H2]; · iexact H2
  isplitl [H3]; · iexact H3
  iexact H4

theorem PSf_wait {α : Type} {Q : α → sProp 𝕄} {j p : ℕ} (hj : j < 31) (hp : 0 < p)
    {o1 : Fin 2 → ℕ} {i1 : ∀ a : Fin S4x2.rank, o1 a + S1x1.size a ≤ S4x2.size a} (h1 : o1 = ![l.val, (m2 j).val])
    {o2 : Fin 4 → ℕ} {i2 : ∀ a : Fin S4x2x256x1024.rank, o2 a + S1x1x256x1024.size a ≤ S4x2x256x1024.size a}
    {w1 w2} {k : PUnit → Prog (TpuEff nD τ sig (Elt F) Λ₀ .tc) α} :
    iprop(Ctx m K κ ∗ PSf c l j ∗ Owes c p)
      ⊢ iprop(((accFree c l (m2 j) ∗ PS c l (j + 2) ∗ Owes c p) -∗ WP c (k ⟨⟩) Q)
          -∗ WP c (.op (.waitDma2 ((cc0_scratch4.slice (Rect.unit (s := S4x2) o1 S1x1.size i1)).squeeze S_ squeezes_S1x1_S_).sem
              (d2 rcvB o2 i2)
              (d2 accB o2 i2) w1 w2) k) Q) := by
  subst h1
  unfold PSf PS
  iintro ⟨#HC, ⟨⟨Hat, -⟩, Hcr⟩, Ho⟩ Hk
  iapply (wait1 m K κ c (w := .waitDma2 (rsS l (m2 j)) (d2 rcvB o2 i2) (d2 accB o2 i2) w1 w2) (k := some (l, kS (m2 j))) (n := N) (R := j / 2) (i := 0) (csem_S l (m2 j))
    (wpE_waitDma2_eq 𝒱₀ (c : Thread nD τ) none Set.univ) (dutS m c l hj) (amtS m c l _ _ _) (payS m c l _ _ 0) hp (by omega)) $$ [Hcr Ho Hat]
  · isplitr; · iexact HC
    isplitl [Hcr]; · iexact Hcr
    isplitl [Ho]; · iexact Ho
    iexact Hat
  iintro ⟨Ho, Hat, Hr, Hpay⟩
  iapply Hk
  isplitl [Hpay]; · iexact Hpay
  isplitr [Ho]
  · rw [m2_add, show (j + 2) / 2 = j / 2 + 1 by omega]
    isplitl [Hat]; · iexact Hat
    iexact Hr
  · iexact Ho

theorem rs_waitS {α : Type} {Q : α → sProp 𝕄} {s p : ℕ} (hs : s ≠ 0) (hs' : s < 31) (hp : 0 < p)
    {o1 : Fin 2 → ℕ} {i1 : ∀ a : Fin S4x2.rank, o1 a + S1x1.size a ≤ S4x2.size a} (h1 : o1 = ![l.val, (m2 (s + 1)).val])
    {o2 : Fin 4 → ℕ} {i2 : ∀ a : Fin S4x2x256x1024.rank, o2 a + S1x1x256x1024.size a ≤ S4x2x256x1024.size a}
    {w1 w2} {k : PUnit → Prog (TpuEff nD τ sig (Elt F) Λ₀ .tc) α} :
    iprop(Ctx m K κ ∗ R3 m c l s ∗ Owes c p)
      ⊢ iprop(((R4 m c l s ∗ Owes c p) -∗ WP c (k ⟨⟩) Q)
          -∗ WP c (.op (.waitDma2 ((cc0_scratch4.slice (Rect.unit (s := S4x2) o1 S1x1.size i1)).squeeze S_ squeezes_S1x1_S_).sem
              (d2 rcvB o2 i2)
              (d2 accB o2 i2) w1 w2) k) Q) := by
  unfold R3 R4 Oth
  rw [if_neg hs]
  iintro ⟨#HC, ⟨H1, H2, H3⟩, Ho⟩ Hk
  iapply (PSf_wait m K κ c l (j := s - 1) (show s - 1 < 31 by omega) hp (h1.trans (by rw [m2_sub hs]))) $$ [H2 Ho]
  · isplitr; · iexact HC
    isplitl [H2]; · iexact H2
    iexact Ho
  rw [m2_sub hs, show s - 1 + 2 = s + 1 by omega]
  iintro ⟨Ha, Hp, Ho⟩
  iapply Hk
  isplitr [Ho]
  · isplitl [H1]; · iexact H1
    isplitl [Ha]; · iexact Ha
    isplitl [Hp]; · iexact Hp
    iexact H3
  · iexact Ho

theorem rs_ldR {α : Type} {Q : α → sProp 𝕄} {s : ℕ}
    {o2 : Fin 4 → ℕ} {i2 : ∀ a : Fin S4x2x256x1024.rank, o2 a + S1x1x256x1024.size a ≤ S4x2x256x1024.size a} (h2 : o2 = ![l.val, (m2 s).val, 0, 0])
    {hl : rcvB.view.LoadsAt (Rect.unit (s := S4x2x256x1024) o2 S1x1x256x1024.size i2).toLoadRect}
    {k : (S1x1x256x1024.Idx → Elt F .bf16) → Prog (TpuEff nD τ sig (Elt F) Λ₀ .tc) α} :
    (R4 m c l s : sProp 𝕄) ⊢ iprop((R4 m c l s -∗ WP c (k (accV m l s (src l c))) Q)
          -∗ WP c (.op (.load rcvB (Rect.unit (s := S4x2x256x1024) o2 S1x1x256x1024.size i2).toLoadRect hl) k) Q) := by
  unfold R4
  iintro ⟨H1, H2⟩ Hk
  iapply (ld2 rcvB c l (m2 s) _ _ _ h2) $$ H1
  iintro H1
  iapply Hk
  isplitl [H1]; · iexact H1
  iexact H2

theorem rs_ldA {α : Type} {Q : α → sProp 𝕄} {s : ℕ}
    {o2 : Fin 4 → ℕ} {i2 : ∀ a : Fin S4x2x256x1024.rank, o2 a + S1x1x256x1024.size a ≤ S4x2x256x1024.size a} (h2 : o2 = ![l.val, (m2 (s + 1)).val, 0, 0])
    {hl : accB.view.LoadsAt (Rect.unit (s := S4x2x256x1024) o2 S1x1x256x1024.size i2).toLoadRect}
    {k : (S1x1x256x1024.Idx → Elt F .bf16) → Prog (TpuEff nD τ sig (Elt F) Λ₀ .tc) α} :
    (R4 m c l s : sProp 𝕄) ⊢ iprop((∀ X, R4 m c l s -∗ WP c (k X) Q)
          -∗ WP c (.op (.load accB (Rect.unit (s := S4x2x256x1024) o2 S1x1x256x1024.size i2).toLoadRect hl) k) Q) := by
  unfold R4
  iintro ⟨H1, H2, H3⟩ Hk
  iapply (ld2f accB c l (m2 (s + 1)) _ _ h2) $$ H2
  iintro %X H2
  iapply Hk
  isplitl [H1]; · iexact H1
  isplitl [H2]; · iexact H2
  iexact H3

theorem rs_stA {α : Type} {Q : α → sProp 𝕄} {s : ℕ} {w : S1x1x256x1024.Idx → Elt F .bf16} (hw : w = accV m l (s + 1) c)
    {o2 : Fin 4 → ℕ} {i2 : ∀ a : Fin S4x2x256x1024.rank, o2 a + S1x1x256x1024.size a ≤ S4x2x256x1024.size a} (h2 : o2 = ![l.val, (m2 (s + 1)).val, 0, 0])
    {h3 : (accB.access (Rect.unit (s := S4x2x256x1024) o2 S1x1x256x1024.size i2)).Stores Finset.univ}
    {h4 : (Finset.univ : Finset (Rect.unit (s := S4x2x256x1024) o2 S1x1x256x1024.size i2).shape.Idx) = Finset.univ ∨ ∀ a, (Rect.unit (s := S4x2x256x1024) o2 S1x1x256x1024.size i2).stride a = 1}
    {k : PUnit → Prog (TpuEff nD τ sig (Elt F) Λ₀ .tc) α} :
    (R4 m c l s : sProp 𝕄) ⊢ iprop((R5 m c l s -∗ WP c (k ⟨⟩) Q)
          -∗ WP c (.op (.store accB (Rect.unit (s := S4x2x256x1024) o2 S1x1x256x1024.size i2) w Finset.univ h3 h4) k) Q) := by
  subst hw
  unfold R4 R5
  iintro ⟨H1, H2, H3⟩ Hk
  iapply (st2 accB c l (m2 (s + 1)) _ _ _ h2) $$ H2
  iintro H2
  iapply Hk
  isplitl [H1]; · iexact H1
  isplitl [H2]; · iexact H2
  iexact H3

omit [FloatOps F] in
theorem slotS_two (k : RK) : iprop(slotS k ∗ slotS k) ⊢ (False : sProp 𝕄) := by
  unfold slotS rcvFree free2
  refine slot_slot_false ?_
  exact View.set_nonempty (by decide)

theorem PSf_Oth (s : ℕ) : (PSf c l s : sProp 𝕄) ⊢ Oth c l (s + 1) := by
  unfold Oth; rw [if_neg (by omega)]; exact .rfl

/-- The end of a step without a credit. -/
theorem rs_skipG {s : ℕ} (hs : 29 ≤ s) (hs' : s < 31) : (R5 m c l s : sProp 𝕄) ⊢ R0 m c l (s + 1) := by
  unfold R5 R0 Rw Rw'
  iintro ⟨H1, H2, H3, Hp2, Hp1, -, Hk1, Ht, Hc, HC, Hs, Hf⟩
  isplitl [H2]; · iexact H2
  isplitl [H3]; · iexact H3
  isplitl [Hf]; · iapply (PSf_Oth c l s); iexact Hf
  isplitl [H1 Hp2 Hp1 Hk1 Ht Hc]
  · isplitl [Hp1]; · iexact Hp1
    isplitl [Hp2]; · iexact Hp2
    isplitl [Hk1]; · iexact Hk1
    isplitl [H1]
    · unfold RDK; rw [if_neg (by omega), m2_add]
      iapply (at2_free rcvB c l (m2 s) _); iexact H1
    isplitl [Ht]; · iexact Ht
    iapply (show (TkC c l s : sProp 𝕄) ⊢ TkC c l (s + 1) from by
      unfold TkC; rw [Finset.Ico_eq_empty (by omega), Finset.Ico_eq_empty (by omega)])
    iexact Hc
  isplitl [HC]; · iexact HC
  iexact Hs

theorem rs_signal {α : Type} {Q : α → sProp 𝕄} {s p : ℕ} (hs : s < 29) (hp : p = 16 * (s + 1) + 8 + l.val)
    {off : Fin 1 → ℕ} {inb : ∀ a : Fin S4.rank, off a + S1.size a ≤ S4.size a} (hoff : off = ![l.val])
    {n : Dev nD} (hn : n = src l c) {k : PUnit → Prog (TpuEff nD τ sig (Elt F) Λ₀ .tc) α} :
    iprop(Ctx m K κ ∗ R5 m c l s ∗ Owes c p)
      ⊢ iprop(((R0 m c l (s + 1) ∗ Owes c (p + 1)) -∗ WP c (k ⟨⟩) Q)
          -∗ WP c (.op (.semSignal (Dev.tc n) ((cc0_scratch9.slice (Rect.unit (s := S4) off S1.size inb)).squeeze S_ squeezes_S1_S_).sem 1) k) Q) := by
  subst hp hoff hn
  have hlt := l.isLt
  unfold R5 R0 Rw Rw' PR Owes
  iintro ⟨#HC, ⟨H1, H2, H3, ⟨Hp2, #Hr2⟩, ⟨Hp1, #Hr1⟩, Hrd, Hk1, Ht, Hc, Hrc, Hs, Hf⟩, ⟨%W, Ho⟩⟩ Hk
  imod (slot_release EL (ι := κ (c, l, m2 s)) (S := slotS (F := F) (c, l, m2 s)) (Set.mem_univ _) (slotS_two (c, l, m2 s)) (s / 2 + 1)) $$ [H1 Hrd] with ⟨Hrd, #Hrel2⟩
  · isplitr; · iapply (Ctx_slot m K κ (c, l, m2 s)); iexact HC
    isplitl [Hrd]; · iexact Hrd
    iapply (show (rcvAt c l (m2 s) (accV m l s (src l c)) : sProp 𝕄) ⊢ slotS (c, l, m2 s) from at2_free rcvB c l (m2 s) _); iexact H1
  icases (show (RDK c l (s + 1) : sProp 𝕄) ⊢ iprop(readerAt EL (c, l, m2 (s + 1)) ((s + 1) / 2 + 1) ∗ released EL (c, l, m2 (s + 1)) ((s + 1) / 2 + 1)) from by
    unfold RDK; rw [if_pos (by omega)]) $$ Hk1 with ⟨Hk1, #Hrel1⟩
  icases (show (TkC c l s : sProp 𝕄) ⊢ iprop(dutyTok ER (cC (src l c) l) 0 s ∗ TkC c l (s + 1)) from by
    unfold TkC; exact ico_pop hs _) $$ Hc with ⟨Hd, Hc⟩
  iapply (Rounds.wp_signal 𝒱₀ ER (Rd m) (c : Thread nD τ) none (dst := (src l c : Thread nD τ)) (κ := K (src l c, some (l, 12))) (d := s) (r := 0)
    (by rw [dutC m (src l c) l]; exact Finset.mem_range.mpr hs) (amtC m (src l c) l 0 s) (16 * (s + 1) + 8 + l.val) (O c (16 * (s + 1) + 8 + l.val + 1))
    ((O_step c (by omega)).trans (congrArg _ (due_rc c l hs))) (W := W)) $$ [Ho Hd]
  · isplitr; · iapply (Ctx_C m K κ (src l c) l); iexact HC
    isplitl [Ho]; · iexact Ho
    isplitl [Hd]; · iexact Hd
    isplitr
    · iapply (Entails.of_eq (payC m (src l c) l 0 s).symm)
      unfold Kn
      rw [dst_src, m2_add, show (s + 2) / 2 = s / 2 + 1 by omega]
      isplitr
      · isplitr; · iexact Hrel1
        iexact Hr1
      · isplitr; · iexact Hrel2
        iexact Hr2
    · iapply (Ctx_C0 m K κ (src l c) l); iexact HC
  iintro Ho
  iapply Hk
  isplitr [Ho]
  · isplitl [H2]; · iexact H2
    isplitl [H3]; · iexact H3
    isplitl [Hf]; · iapply (PSf_Oth c l s); iexact Hf
    isplitl [Hp2 Hp1 Hrd Hk1 Ht Hc]
    · isplitl [Hp1]
      · isplitl [Hp1]; · iexact Hp1
        iexact Hr1
      isplitl [Hp2]
      · isplitl [Hp2]; · iexact Hp2
        iexact Hr2
      isplitl [Hk1]
      · unfold RDK; rw [if_pos (by omega)]
        isplitl [Hk1]; · iexact Hk1
        iexact Hrel1
      isplitl [Hrd]
      · unfold RDK; rw [if_pos (by omega), m2_add, show (s + 1 + 1) / 2 = s / 2 + 1 by omega]
        isplitl [Hrd]; · iexact Hrd
        iexact Hrel2
      isplitl [Ht]; · iexact Ht
      iexact Hc
    isplitl [Hrc]; · iexact Hrc
    iexact Hs
  · iexists W; iexact Ho

end Ops

end Cert.KernelIdealProof
-- ==== Proof.KernelIdealRsLoop.lean ====
/-
  The steps of the reduce-scatter loop.
-/
module

public import proofs.«01_k».proof.Proof.KernelIdealRs

@[expose] public section

noncomputable section

namespace Cert.KernelIdealProof

open Cert.KernelIdeal Cert.KernelIdeal.Gen Idealize.ShloMosaic TcCoe Rounds Release Idealize.SL RA BI BI.BIBase BI.Laws ProofMode Idealize.SL.Sem
open scoped Idealize.SL.BI
open Pipeline (Dat Cfg Window BodyObligation cellOf)

variable {F : FTy → Type} [FloatOps F]

local notation "𝕄" => MT nD τ sig ℕ (Elt F) ℕ UU ℕ

variable (m : (ℓ : Loc nD τ sig) → Buf (Elt F) ℓ)
variable (K : Dev nD × CK → ℕ) (κ : RK → ℕ)

/-! ## The steps of the reduce-scatter loop -/

/-- A branch that leads to the program after it, joined with the case in which it is not taken. -/
theorem cond_mid {c : Dev nD} {α : Type} {Q : α → sProp 𝕄} {P P' : sProp 𝕄} {C : Prop} [Decidable C]
    {A : C → Prog (TpuEff nD τ sig (Elt F) Λ₀ .tc) α} {q : Prog (TpuEff nD τ sig (Elt F) Λ₀ .tc) α}
    (hp : ∀ h : C, (P' ⊢ WP c q Q) → (P ⊢ WP c (A h) Q)) (hn : ¬C → (P ⊢ P')) (h : P' ⊢ WP c q Q) :
    P ⊢ WP c (dite C A (fun _ => q)) Q := by
  by_cases hC : C
  · rw [dif_pos hC]; exact hp hC h
  · rw [dif_neg hC]; exact (hn hC).trans h

/-- The blocks of the two inputs that a device's kernel reads. -/
def EX (c : Dev nD) : sProp 𝕄 :=
  iprop((xM.view.loc (c : Thread nD τ) ↦[Finset.univ]{fullShare} xs m c) ∗ (wM.view.loc (c : Thread nD τ) ↦[Finset.univ]{fullShare} ws m c))

theorem ldX {α : Type} {Q : α → sProp 𝕄} (c : Dev nD) (i : ℕ) {off : Fin 2 → ℕ} {inb : ∀ a : Fin S8192x256.rank, off a + S256x256.size a ≤ S8192x256.size a}
    (hoff : off = ![256 * (i % 32), 0]) {hl : xM.view.LoadsAt (Rect.unit (s := S8192x256) off S256x256.size inb).toLoadRect}
    {k : (S256x256.Idx → Elt F .bf16) → Prog (TpuEff nD τ sig (Elt F) Λ₀ .tc) α} :
    EX m c ⊢ iprop((EX m c -∗ WP c (k (xrow m c i)) Q)
      -∗ WP c (.op (.load xM (Rect.unit (s := S8192x256) off S256x256.size inb).toLoadRect hl) k) Q) := by
  subst hoff
  unfold EX
  iintro ⟨H, Hw⟩ Hk
  iapply (wp_load 𝒱₀ (c : Thread nD τ) none Set.univ (m := xM) (Finset.subset_univ _)) $$ H
  iintro H
  iapply Hk
  isplitl [H]; · iexact H
  iexact Hw

theorem ldW {α : Type} {Q : α → sProp 𝕄} (c : Dev nD) (l : Fin 4) {off : Fin 2 → ℕ} {inb : ∀ a : Fin S256x4096.rank, off a + S256x1024.size a ≤ S256x4096.size a}
    (hoff : off = ![0, 1024 * l.val]) {hl : wM.view.LoadsAt (Rect.unit (s := S256x4096) off S256x1024.size inb).toLoadRect}
    {k : (S256x1024.Idx → Elt F .bf16) → Prog (TpuEff nD τ sig (Elt F) Λ₀ .tc) α} :
    EX m c ⊢ iprop((EX m c -∗ WP c (k (wcol m c l)) Q)
      -∗ WP c (.op (.load wM (Rect.unit (s := S256x4096) off S256x1024.size inb).toLoadRect hl) k) Q) := by
  subst hoff
  unfold EX
  iintro ⟨Hx, H⟩ Hk
  iapply (wp_load 𝒱₀ (c : Thread nD τ) none Set.univ (m := wM) (Finset.subset_univ _)) $$ H
  iintro H
  iapply Hk
  isplitl [Hx]; · iexact Hx
  iexact H

theorem rsTrips : k0_t1_loop.trips = 31 := by decide

theorem guard_ge (s : Fin k0_t1_loop.trips) :
    Scalar.cmpi .ne (Scalar.extui (Scalar.cmpi .sge (Scf.iv 0#32 1#32 s) 2#32)) 0#32 = 1#1 ↔ 2 ≤ s.val := by revert s; decide
theorem cond2_iff (s : Fin k0_t1_loop.trips) : k0_cond2 s = 1#1 ↔ s.val ≠ 0 := by revert s; decide
theorem cond4_iff (s : Fin k0_t1_loop.trips) : k0_cond4 s = 1#1 ↔ s.val ≠ 0 := by revert s; decide
theorem cond6_iff (s : Fin k0_t1_loop.trips) : k0_cond6 s = 1#1 ↔ s.val ≠ 0 := by revert s; decide
theorem cond8_iff (s : Fin k0_t1_loop.trips) : k0_cond8 s = 1#1 ↔ s.val ≠ 0 := by revert s; decide
theorem cond3_iff (s : Fin k0_t1_loop.trips) : k0_cond3 s = 1#1 ↔ s.val < 29 := by revert s; decide
theorem cond5_iff (s : Fin k0_t1_loop.trips) : k0_cond5 s = 1#1 ↔ s.val < 29 := by revert s; decide
theorem cond7_iff (s : Fin k0_t1_loop.trips) : k0_cond7 s = 1#1 ↔ s.val < 29 := by revert s; decide
theorem cond9_iff (s : Fin k0_t1_loop.trips) : k0_cond9 s = 1#1 ↔ s.val < 29 := by revert s; decide

theorem not_guard {C : Prop} {n k : ℕ} (h : C ↔ k ≤ n) (hn : ¬C) : n < k := Nat.lt_of_not_le (fun h' => hn (h.mpr h'))
theorem not_ne {C : Prop} {n : ℕ} (h : C ↔ n ≠ 0) (hn : ¬C) : n = 0 := by by_contra h'; exact hn (h.mpr h')
theorem not_lt' {C : Prop} {n k : ℕ} (h : C ↔ n < k) (hn : ¬C) : k ≤ n := Nat.le_of_not_lt (fun h' => hn (h.mpr h'))

/-- The debts of a trip: none lies between its sends and its credits. -/
theorem Owes_gap (c : Dev nD) {s : ℕ} (hs : s < 31) : (Owes c (16 * (s + 1) + 4) : sProp 𝕄) ⊢ Owes c (16 * (s + 1) + 8) :=
  Owes_skip c (by omega) (by omega) (fun q h1 h2 => by unfold idle; omega)
theorem Owes_none (c : Dev nD) {s l : ℕ} (hs : s < 31) (hs' : 29 ≤ s) (hl : l < 4) : (Owes c (16 * (s + 1) + 8 + l) : sProp 𝕄) ⊢ Owes c (16 * (s + 1) + 8 + l + 1) :=
  Owes_skip c (by omega) (by omega) (fun q h1 h2 => by unfold idle; omega)
theorem Owes_next (c : Dev nD) {s : ℕ} (hs : s < 31) : (Owes c (16 * (s + 1) + 12) : sProp 𝕄) ⊢ Owes c (16 * (s + 1 + 1)) :=
  Owes_skip c (by omega) (by omega) (fun q h1 h2 => by unfold idle; omega)

theorem part1_spec (c : Dev nD) (E : sProp 𝕄) (h0 : xM.IsWhole) (h1 : wM.IsWhole) (h2 : oM.IsWhole) (h3 : accB.IsWhole) (h4 : rcvB.IsWhole) (h5 : agB.IsWhole) (h6 : stB.IsWhole) (v7 : BitVec 32) (s : Fin k0_t1_loop.trips) :
    Bd m K κ c E (R0 m c 0 s.val) (R0 m c 1 s.val) (R0 m c 2 s.val) (R0 m c 3 s.val) (16 * (s.val + 1))
      ⊢ WP c (k0_part1 xM h0 wM h1 oM h2 accB h3 rcvB h4 agB h5 stB h6 cc0_scratch4 cc0_scratch5 cc0_scratch6 cc0_scratch7 cc0_scratch8 cc0_scratch9 cc0_scratch10 c v7 0#32 1#32 s)
          (fun _ => iprop(⌜True⌝ ∗ Bd m K κ c E (R2 c 0 s.val) (R2 c 1 s.val) (R1 m c 2 s.val) (R1 m c 3 s.val) (16 * (s.val + 1) + 1 + 1))) := by
  have hs : s.val < 31 := rsTrips ▸ s.isLt
  rw [k0_part1_eq_skeleton]
  unfold k0_part1_skel
  simp only [semWaitWord, Prog.lift, Prog.bind_op, Prog.bind_ret, Prog.pure_eq_ret]
  refine cond_mid (fun h hk => chain (fr0 (rs_waitC m K κ c 0 ((guard_ge s).mp h) hs (by omega) rfl))
      (chain (fr1 (rs_waitC m K κ c 1 ((guard_ge s).mp h) hs (by omega) rfl))
      (chain (fr2 (rs_waitC m K κ c 2 ((guard_ge s).mp h) hs (by omega) rfl))
      (chain (fr3 (rs_waitC m K κ c 3 ((guard_ge s).mp h) hs (by omega) rfl)) hk))))
    (fun h => have h2 := not_guard (guard_ge s) h
      mono4 (rs_skipC m c 0 h2) (rs_skipC m c 1 h2) (rs_skipC m c 2 h2) (rs_skipC m c 3 h2) .rfl) ?_
  refine chain (fr0 (rs_send m K κ c 0 hs rfl (k0_off2_eq s) (k0_off3_eq s) (Fin.ext (k0_dev3_eq c)))) ?_
  refine chain (fr1 (rs_send m K κ c 1 hs rfl (k0_off4_eq s) (k0_off5_eq s) (Fin.ext (k0_dev4_eq c)))) ?_
  exact spec_ret trivial

theorem part2_spec (c : Dev nD) (h0 : xM.IsWhole) (h1 : wM.IsWhole) (h2 : oM.IsWhole) (h3 : accB.IsWhole) (h4 : rcvB.IsWhole) (h5 : agB.IsWhole) (h6 : stB.IsWhole) (v2 v5 a14 c1 : BitVec 32) (s : Fin k0_t1_loop.trips) :
    Bd m K κ c (EX m c) (R2 c 0 s.val) (R2 c 1 s.val) (R1 m c 2 s.val) (R1 m c 3 s.val) (16 * (s.val + 1) + 1 + 1)
      ⊢ WP c (k0_part2 xM h0 wM h1 oM h2 accB h3 rcvB h4 agB h5 stB h6 cc0_scratch4 cc0_scratch5 cc0_scratch6 cc0_scratch7 cc0_scratch8 cc0_scratch9 cc0_scratch10 c v2 v5 s a14 c1)
          (fun v => iprop(⌜v.2.2.1 = k0_pay1 (xrow m c (rsRow 0 c s.val)) ∧ v.2.2.2.1 = k0_pay2 (wcol m c 0) ∧ v.2.2.2.2 = constant S256x1024 .f32 0x00000000#32⌝
            ∗ Bd m K κ c (EX m c) (R2 c 0 s.val) (R2 c 1 s.val) (R2 c 2 s.val) (R2 c 3 s.val) (16 * (s.val + 1) + 1 + 1 + 1 + 1))) := by
  have hs : s.val < 31 := rsTrips ▸ s.isLt
  rw [k0_part2_eq_skeleton]
  unfold k0_part2_skel
  simp only [semWaitWord, Prog.lift, Prog.bind_op, Prog.bind_ret, Prog.pure_eq_ret]
  refine chain (fr2 (rs_send m K κ c 2 hs rfl (k0_off6_eq s) (k0_off7_eq s) (Fin.ext (k0_dev5_eq c)))) ?_
  refine chain (fr3 (rs_send m K κ c 3 hs rfl (k0_off8_eq s) (k0_off9_eq s) (Fin.ext (k0_dev6_eq c)))) ?_
  refine chain (frE (ldX m c (rsRow 0 c s.val) (k0_off10_eq c s))) ?_
  refine chain (frE (ldW m c 0 rfl)) ?_
  exact spec_ret ⟨rfl, rfl, rfl⟩

theorem part3_spec (c : Dev nD) (h0 : xM.IsWhole) (h1 : wM.IsWhole) (h2 : oM.IsWhole) (h3 : accB.IsWhole) (h4 : rcvB.IsWhole) (h5 : agB.IsWhole) (h6 : stB.IsWhole) (v7 a14 v305 v308 : BitVec 32) (v312 : FVec F S256x256 .bf16) (v314 : FVec F S256x1024 .bf16) (cst : FVec F S256x1024 .f32) (s : Fin k0_t1_loop.trips) :
    Bd m K κ c (EX m c) (R2 c 0 s.val) (R2 c 1 s.val) (R2 c 2 s.val) (R2 c 3 s.val) (16 * (s.val + 1) + 4)
      ⊢ WP c (k0_part3 xM h0 wM h1 oM h2 accB h3 rcvB h4 agB h5 stB h6 cc0_scratch4 cc0_scratch5 cc0_scratch6 cc0_scratch7 cc0_scratch8 cc0_scratch9 cc0_scratch10 c v7 s a14 v305 v308 v312 v314 cst)
          (fun v => iprop(⌜v.1 = k0_pay3 v312 v314 cst ∧ v.2.1 = mmV 1 (xrow m c (rsRow 1 c s.val)) (wcol m c 1)
              ∧ v.2.2.1 = mmV 2 (xrow m c (rsRow 2 c s.val)) (wcol m c 2) ∧ v.2.2.2.1 = mmV 3 (xrow m c (rsRow 3 c s.val)) (wcol m c 3)⌝
            ∗ Bd m K κ c (EX m c) (R3 m c 0 s.val) (R2 c 1 s.val) (R2 c 2 s.val) (R2 c 3 s.val) (16 * (s.val + 1) + 4))) := by
  have hs : s.val < 31 := rsTrips ▸ s.isLt
  rw [k0_part3_eq_skeleton]
  unfold k0_part3_skel
  simp only [semWaitWord, Prog.lift, Prog.bind_op, Prog.bind_ret, Prog.pure_eq_ret]
  refine chain (frE (ldX m c (rsRow 1 c s.val) (k0_off10_eq c s))) ?_
  refine chain (frE (ldW m c 1 rfl)) ?_
  refine chain (frE (ldX m c (rsRow 2 c s.val) (k0_off11_eq c s))) ?_
  refine chain (frE (ldW m c 2 rfl)) ?_
  refine chain (frE (ldX m c (rsRow 3 c s.val) (k0_off11_eq c s))) ?_
  refine chain (frE (ldW m c 3 rfl)) ?_
  refine chain (fr0 (rs_recv m K κ c 0 hs (Nat.add_lt_add_left (by decide) _) (k0_off2_eq s))) ?_
  exact spec_ret ⟨rfl, rfl, rfl, rfl⟩

theorem part4_spec (c : Dev nD) (E : sProp 𝕄) (h0 : xM.IsWhole) (h1 : wM.IsWhole) (h2 : oM.IsWhole) (h3 : accB.IsWhole) (h4 : rcvB.IsWhole) (h5 : agB.IsWhole) (h6 : stB.IsWhole) (v5 v7 a14 v256 v258 v346 c0 : BitVec 32) (v315 v322 : FVec F S256x1024 .f32) (s : Fin k0_t1_loop.trips)
    (h315 : v315 = mmV 0 (xrow m c (rsRow 0 c s.val)) (wcol m c 0)) :
    Bd m K κ c E (R3 m c 0 s.val) (R2 c 1 s.val) (R2 c 2 s.val) (R2 c 3 s.val) (16 * (s.val + 1) + 8)
      ⊢ WP c (k0_part4 xM h0 wM h1 oM h2 accB h3 rcvB h4 agB h5 stB h6 cc0_scratch4 cc0_scratch5 cc0_scratch6 cc0_scratch7 cc0_scratch8 cc0_scratch9 cc0_scratch10 c v5 v7 s a14 v256 v258 v315 v322 v346 c0)
          (fun v => iprop(⌜v = k0_pay8 v322 (accV m 1 s.val (src 1 c))⌝
            ∗ Bd m K κ c E (R0 m c 0 (s.val + 1)) (R4 m c 1 s.val) (R2 c 2 s.val) (R2 c 3 s.val) (16 * (s.val + 1) + 8 + 1))) := by
  have hs : s.val < 31 := rsTrips ▸ s.isLt
  rw [k0_part4_eq_skeleton]
  unfold k0_part4_skel
  simp only [semWaitWord, semSignalWord, Prog.lift, Prog.bind_op, Prog.bind_ret, Prog.pure_eq_ret]
  refine cond_mid (fun h hk => chain (fr0 (rs_waitS m K κ c 0 ((cond2_iff s).mp h) hs (by omega) (k0_off12_eq s))) hk)
    (fun h => mono4 (rs_skipS m c 0 (not_ne (cond2_iff s) h)) .rfl .rfl .rfl .rfl) ?_
  refine chain (rd0 (rs_ldR m c 0 (k0_off14_eq s))) ?_
  refine chainA (rdA0 (rs_ldA m c 0 (k0_off15_eq s))) (fun _ => ?_)
  refine chain (rd0 (rs_stA m c 0 (by rw [h315]; rfl) (k0_off15_eq s))) ?_
  refine cond_mid (fun h hk => chain (fr0 (rs_signal m K κ c 0 ((cond3_iff s).mp h) rfl rfl (Fin.ext (k0_dev7_eq c)))) hk)
    (fun h => mono4 (rs_skipG m c 0 (not_lt' (cond3_iff s) h) hs) .rfl .rfl .rfl (Owes_none c (l := 0) hs (not_lt' (cond3_iff s) h) (by decide))) ?_
  refine chain (fr1 (rs_recv m K κ c 1 hs (by show _ + 1 < _; omega) (k0_off4_eq s))) ?_
  refine cond_mid (fun h hk => chain (fr1 (rs_waitS m K κ c 1 ((cond4_iff s).mp h) hs (by omega) (k0_off16_eq s))) hk)
    (fun h => mono4 .rfl (rs_skipS m c 1 (not_ne (cond4_iff s) h)) .rfl .rfl .rfl) ?_
  refine chain (rd1 (rs_ldR m c 1 (k0_off18_eq s))) ?_
  exact spec_ret rfl

theorem part5_spec (c : Dev nD) (E : sProp 𝕄) (h0 : xM.IsWhole) (h1 : wM.IsWhole) (h2 : oM.IsWhole) (h3 : accB.IsWhole) (h4 : rcvB.IsWhole) (h5 : agB.IsWhole) (h6 : stB.IsWhole) (v5 a14 v256 v258 : BitVec 32) (v329 : FVec F S256x1024 .f32) (v377 : FVec F S256x1024 .bf16) (s : Fin k0_t1_loop.trips)
    (h329 : v329 = mmV 2 (xrow m c (rsRow 2 c s.val)) (wcol m c 2))
    (h377 : v377 = k0_pay8 (mmV 1 (xrow m c (rsRow 1 c s.val)) (wcol m c 1)) (accV m 1 s.val (src 1 c))) :
    Bd m K κ c E (R0 m c 0 (s.val + 1)) (R4 m c 1 s.val) (R2 c 2 s.val) (R2 c 3 s.val) (16 * (s.val + 1) + 8 + 1)
      ⊢ WP c (k0_part5 xM h0 wM h1 oM h2 accB h3 rcvB h4 agB h5 stB h6 cc0_scratch4 cc0_scratch5 cc0_scratch6 cc0_scratch7 cc0_scratch8 cc0_scratch9 cc0_scratch10 c v5 s a14 v256 v258 v329 v377)
          (fun _ => iprop(⌜True⌝
            ∗ Bd m K κ c E (R0 m c 0 (s.val + 1)) (R0 m c 1 (s.val + 1)) (R5 m c 2 s.val) (R2 c 3 s.val) (16 * (s.val + 1) + 8 + 1 + 1))) := by
  have hs : s.val < 31 := rsTrips ▸ s.isLt
  rw [k0_part5_eq_skeleton]
  unfold k0_part5_skel
  simp only [semWaitWord, semSignalWord, Prog.lift, Prog.bind_op, Prog.bind_ret, Prog.pure_eq_ret]
  refine chainA (rdA1 (rs_ldA m c 1 (k0_off19_eq s))) (fun _ => ?_)
  refine chain (rd1 (rs_stA m c 1 (by rw [h377]; rfl) (k0_off19_eq s))) ?_
  refine cond_mid (fun h hk => chain (fr1 (rs_signal m K κ c 1 ((cond5_iff s).mp h) rfl rfl (Fin.ext (k0_dev8_eq c)))) hk)
    (fun h => mono4 .rfl (rs_skipG m c 1 (not_lt' (cond5_iff s) h) hs) .rfl .rfl (Owes_none c (l := 1) hs (not_lt' (cond5_iff s) h) (by decide))) ?_
  refine chain (fr2 (rs_recv m K κ c 2 hs (by show _ + 2 < _; omega) (k0_off6_eq s))) ?_
  refine cond_mid (fun h hk => chain (fr2 (rs_waitS m K κ c 2 ((cond6_iff s).mp h) hs (by omega) (k0_off20_eq s))) hk)
    (fun h => mono4 .rfl .rfl (rs_skipS m c 2 (not_ne (cond6_iff s) h)) .rfl .rfl) ?_
  refine chain (rd2 (rs_ldR m c 2 (k0_off22_eq s))) ?_
  refine chainA (rdA2 (rs_ldA m c 2 (k0_off23_eq s))) (fun _ => ?_)
  refine chain (rd2 (rs_stA m c 2 (by rw [h329]; rfl) (k0_off23_eq s))) ?_
  exact spec_ret trivial

/-- One trip of the reduce-scatter loop. -/
theorem rs_trip (c : Dev nD) (h0 : xM.IsWhole) (h1 : wM.IsWhole) (h2 : oM.IsWhole) (h3 : accB.IsWhole) (h4 : rcvB.IsWhole) (h5 : agB.IsWhole) (h6 : stB.IsWhole) (v2 v5 v7 : BitVec 32) (s : Fin k0_t1_loop.trips) (u : Unit) :
    Bd m K κ c (EX m c) (R0 m c 0 s.val) (R0 m c 1 s.val) (R0 m c 2 s.val) (R0 m c 3 s.val) (16 * (s.val + 1))
      ⊢ WP c (k0_t1_body xM h0 wM h1 oM h2 accB h3 rcvB h4 agB h5 stB h6 cc0_scratch4 cc0_scratch5 cc0_scratch6 cc0_scratch7 cc0_scratch8 cc0_scratch9 cc0_scratch10 c v2 v5 v7 0#32 1#32 s u)
          (fun _ => Bd m K κ c (EX m c) (R0 m c 0 (s.val + 1)) (R0 m c 1 (s.val + 1)) (R0 m c 2 (s.val + 1)) (R0 m c 3 (s.val + 1)) (16 * (s.val + 1 + 1))) := by
  have hs : s.val < 31 := rsTrips ▸ s.isLt
  unfold k0_t1_body
  refine spec_bind (part1_spec m K κ c _ h0 h1 h2 h3 h4 h5 h6 v7 s) (fun v hv => ?_)
  obtain ⟨a14, v256, v258, c1⟩ := v
  refine spec_bind (part2_spec m K κ c h0 h1 h2 h3 h4 h5 h6 v2 v5 a14 c1 s) (fun v hv => ?_)
  obtain ⟨v305, v308, v312, v314, cst⟩ := v
  obtain ⟨e1, e2, e3⟩ := hv
  simp only at e1 e2 e3
  subst e1 e2 e3
  refine spec_bind (part3_spec m K κ c h0 h1 h2 h3 h4 h5 h6 v7 a14 v305 v308 _ _ _ s) (fun v hv => ?_)
  obtain ⟨v315, v322, v329, v336, v346, c0⟩ := v
  obtain ⟨e1, e2, e3, e4⟩ := hv
  simp only at e1 e2 e3 e4
  subst e1 e2 e3 e4
  refine (mono4 .rfl .rfl .rfl .rfl (Owes_gap c hs)).trans ?_
  refine spec_bind (part4_spec m K κ c _ h0 h1 h2 h3 h4 h5 h6 v5 v7 a14 v256 v258 v346 c0 _ _ s rfl) (fun v hv => ?_)
  subst hv
  refine spec_bind (part5_spec m K κ c _ h0 h1 h2 h3 h4 h5 h6 v5 a14 v256 v258 _ _ s rfl rfl) (fun _ _ => ?_)
  simp only [semWaitWord, semSignalWord, Prog.lift, Prog.bind_op, Prog.bind_ret, Prog.pure_eq_ret]
  refine cond_mid (fun h hk => chain (fr2 (rs_signal m K κ c 2 ((cond7_iff s).mp h) rfl rfl (Fin.ext (k0_dev9_eq c)))) hk)
    (fun h => mono4 .rfl .rfl (rs_skipG m c 2 (not_lt' (cond7_iff s) h) hs) .rfl (Owes_none c (l := 2) hs (not_lt' (cond7_iff s) h) (by decide))) ?_
  refine chain (fr3 (rs_recv m K κ c 3 hs (by show _ + 3 < _; omega) (k0_off8_eq s))) ?_
  refine cond_mid (fun h hk => chain (fr3 (rs_waitS m K κ c 3 ((cond8_iff s).mp h) hs (by omega) (k0_off24_eq s))) hk)
    (fun h => mono4 .rfl .rfl .rfl (rs_skipS m c 3 (not_ne (cond8_iff s) h)) .rfl) ?_
  refine chain (rd3 (rs_ldR m c 3 (k0_off26_eq s))) ?_
  refine chainA (rdA3 (rs_ldA m c 3 (k0_off27_eq s))) (fun _ => ?_)
  refine chain (rd3 (rs_stA m c 3 rfl (k0_off27_eq s))) ?_
  refine cond_mid (fun h hk => chain (fr3 (rs_signal m K κ c 3 ((cond9_iff s).mp h) rfl rfl (Fin.ext (k0_dev10_eq c)))) hk)
    (fun h => mono4 .rfl .rfl .rfl (rs_skipG m c 3 (not_lt' (cond9_iff s) h) hs) (Owes_none c (l := 3) hs (not_lt' (cond9_iff s) h) (by decide))) ?_
  refine (mono4 .rfl .rfl .rfl .rfl (Owes_next c hs)).trans ?_
  unfold WP
  rw [wp_ret]
  iintro H
  imodintro
  iexact H

end Cert.KernelIdealProof
-- ==== Proof.KernelIdealAg.lean ====
/-
  One lane's steps of the all-gather and its copies to the result.
-/
module

public import proofs.«01_k».proof.Proof.KernelIdealRsLoop

@[expose] public section

noncomputable section

namespace Cert.KernelIdealProof

open Cert.KernelIdeal Cert.KernelIdeal.Gen Idealize.ShloMosaic TcCoe Rounds Release Idealize.SL RA BI BI.BIBase BI.Laws ProofMode Idealize.SL.Sem
open scoped Idealize.SL.BI
open Pipeline (Dat Cfg Window BodyObligation cellOf)

variable {F : FTy → Type} [FloatOps F]

local notation "𝕄" => MT nD τ sig ℕ (Elt F) ℕ UU ℕ

variable (m : (ℓ : Loc nD τ sig) → Buf (Elt F) ℓ)
variable (K : Dev nD × CK → ℕ) (κ : RK → ℕ)

/-! ## The all-gather of one lane -/

section State
variable (c : Dev nD) (l : Fin 4)

/-- The read-out cell of step `i` stands before that step's round; a transfer of the step is under way. -/
def PU (i : ℕ) : sProp 𝕄 := iprop(atPos ER (cU c l (m3 i)) (i / 3) ∅ 0 ∗ reached ER (cU c l (m3 i)) (i / 3))
def PUf (i : ℕ) : sProp 𝕄 := iprop(PU c l i ∗ cred (tallyAt (cU c l (m3 i)) 0 N))
/-- The landing cell of step `i` stands before that step's round. -/
def PV (i : ℕ) : sProp 𝕄 := iprop(atPos ER (cV c l (m3 (i + 1))) (i / 3) ∅ 0 ∗ reached ER (cV c l (m3 (i + 1))) (i / 3))
/-- The credit cell before step `t`, with the credits still to come. -/
def PA (t : ℕ) : sProp 𝕄 := iprop(atPos ER (cA c l) (t - 2) ∅ 0 ∗ reached ER (cA c l) (t - 2)
  ∗ bigSep (Finset.Ico (t - 2) 29) (fun j => cred (tallyAt (cA c l) (16 * (j + 33) + 8 + l.val) 1)))
/-- The receiver's slots the barrier handed over, until used. -/
def DB (t : ℕ) : sProp 𝕄 := iprop((if t = 0 then agFree (dst l c) l 1 else iprop(emp)) ∗ (if t ≤ 1 then agFree (dst l c) l 2 else iprop(emp)))
/-- The slot no credit was given for. -/
def KA (t : ℕ) : sProp 𝕄 := if t = 31 then agFree c l 2 else iprop(emp)
def TkU (t : ℕ) : sProp 𝕄 := bigSep (Finset.Ico t 31) (fun j =>
  iprop(dutyTok ER (cU c l (m3 j)) (j / 3) 0 ∗ dutyTok ER (cV (dst l c) l (m3 (j + 1))) (j / 3) 0))
def TkV (t : ℕ) : sProp 𝕄 := bigSep (Finset.Ico t 31) (fun j => cred (tallyAt (cV c l (m3 (j + 1))) (16 * (j + 32) + l.val) N))
def TkA (t : ℕ) : sProp 𝕄 := bigSep (Finset.Ico (t - 1) 29) (fun j => dutyTok ER (cA (src l c) l) j 0)

/-- The cell of the copy numbered `n` stands before that copy's round; the copy's staging slot is at hand, too; the copy is
    under way. -/
def PT (n : ℕ) : sProp 𝕄 := iprop(atPos ER (cT c l (m2 n)) (rst n) ∅ 0 ∗ reached ER (cT c l (m2 n)) (rst n))
def FreeSt (n : ℕ) : sProp 𝕄 := iprop(stFree c l (m2 n) ∗ PT c l n)
def Fl (n : ℕ) : sProp 𝕄 := iprop(PT c l n ∗ cred (tallyAt (cT c l (m2 n)) 0 NT))
/-- The staging slot step `t` uses, and the other, before it. -/
def SA (t : ℕ) : sProp 𝕄 := if t = 1 then FreeSt c l 3 else Fl c l t
def SB (t : ℕ) : sProp 𝕄 := if t = 0 then FreeSt c l 3 else Fl c l (t + 1)
def TkT (t : ℕ) : sProp 𝕄 := bigSep (Finset.Ico t 31) (fun j => dutyTok ER (cT c l (m2 (j + 2))) (rst (j + 2)) 0)
def Td (t : ℕ) : sProp 𝕄 := bigSep (Finset.Ico (t + 1) 32) (fun k => outTodo c l k)
/-- How many tiles are known to be copied before step `t`. -/
def Ds (t : ℕ) : ℕ := if t ≤ 1 then t else t - 1
def Dn (t : ℕ) : sProp 𝕄 := bigSep (Finset.range (Ds t)) (fun k => outDone m c l k)

def St0 (t : ℕ) : sProp 𝕄 := iprop(SA c l t ∗ SB c l t ∗ Td c l t ∗ Dn m c l t ∗ TkT c l t)
def St1 (t : ℕ) : sProp 𝕄 := iprop(FreeSt c l (t + 2) ∗ SB c l t ∗ Td c l t ∗ Dn m c l (t + 1) ∗ TkT c l t)
def St2 (t : ℕ) : sProp 𝕄 := iprop(stAt c l (m2 (t + 2)) (outV m l c (t + 1)) ∗ PT c l (t + 2) ∗ SB c l t ∗ Td c l t ∗ Dn m c l (t + 1) ∗ TkT c l t)

def Prv (t : ℕ) : sProp 𝕄 := if t = 0 then PU c l 2 else PUf c l (t - 1)
def Fr (t : ℕ) : sProp 𝕄 := if t = 0 then iprop(emp) else agFree c l (m3 (t + 2))
def Wv (t : ℕ) : sProp 𝕄 := iprop(PV c l t ∗ PV c l (t + 1) ∗ PV c l (t + 2) ∗ TkV c l t ∗ TkA c l t ∗ KA c l t)
def Wv' (t : ℕ) : sProp 𝕄 := iprop(PV c l (t + 1) ∗ PV c l (t + 2) ∗ PV c l (t + 3) ∗ TkV c l (t + 1) ∗ TkA c l t ∗ KA c l t
  ∗ reached ER (cA (src l c) l) (t - 1))
def Rst (t : ℕ) : sProp 𝕄 := iprop(PUf c l t ∗ PU c l (t + 1) ∗ Prv c l t ∗ PA c l (t + 1) ∗ DB c l (t + 1) ∗ TkU c l (t + 1))
def Rst' (t : ℕ) : sProp 𝕄 := iprop(PUf c l t ∗ PU c l (t + 1) ∗ PU c l (t + 2) ∗ Fr c l t ∗ PA c l (t + 1) ∗ DB c l (t + 1) ∗ TkU c l (t + 1))

/-- A lane before step `t`, once it may send, once it has sent, once the step's block has landed, once its staging slot is at
    hand, once the block is staged, once the copy is under way, once the slot of the step before is read out. -/
def A0 (t : ℕ) : sProp 𝕄 := iprop(agAt c l (m3 t) (agV m l t c) ∗ PU c l t ∗ PU c l (t + 1) ∗ Prv c l t ∗ PA c l t ∗ DB c l t ∗ TkU c l t
  ∗ St0 m c l t ∗ Wv c l t)
def A1 (t : ℕ) : sProp 𝕄 := iprop(agAt c l (m3 t) (agV m l t c) ∗ PU c l t ∗ PU c l (t + 1) ∗ Prv c l t ∗ PA c l (t + 1) ∗ DB c l (t + 1) ∗ TkU c l t
  ∗ St0 m c l t ∗ Wv c l t ∗ DK c l t)
def A2 (t : ℕ) : sProp 𝕄 := iprop(Rst c l t ∗ St0 m c l t ∗ Wv c l t)
def A3 (t : ℕ) : sProp 𝕄 := iprop(agAt c l (m3 (t + 1)) (agV m l (t + 1) c) ∗ St0 m c l t ∗ Rst c l t ∗ Wv' c l t)
def A4 (t : ℕ) : sProp 𝕄 := iprop(agAt c l (m3 (t + 1)) (agV m l (t + 1) c) ∗ St1 m c l t ∗ Rst c l t ∗ Wv' c l t)
def A5 (t : ℕ) : sProp 𝕄 := iprop(agAt c l (m3 (t + 1)) (agV m l (t + 1) c) ∗ St2 m c l t ∗ Rst c l t ∗ Wv' c l t)
def A6 (t : ℕ) : sProp 𝕄 := iprop(agAt c l (m3 (t + 1)) (agV m l (t + 1) c) ∗ St0 m c l (t + 1) ∗ Rst c l t ∗ Wv' c l t)
def A7 (t : ℕ) : sProp 𝕄 := iprop(agAt c l (m3 (t + 1)) (agV m l (t + 1) c) ∗ St0 m c l (t + 1) ∗ Rst' c l t ∗ Wv' c l t)

end State

theorem m3_add (s : ℕ) : m3 (s + 3) = m3 s := Fin.ext (show (s + 3) % 3 = s % 3 by omega)
theorem m3_sub {s : ℕ} (h : s ≠ 0) : m3 (s - 1) = m3 (s + 2) := Fin.ext (show (s - 1) % 3 = (s + 2) % 3 by omega)
theorem rst_add (n : ℕ) : rst (n + 2) = rst n + 1 ∨ n = 1 := by unfold rst; omega

section Ops
variable (c : Dev nD) (l : Fin 4)

theorem ag_skipC {t : ℕ} (ht : t < 2) : iprop(Ctx m K κ ∗ A0 m c l t) ⊢ A1 m c l t := by
  have hDB : (DB c l t : sProp 𝕄) ⊢ iprop(agFree (dst l c) l (m3 (t + 1)) ∗ DB c l (t + 1)) := by
    unfold DB
    rcases (show t = 0 ∨ t = 1 by omega) with rfl | rfl
    · rw [if_pos rfl, if_pos (by omega), if_neg (by omega), if_pos (by omega)]
      iintro ⟨H1, H2⟩
      isplitl [H1]; · iexact H1
      isplitr; · iempintro
      iexact H2
    · rw [if_neg (by omega), if_pos (by omega), if_neg (by omega), if_neg (by omega)]
      iintro ⟨H1, H2⟩
      isplitl [H2]; · iexact H2
      isplitr; · iempintro
      iempintro
  unfold A0 A1 DK
  iintro ⟨#HC, H1, H2, H3, H4, H5, H6, H7, H8, H9⟩
  icases hDB $$ H6 with ⟨H, H6⟩
  isplitl [H1]; · iexact H1
  isplitl [H2]; · iexact H2
  isplitl [H3]; · iexact H3
  isplitl [H4]; · iexact H4
  isplitl [H5]
  · unfold PA; rw [show t + 1 - 2 = t - 2 by omega]; iexact H5
  isplitl [H6]; · iexact H6
  isplitl [H7]; · iexact H7
  isplitl [H8]; · iexact H8
  isplitl [H9]; · iexact H9
  isplitl [H]; · iexact H
  rw [show t / 3 = 0 by omega, cV, ← csem_V]
  iapply (Ctx_reached m K κ (dst l c) (some (l, kV (m3 (t + 1))))); iexact HC

theorem ag_waitC {α : Type} {Q : α → sProp 𝕄} {t p : ℕ} (ht : 2 ≤ t) (ht' : t < 31) (hp : 16 * (t + 32) ≤ p)
    {off : Fin 1 → ℕ} {inb : ∀ a : Fin S4.rank, off a + S1.size a ≤ S4.size a} (hoff : off = ![l.val])
    {k : PUnit → Prog (TpuEff nD τ sig (Elt F) Λ₀ .tc) α} :
    iprop(Ctx m K κ ∗ A0 m c l t ∗ Owes c p)
      ⊢ iprop(((A1 m c l t ∗ Owes c p) -∗ WP c (k ⟨⟩) Q)
          -∗ WP c (.op (.semWait ((cc0_scratch10.slice (Rect.unit (s := S4) off S1.size inb)).squeeze S_ squeezes_S1_S_).sem 1) k) Q) := by
  subst hoff
  have hlt := l.isLt
  have hDB : (DB c l t : sProp 𝕄) ⊢ DB c l (t + 1) := by
    unfold DB
    rw [if_neg (by omega), if_neg (by omega), if_neg (by omega), if_neg (by omega)]
  unfold A0 A1 PA
  iintro ⟨#HC, ⟨H1, H2, H3, H4, ⟨Hat, -, Hcr⟩, H6, H7, H8, H9⟩, Ho⟩ Hk
  icases (ico_pop (show t - 2 < 29 by omega) _) $$ Hcr with ⟨Hc, Hcr⟩
  iapply (wait1 m K κ c (p := p) (w := .semWait (acS l) 1) (k := some (l, 13)) (n := 1) (R := t - 2) (i := 16 * (t - 2 + 33) + 8 + l.val) rfl
    (wpE_semWait_eq 𝒱₀ (c : Thread nD τ) none Set.univ) (dutA m c l (by omega)) (amtA m c l _ _) (payA m c l _ 0) (by omega) (by omega)) $$ [Hc Ho Hat]
  · isplitr; · iexact HC
    isplitl [Hc]; · iexact Hc
    isplitl [Ho]; · iexact Ho
    iexact Hat
  rw [show t - 2 + 2 = t by omega, show t - 2 + 1 = t + 1 - 2 by omega]
  iintro ⟨Ho, Hat, Hr, Hpay⟩
  iapply Hk
  isplitr [Ho]
  · isplitl [H1]; · iexact H1
    isplitl [H2]; · iexact H2
    isplitl [H3]; · iexact H3
    isplitl [H4]; · iexact H4
    isplitl [Hat Hr Hcr]
    · isplitl [Hat]; · iexact Hat
      isplitl [Hr]; · iexact Hr
      iexact Hcr
    isplitl [H6]; · iapply hDB; iexact H6
    isplitl [H7]; · iexact H7
    isplitl [H8]; · iexact H8
    isplitl [H9]; · iexact H9
    iexact Hpay
  · iexact Ho

set_option backward.isDefEq.respectTransparency false in
theorem ag_send {α : Type} {Q : α → sProp 𝕄} {t p : ℕ} (ht : t < 31) (hp : p = 16 * (t + 32) + l.val)
    {o1 : Fin 2 → ℕ} {i1 : ∀ a : Fin S4x3.rank, o1 a + S1x1.size a ≤ S4x3.size a} (h1 : o1 = ![l.val, (m3 t).val])
    {o1' : Fin 2 → ℕ} {i1' : ∀ a : Fin S4x3.rank, o1' a + S1x1.size a ≤ S4x3.size a} (h1' : o1' = ![l.val, (m3 (t + 1)).val])
    {o2 : Fin 4 → ℕ} {i2 : ∀ a : Fin S4x3x256x1024.rank, o2 a + S1x1x256x1024.size a ≤ S4x3x256x1024.size a} (h2 : o2 = ![l.val, (m3 t).val, 0, 0])
    {o2' : Fin 4 → ℕ} {i2' : ∀ a : Fin S4x3x256x1024.rank, o2' a + S1x1x256x1024.size a ≤ S4x3x256x1024.size a} (h2' : o2' = ![l.val, (m3 (t + 1)).val, 0, 0])
    {n : Dev nD} (hn : n = dst l c) {w1 w2 w3} {k : PUnit → Prog (TpuEff nD τ sig (Elt F) Λ₀ .tc) α} :
    iprop(Ctx m K κ ∗ A1 m c l t ∗ Owes c p)
      ⊢ iprop(((A2 m c l t ∗ Owes c (p + 1)) -∗ WP c (k ⟨⟩) Q)
          -∗ WP c (.op (.enqueueDma
              (d3 agB o2 i2)
              (.remote (Dev.tc n)
                (d3 agB o2' i2')
                (.dma ((cc0_scratch6.slice (Rect.unit (s := S4x3) o1 S1x1.size i1)).squeeze S_ squeezes_S1x1_S_).sem))
              (.dma ((cc0_scratch7.slice (Rect.unit (s := S4x3) o1' S1x1.size i1')).squeeze S_ squeezes_S1x1_S_).sem) w1 w2 w3) k) Q) := by
  subst hp h1 h1' h2 h2' hn
  have hlt := l.isLt
  unfold A1 A2 Rst PUf PU TkU DK Owes PA
  iintro ⟨#HC, ⟨Hag, ⟨Hat, #Hr1⟩, H3, H4, ⟨Ha1, #Hra, Ha2⟩, H6, H7, H8, H9, HS, #Hr2⟩, ⟨%W, Ho⟩⟩ Hk
  icases (ico_pop ht _) $$ H7 with ⟨⟨Hd1, Hd2⟩, H7⟩
  unfold agFree free3 slot agAt at3
  icases HS with ⟨%fd, HS⟩
  icases Hag with ⟨%fs, %hfs, Hag⟩
  iapply (Rounds.wp_send_pointsTo_with 𝒱₀ ER (Rd m) (c : Thread nD τ) none (κ₁ := K (c, some (l, kU (m3 t)))) (κ₂ := K (dst l c, some (l, kV (m3 (t + 1)))))
    (c' := (dst l c : Thread nD τ)) (src := sl3 agB l (m3 t)) (dst := sl3 agB l (m3 (t + 1))) (sS := .dma (agS l (m3 t))) (sem := .dma (agR l (m3 (t + 1))))
    (r₁ := t / 3) (r₂ := t / 3) (d₁ := 0) (d₂ := 0) (fs := fs) (fd := fd) (F := reached ER (cA c l) (t + 1 - 2))
    (by rw [dutU m c l ht]; exact Finset.mem_singleton_self _) (by rw [dutV m (dst l c) l ht]; exact Finset.mem_singleton_self _)
    (16 * (t + 32) + l.val) 0 N rfl (amtU m c l _ _ _) (amtV m (dst l c) l _ _ _) (O c (16 * (t + 32) + l.val + 1))
    ((O_step c (by omega)).trans (congrArg _ (due_ag c l ht))) (W := W)
    (by
      rw [payU]
      show _ ⊢ free3 agB c l (m3 t)
      unfold free3 slot
      iintro H; iexists fs; iexact H)
    (by
      rw [payV]
      unfold agPay
      rw [src_dst, show t + 1 - 2 = t - 1 by omega]
      iintro ⟨H, Hr⟩
      isplitl [H]
      · unfold agAt at3
        iexists _
        isplitr
        rotate_left
        · iexact H
        · ipureintro
          refine (dma33 agB agB l l (m3 t) (m3 (t + 1)) fd fs).trans (hfs.trans ?_)
          show _ = agV m l t (src l (dst l c))
          rw [src_dst]
      · iexact Hr)) $$ [Hag HS Ho Hd1 Hd2]
  · isplitr; · rw [← csem_U]; iapply (Ctx_inv m K κ c (some (l, kU (m3 t)))); iexact HC
    isplitr; · iapply (Ctx_V m K κ (dst l c) l (m3 (t + 1))); iexact HC
    isplitl [Hag]; · iexact Hag
    isplitl [HS]
    · isplitl [HS]; · iexact HS
      iexact Hra
    isplitl [Ho]; · iexact Ho
    isplitl [Hd1]; · iexact Hd1
    isplitr; · iexact Hr1
    isplitl [Hd2]; · iexact Hd2
    iexact Hr2
  iintro ⟨Hcr, Ho⟩
  iapply Hk
  isplitr [Ho]
  · isplitl [Hat Hcr H3 H4 Ha1 Ha2 H6 H7]
    · isplitl [Hat Hcr]
      · isplitl [Hat]
        · isplitl [Hat]; · iexact Hat
          iexact Hr1
        iexact Hcr
      isplitl [H3]; · iexact H3
      isplitl [H4]; · iexact H4
      isplitl [Ha1 Ha2]
      · isplitl [Ha1]; · iexact Ha1
        isplitr; · iexact Hra
        iexact Ha2
      isplitl [H6]; · iexact H6
      iexact H7
    isplitl [H8]; · iexact H8
    iexact H9
  · iexists W; iexact Ho

theorem ag_recv {α : Type} {Q : α → sProp 𝕄} {t p : ℕ} (ht : t < 31) (hp : 16 * (t + 32) + l.val < p)
    {o1 : Fin 2 → ℕ} {i1 : ∀ a : Fin S4x3.rank, o1 a + S1x1.size a ≤ S4x3.size a} (h1 : o1 = ![l.val, (m3 (t + 1)).val])
    {o2 : Fin 4 → ℕ} {i2 : ∀ a : Fin S4x3x256x1024.rank, o2 a + S1x1x256x1024.size a ≤ S4x3x256x1024.size a}
    {o2' : Fin 4 → ℕ} {i2' : ∀ a : Fin S4x3x256x1024.rank, o2' a + S1x1x256x1024.size a ≤ S4x3x256x1024.size a}
    {w1 w2} {k : PUnit → Prog (TpuEff nD τ sig (Elt F) Λ₀ .tc) α} :
    iprop(Ctx m K κ ∗ A2 m c l t ∗ Owes c p)
      ⊢ iprop(((A3 m c l t ∗ Owes c p) -∗ WP c (k ⟨⟩) Q)
          -∗ WP c (.op (.waitDma2 ((cc0_scratch7.slice (Rect.unit (s := S4x3) o1 S1x1.size i1)).squeeze S_ squeezes_S1x1_S_).sem
              (d3 agB o2 i2)
              (d3 agB o2' i2') w1 w2) k) Q) := by
  subst h1
  have hlt := l.isLt
  unfold A2 A3 Wv Wv' PV TkV
  iintro ⟨#HC, ⟨H1, H2, ⟨Hat, -⟩, Hp1, Hp2, Ht, H5, H6⟩, Ho⟩ Hk
  icases (ico_pop ht _) $$ Ht with ⟨Hcr, Ht⟩
  iapply (wait1 m K κ c (w := .waitDma2 (agR l (m3 (t + 1))) (d3 agB o2 i2) (d3 agB o2' i2') w1 w2) (k := some (l, kV (m3 (t + 1)))) (n := N) (R := t / 3) (i := 16 * (t + 32) + l.val) (csem_V l (m3 (t + 1)))
    (wpE_waitDma2_eq 𝒱₀ (c : Thread nD τ) none Set.univ) (dutV m c l ht) (amtV m c l _ _ _) (payV m c l t 0) hp (by omega)) $$ [Hcr Ho Hat]
  · isplitr; · iexact HC
    isplitl [Hcr]; · iexact Hcr
    isplitl [Ho]; · iexact Ho
    iexact Hat
  iintro ⟨Ho, Hat, Hr, Hpay⟩
  iapply Hk
  unfold agPay
  icases Hpay with ⟨Hpay, Hra⟩
  isplitr [Ho]
  · isplitl [Hpay]; · iexact Hpay
    isplitl [H2]; · iexact H2
    isplitl [H1]; · iexact H1
    isplitl [Hp1]; · iexact Hp1
    isplitl [Hp2]; · iexact Hp2
    isplitl [Hat Hr]
    · rw [show t + 3 + 1 = t + 1 + 3 by omega, m3_add, show (t + 3) / 3 = t / 3 + 1 by omega]
      isplitl [Hat]; · iexact Hat
      iexact Hr
    isplitl [Ht]; · iexact Ht
    isplitl [H5]; · iexact H5
    isplitl [H6]; · iexact H6
    iexact Hra
  · iexact Ho

/-- Waiting for a copy to the result. -/
theorem Fl_wait {α : Type} {Q : α → sProp 𝕄} {n p : ℕ} (hn : n < 33) (hn1 : n ≠ 1) (hp : 0 < p)
    {o1 : Fin 2 → ℕ} {i1 : ∀ a : Fin S4x2.rank, o1 a + S1x1.size a ≤ S4x2.size a} (h1 : o1 = ![l.val, (m2 n).val])
    {o2 : Fin 4 → ℕ} {i2 : ∀ a : Fin S4x2x256x1024.rank, o2 a + S1x1x256x1024.size a ≤ S4x2x256x1024.size a}
    {w1 w2} {k : PUnit → Prog (TpuEff nD τ sig (Elt F) Λ₀ .tc) α} :
    iprop(Ctx m K κ ∗ Fl c l n ∗ Owes c p)
      ⊢ iprop(((FreeSt c l (n + 2) ∗ outDone m c l (n - 1) ∗ Owes c p) -∗ WP c (k ⟨⟩) Q)
          -∗ WP c (.op (.waitDma2 ((cc0_scratch8.slice (Rect.unit (s := S4x2) o1 S1x1.size i1)).squeeze S_ squeezes_S1x1_S_).sem
              (d2 stB o2 i2)
              (d2 stB o2 i2) w1 w2) k) Q) := by
  subst h1
  unfold Fl PT FreeSt PT
  iintro ⟨#HC, ⟨⟨Hat, -⟩, Hcr⟩, Ho⟩ Hk
  iapply (wait1 m K κ c (w := .waitDma2 (stS l (m2 n)) (d2 stB o2 i2) (d2 stB o2 i2) w1 w2) (k := some (l, kT (m2 n))) (n := NT) (R := rst n) (i := 0) (csem_T l (m2 n))
    (wpE_waitDma2_eq 𝒱₀ (c : Thread nD τ) none Set.univ) (dutT m c l hn hn1) (amtT m c l _ _ _) (payT m c l n hn1 0) hp (by omega)) $$ [Hcr Ho Hat]
  · isplitr; · iexact HC
    isplitl [Hcr]; · iexact Hcr
    isplitl [Ho]; · iexact Ho
    iexact Hat
  iintro ⟨Ho, Hat, Hr, Hpay⟩
  iapply Hk
  unfold stPay
  icases Hpay with ⟨Hf, Hd⟩
  rw [m2_add, (rst_add n).resolve_right hn1]
  isplitl [Hf Hat Hr]
  · isplitl [Hf]; · iexact Hf
    isplitl [Hat]; · iexact Hat
    iexact Hr
  isplitl [Hd]; · iexact Hd
  iexact Ho

theorem Dn_push {t : ℕ} (ht : t ≠ 1) : iprop(outDone m c l (t - 1) ∗ Dn m c l t) ⊢ Dn m c l (t + 1) := by
  have e1 : Ds t = t - 1 := by unfold Ds; split <;> omega
  have e2 : Ds (t + 1) = t - 1 + 1 := by unfold Ds; split <;> omega
  unfold Dn
  rw [e1, e2]
  exact Entails.of_eq (by rw [Finset.range_add_one, bigSep_insert Finset.notMem_range_self]; rfl)

theorem ag_skipT {t : ℕ} (ht : t = 1) : (A3 m c l t : sProp 𝕄) ⊢ A4 m c l t := by
  subst ht
  unfold A3 A4 St0 St1 SA
  rw [if_pos rfl]
  iintro ⟨H1, ⟨H2, H3, H4, H5, H6⟩, H7⟩
  isplitl [H1]; · iexact H1
  isplitl [H2 H3 H4 H5 H6]
  · isplitl [H2]; · iexact H2
    isplitl [H3]; · iexact H3
    isplitl [H4]; · iexact H4
    isplitl [H5]; · iexact H5
    iexact H6
  iexact H7

theorem ag_waitT {α : Type} {Q : α → sProp 𝕄} {t p : ℕ} (ht : t ≠ 1) (ht' : t < 31) (hp : 0 < p)
    {o1 : Fin 2 → ℕ} {i1 : ∀ a : Fin S4x2.rank, o1 a + S1x1.size a ≤ S4x2.size a} (h1 : o1 = ![l.val, (m2 t).val])
    {o2 : Fin 4 → ℕ} {i2 : ∀ a : Fin S4x2x256x1024.rank, o2 a + S1x1x256x1024.size a ≤ S4x2x256x1024.size a}
    {w1 w2} {k : PUnit → Prog (TpuEff nD τ sig (Elt F) Λ₀ .tc) α} :
    iprop(Ctx m K κ ∗ A3 m c l t ∗ Owes c p)
      ⊢ iprop(((A4 m c l t ∗ Owes c p) -∗ WP c (k ⟨⟩) Q)
          -∗ WP c (.op (.waitDma2 ((cc0_scratch8.slice (Rect.unit (s := S4x2) o1 S1x1.size i1)).squeeze S_ squeezes_S1x1_S_).sem
              (d2 stB o2 i2)
              (d2 stB o2 i2) w1 w2) k) Q) := by
  unfold A3 A4 St0 St1 SA
  rw [if_neg ht]
  iintro ⟨#HC, ⟨H1, ⟨H2, H3, H4, H5, H6⟩, H7⟩, Ho⟩ Hk
  iapply (Fl_wait m K κ c l (show t < 33 by omega) ht hp h1) $$ [H2 Ho]
  · isplitr; · iexact HC
    isplitl [H2]; · iexact H2
    iexact Ho
  iintro ⟨H2, Hd, Ho⟩
  iapply Hk
  isplitr [Ho]
  · isplitl [H1]; · iexact H1
    isplitl [H2 H3 H4 H5 H6 Hd]
    · isplitl [H2]; · iexact H2
      isplitl [H3]; · iexact H3
      isplitl [H4]; · iexact H4
      isplitl [H5 Hd]
      · iapply (Dn_push m c l ht)
        isplitl [Hd]; · iexact Hd
        iexact H5
      iexact H6
    iexact H7
  · iexact Ho

theorem ag_ldG {α : Type} {Q : α → sProp 𝕄} {t : ℕ}
    {o2 : Fin 4 → ℕ} {i2 : ∀ a : Fin S4x3x256x1024.rank, o2 a + S1x1x256x1024.size a ≤ S4x3x256x1024.size a} (h2 : o2 = ![l.val, (m3 (t + 1)).val, 0, 0])
    {hl : agB.view.LoadsAt (Rect.unit (s := S4x3x256x1024) o2 S1x1x256x1024.size i2).toLoadRect}
    {k : (S1x1x256x1024.Idx → Elt F .bf16) → Prog (TpuEff nD τ sig (Elt F) Λ₀ .tc) α} :
    (A4 m c l t : sProp 𝕄) ⊢ iprop((A4 m c l t -∗ WP c (k (agV m l (t + 1) c)) Q)
          -∗ WP c (.op (.load agB (Rect.unit (s := S4x3x256x1024) o2 S1x1x256x1024.size i2).toLoadRect hl) k) Q) := by
  unfold A4
  iintro ⟨H1, H2⟩ Hk
  iapply (ld3 agB c l (m3 (t + 1)) _ _ _ h2) $$ H1
  iintro H1
  iapply Hk
  isplitl [H1]; · iexact H1
  iexact H2

theorem ag_ldT {α : Type} {Q : α → sProp 𝕄} {t : ℕ}
    {o2 : Fin 4 → ℕ} {i2 : ∀ a : Fin S4x2x256x1024.rank, o2 a + S1x1x256x1024.size a ≤ S4x2x256x1024.size a} (h2 : o2 = ![l.val, (m2 t).val, 0, 0])
    {hl : stB.view.LoadsAt (Rect.unit (s := S4x2x256x1024) o2 S1x1x256x1024.size i2).toLoadRect}
    {k : (S1x1x256x1024.Idx → Elt F .f32) → Prog (TpuEff nD τ sig (Elt F) Λ₀ .tc) α} :
    (A4 m c l t : sProp 𝕄) ⊢ iprop((∀ X, A4 m c l t -∗ WP c (k X) Q)
          -∗ WP c (.op (.load stB (Rect.unit (s := S4x2x256x1024) o2 S1x1x256x1024.size i2).toLoadRect hl) k) Q) := by
  unfold A4 St1 FreeSt
  rw [← m2_add] at h2
  iintro ⟨H1, ⟨⟨H2, H3⟩, H4⟩, H5⟩ Hk
  iapply (ld2f stB c l (m2 (t + 2)) _ _ h2) $$ H2
  iintro %X H2
  iapply Hk
  isplitl [H1]; · iexact H1
  isplitl [H2 H3 H4]
  · isplitl [H2 H3]
    · isplitl [H2]; · iexact H2
      iexact H3
    iexact H4
  iexact H5

theorem ag_stT {α : Type} {Q : α → sProp 𝕄} {t : ℕ} {w : S1x1x256x1024.Idx → Elt F .f32} (hw : w = outV m l c (t + 1))
    {o2 : Fin 4 → ℕ} {i2 : ∀ a : Fin S4x2x256x1024.rank, o2 a + S1x1x256x1024.size a ≤ S4x2x256x1024.size a} (h2 : o2 = ![l.val, (m2 t).val, 0, 0])
    {h3 : (stB.access (Rect.unit (s := S4x2x256x1024) o2 S1x1x256x1024.size i2)).Stores Finset.univ}
    {h4 : (Finset.univ : Finset (Rect.unit (s := S4x2x256x1024) o2 S1x1x256x1024.size i2).shape.Idx) = Finset.univ ∨ ∀ a, (Rect.unit (s := S4x2x256x1024) o2 S1x1x256x1024.size i2).stride a = 1}
    {k : PUnit → Prog (TpuEff nD τ sig (Elt F) Λ₀ .tc) α} :
    (A4 m c l t : sProp 𝕄) ⊢ iprop((A5 m c l t -∗ WP c (k ⟨⟩) Q)
          -∗ WP c (.op (.store stB (Rect.unit (s := S4x2x256x1024) o2 S1x1x256x1024.size i2) w Finset.univ h3 h4) k) Q) := by
  subst hw
  unfold A4 A5 St1 St2 FreeSt
  rw [← m2_add] at h2
  iintro ⟨H1, ⟨⟨H2, H3⟩, H4⟩, H5⟩ Hk
  iapply (st2 stB c l (m2 (t + 2)) _ _ _ h2) $$ H2
  iintro H2
  iapply Hk
  isplitl [H1]; · iexact H1
  isplitl [H2 H3 H4]
  · isplitl [H2]; · iexact H2
    isplitl [H3]; · iexact H3
    iexact H4
  iexact H5

set_option backward.isDefEq.respectTransparency false in
/-- Starting a copy to the result. -/
theorem cp_start {α : Type} {Q : α → sProp 𝕄} {n k' : ℕ} (hn : n < 33) (hn1 : n ≠ 1) (hk' : n - 1 = k')
    {o1 : Fin 2 → ℕ} {i1 : ∀ a : Fin S4x2.rank, o1 a + S1x1.size a ≤ S4x2.size a} (h1 : o1 = ![l.val, (m2 n).val])
    {o2 : Fin 4 → ℕ} {i2 : ∀ a : Fin S4x2x256x1024.rank, o2 a + S1x1x256x1024.size a ≤ S4x2x256x1024.size a} (h2 : o2 = ![l.val, (m2 n).val, 0, 0])
    {o3 : Fin 2 → ℕ} {i3 : ∀ a : Fin S8192x4096.rank, o3 a + S256x1024.size a ≤ S8192x4096.size a} (h3 : o3 = ![256 * (outRow l c k' % 32), 1024 * l.val])
    {w1 w2 w3} {k : PUnit → Prog (TpuEff nD τ sig (Elt F) Λ₀ .tc) α} :
    iprop(Ctx m K κ ∗ stAt c l (m2 n) (outV m l c k') ∗ PT c l n ∗ outTodo c l k' ∗ dutyTok ER (cT c l (m2 n)) (rst n) 0)
      ⊢ iprop((Fl c l n -∗ WP c (k ⟨⟩) Q)
          -∗ WP c (.op (.enqueueDma
              (d2 stB o2 i2)
              (.here (oM.slice (Rect.unit (s := S8192x4096) o3 S256x1024.size i3) (fun _ => rfl)))
              (.dma ((cc0_scratch8.slice (Rect.unit (s := S4x2) o1 S1x1.size i1)).squeeze S_ squeezes_S1x1_S_).sem) w1 w2 w3) k) Q) := by
  subst h1 h2 h3 hk'
  unfold PT Fl PT stAt at2 outTodo slot
  iintro ⟨#HC, ⟨%fs, %hfs, Hs⟩, ⟨Hat, #Hr⟩, ⟨%fd, Hd⟩, Htok⟩ Hk
  iapply (Rounds.wp_copy_pointsTo 𝒱₀ ER (Rd m) (c : Thread nD τ) none (κ := K (c, some (l, kT (m2 n)))) (src := sl2 stB l (m2 n)) (dst := slo (outRow l c (n - 1)) l)
    (sem := .dma (stS l (m2 n))) (r := rst n) (d := 0) (fs := fs) (fd := fd)
    (by rw [dutT m c l hn hn1]; exact Finset.mem_singleton_self _) 0 NT rfl (amtT m c l _ _ _)
    (by
      rw [payT m c l n hn1]
      unfold stPay
      iintro ⟨H1, H2⟩
      isplitl [H2]
      · unfold stFree free2 slot; iexists fs; iexact H2
      · unfold outDone
        iexists _
        isplitr
        rotate_left
        · iexact H1
        · ipureintro
          refine (View.read_write_univ _ _).trans ?_
          refine (read_sl2 stB l (m2 n) fs).trans ?_
          rw [hfs])) $$ [Hs Hd Htok]
  · isplitr; · iapply (Ctx_T m K κ c l (m2 n)); iexact HC
    isplitl [Hs]; · iexact Hs
    isplitl [Hd]; · iexact Hd
    isplitl [Htok]; · iexact Htok
    iexact Hr
  iintro Hcr
  iapply Hk
  isplitl [Hat]
  · isplitl [Hat]; · iexact Hat
    iexact Hr
  iexact Hcr

theorem ag_copy {α : Type} {Q : α → sProp 𝕄} {t p : ℕ} (ht : t < 31)
    {o1 : Fin 2 → ℕ} {i1 : ∀ a : Fin S4x2.rank, o1 a + S1x1.size a ≤ S4x2.size a} (h1 : o1 = ![l.val, (m2 t).val])
    {o2 : Fin 4 → ℕ} {i2 : ∀ a : Fin S4x2x256x1024.rank, o2 a + S1x1x256x1024.size a ≤ S4x2x256x1024.size a} (h2 : o2 = ![l.val, (m2 t).val, 0, 0])
    {o3 : Fin 2 → ℕ} {i3 : ∀ a : Fin S8192x4096.rank, o3 a + S256x1024.size a ≤ S8192x4096.size a} (h3 : o3 = ![256 * (outRow l c (t + 1) % 32), 1024 * l.val])
    {w1 w2 w3} {k : PUnit → Prog (TpuEff nD τ sig (Elt F) Λ₀ .tc) α} :
    iprop(Ctx m K κ ∗ A5 m c l t ∗ Owes c p)
      ⊢ iprop(((A6 m c l t ∗ Owes c p) -∗ WP c (k ⟨⟩) Q)
          -∗ WP c (.op (.enqueueDma
              (d2 stB o2 i2)
              (.here (oM.slice (Rect.unit (s := S8192x4096) o3 S256x1024.size i3) (fun _ => rfl)))
              (.dma ((cc0_scratch8.slice (Rect.unit (s := S4x2) o1 S1x1.size i1)).squeeze S_ squeezes_S1x1_S_).sem) w1 w2 w3) k) Q) := by
  unfold A5 A6 St2 St0 Td TkT
  rw [← m2_add] at h1 h2
  iintro ⟨#HC, ⟨H1, ⟨Hs, Hpt, Hb, Htd, Hdn, Htk⟩, H2⟩, Ho⟩ Hk
  icases (ico_pop (show t + 1 < 32 by omega) _) $$ Htd with ⟨Ht, Htd⟩
  icases (ico_pop ht _) $$ Htk with ⟨Hd, Htk⟩
  iapply (cp_start m K κ c l (n := t + 2) (show t + 2 < 33 by omega) (by omega) rfl h1 h2 h3) $$ [Hs Hpt Ht Hd]
  · isplitr; · iexact HC
    isplitl [Hs]; · iexact Hs
    isplitl [Hpt]; · iexact Hpt
    isplitl [Ht]; · iexact Ht
    iexact Hd
  iintro Hf
  iapply Hk
  isplitr [Ho]
  · isplitl [H1]; · iexact H1
    isplitl [Hf Hb Htd Hdn Htk]
    · isplitl [Hb]
      · iapply (show (SB c l t : sProp 𝕄) ⊢ SA c l (t + 1) from by
          unfold SB SA
          by_cases h : t = 0
          · subst h; rw [if_pos rfl, if_pos rfl]
          · rw [if_neg h, if_neg (by omega)])
        iexact Hb
      isplitl [Hf]; · unfold SB; rw [if_neg (by omega)]; iexact Hf
      isplitl [Htd]; · iexact Htd
      isplitl [Hdn]; · iexact Hdn
      iexact Htk
    iexact H2
  · iexact Ho

/-- Waiting for a slot to be read out. -/
theorem PUf_wait {α : Type} {Q : α → sProp 𝕄} {j p : ℕ} (hj : j < 31) (hp : 0 < p)
    {o1 : Fin 2 → ℕ} {i1 : ∀ a : Fin S4x3.rank, o1 a + S1x1.size a ≤ S4x3.size a} (h1 : o1 = ![l.val, (m3 j).val])
    {o2 : Fin 4 → ℕ} {i2 : ∀ a : Fin S4x3x256x1024.rank, o2 a + S1x1x256x1024.size a ≤ S4x3x256x1024.size a}
    {o2' : Fin 4 → ℕ} {i2' : ∀ a : Fin S4x3x256x1024.rank, o2' a + S1x1x256x1024.size a ≤ S4x3x256x1024.size a}
    {w1 w2} {k : PUnit → Prog (TpuEff nD τ sig (Elt F) Λ₀ .tc) α} :
    iprop(Ctx m K κ ∗ PUf c l j ∗ Owes c p)
      ⊢ iprop(((agFree c l (m3 j) ∗ PU c l (j + 3) ∗ Owes c p) -∗ WP c (k ⟨⟩) Q)
          -∗ WP c (.op (.waitDma2 ((cc0_scratch6.slice (Rect.unit (s := S4x3) o1 S1x1.size i1)).squeeze S_ squeezes_S1x1_S_).sem
              (d3 agB o2 i2)
              (d3 agB o2' i2') w1 w2) k) Q) := by
  subst h1
  unfold PUf PU
  iintro ⟨#HC, ⟨⟨Hat, -⟩, Hcr⟩, Ho⟩ Hk
  iapply (wait1 m K κ c (w := .waitDma2 (agS l (m3 j)) (d3 agB o2 i2) (d3 agB o2' i2') w1 w2) (k := some (l, kU (m3 j))) (n := N) (R := j / 3) (i := 0) (csem_U l (m3 j))
    (wpE_waitDma2_eq 𝒱₀ (c : Thread nD τ) none Set.univ) (dutU m c l hj) (amtU m c l _ _ _) (payU m c l _ _ 0) hp (by omega)) $$ [Hcr Ho Hat]
  · isplitr; · iexact HC
    isplitl [Hcr]; · iexact Hcr
    isplitl [Ho]; · iexact Ho
    iexact Hat
  iintro ⟨Ho, Hat, Hr, Hpay⟩
  iapply Hk
  isplitl [Hpay]; · iexact Hpay
  isplitr [Ho]
  · rw [m3_add, show (j + 3) / 3 = j / 3 + 1 by omega]
    isplitl [Hat]; · iexact Hat
    iexact Hr
  · iexact Ho

theorem ag_skipU {t : ℕ} (ht : t = 0) : (A6 m c l t : sProp 𝕄) ⊢ A7 m c l t := by
  subst ht
  unfold A6 A7 Rst Rst' Prv Fr
  rw [if_pos rfl, if_pos rfl]
  iintro ⟨H1, H2, ⟨H3, H4, H5, H6⟩, H7⟩
  isplitl [H1]; · iexact H1
  isplitl [H2]; · iexact H2
  isplitl [H3 H4 H5 H6]
  · isplitl [H3]; · iexact H3
    isplitl [H4]; · iexact H4
    isplitl [H5]; · iexact H5
    isplitr; · iempintro
    iexact H6
  iexact H7

theorem ag_waitU {α : Type} {Q : α → sProp 𝕄} {t p : ℕ} (ht : t ≠ 0) (ht' : t < 31) (hp : 0 < p)
    {o1 : Fin 2 → ℕ} {i1 : ∀ a : Fin S4x3.rank, o1 a + S1x1.size a ≤ S4x3.size a} (h1 : o1 = ![l.val, (m3 (t + 2)).val])
    {o2 : Fin 4 → ℕ} {i2 : ∀ a : Fin S4x3x256x1024.rank, o2 a + S1x1x256x1024.size a ≤ S4x3x256x1024.size a}
    {o2' : Fin 4 → ℕ} {i2' : ∀ a : Fin S4x3x256x1024.rank, o2' a + S1x1x256x1024.size a ≤ S4x3x256x1024.size a}
    {w1 w2} {k : PUnit → Prog (TpuEff nD τ sig (Elt F) Λ₀ .tc) α} :
    iprop(Ctx m K κ ∗ A6 m c l t ∗ Owes c p)
      ⊢ iprop(((A7 m c l t ∗ Owes c p) -∗ WP c (k ⟨⟩) Q)
          -∗ WP c (.op (.waitDma2 ((cc0_scratch6.slice (Rect.unit (s := S4x3) o1 S1x1.size i1)).squeeze S_ squeezes_S1x1_S_).sem
              (d3 agB o2 i2)
              (d3 agB o2' i2') w1 w2) k) Q) := by
  unfold A6 A7 Rst Rst' Prv Fr
  rw [if_neg ht, if_neg ht]
  iintro ⟨#HC, ⟨H1, H2, ⟨H3, H4, H5, H6⟩, H7⟩, Ho⟩ Hk
  iapply (PUf_wait m K κ c l (j := t - 1) (show t - 1 < 31 by omega) hp (h1.trans (by rw [m3_sub ht]))) $$ [H5 Ho]
  · isplitr; · iexact HC
    isplitl [H5]; · iexact H5
    iexact Ho
  rw [m3_sub ht, show t - 1 + 3 = t + 2 by omega]
  iintro ⟨Ha, Hp, Ho⟩
  iapply Hk
  isplitr [Ho]
  · isplitl [H1]; · iexact H1
    isplitl [H2]; · iexact H2
    isplitl [H3 H4 Ha Hp H6]
    · isplitl [H3]; · iexact H3
      isplitl [H4]; · iexact H4
      isplitl [Hp]; · iexact Hp
      isplitl [Ha]; · iexact Ha
      iexact H6
    iexact H7
  · iexact Ho

theorem PUf_Prv (t : ℕ) : (PUf c l t : sProp 𝕄) ⊢ Prv c l (t + 1) := by
  unfold Prv; rw [if_neg (by omega)]; exact .rfl

/-- The end of a step without a credit. -/
theorem ag_skipG {t : ℕ} (ht : t = 0 ∨ t = 30) : (A7 m c l t : sProp 𝕄) ⊢ A0 m c l (t + 1) := by
  have hKA : iprop(Fr c l t ∗ KA c l t) ⊢ (KA c l (t + 1) : sProp 𝕄) := by
    unfold Fr KA
    rcases ht with rfl | rfl
    · rw [if_pos rfl, if_neg (by omega), if_neg (by omega)]; iintro -; iempintro
    · rw [if_neg (by omega), if_neg (by omega), if_pos rfl]; iintro ⟨H, -⟩; iexact H
  have hTA : (TkA c l t : sProp 𝕄) ⊢ TkA c l (t + 1) := by
    unfold TkA
    rcases ht with rfl | rfl
    · exact .rfl
    · rw [Finset.Ico_eq_empty (by omega), Finset.Ico_eq_empty (by omega)]
  unfold A7 A0 Rst' Wv Wv'
  iintro ⟨H1, H2, ⟨H3, H4, H5, H6, H7, H8, H9⟩, Hv1, Hv2, Hv3, Hv4, Hv5, Hv6, -⟩
  isplitl [H1]; · iexact H1
  isplitl [H4]; · iexact H4
  isplitl [H5]; · iexact H5
  isplitl [H3]; · iapply (PUf_Prv c l t); iexact H3
  isplitl [H7]; · iexact H7
  isplitl [H8]; · iexact H8
  isplitl [H9]; · iexact H9
  isplitl [H2]; · iexact H2
  isplitl [Hv1]; · iexact Hv1
  isplitl [Hv2]; · iexact Hv2
  isplitl [Hv3]; · iexact Hv3
  isplitl [Hv4]; · iexact Hv4
  isplitl [Hv5]; · iapply hTA; iexact Hv5
  iapply hKA
  isplitl [H6]; · iexact H6
  iexact Hv6

theorem ag_signal {α : Type} {Q : α → sProp 𝕄} {t p : ℕ} (ht0 : 1 ≤ t) (ht : t < 30) (hp : p = 16 * (t + 32) + 8 + l.val)
    {off : Fin 1 → ℕ} {inb : ∀ a : Fin S4.rank, off a + S1.size a ≤ S4.size a} (hoff : off = ![l.val])
    {n : Dev nD} (hn : n = src l c) {k : PUnit → Prog (TpuEff nD τ sig (Elt F) Λ₀ .tc) α} :
    iprop(Ctx m K κ ∗ A7 m c l t ∗ Owes c p)
      ⊢ iprop(((A0 m c l (t + 1) ∗ Owes c (p + 1)) -∗ WP c (k ⟨⟩) Q)
          -∗ WP c (.op (.semSignal (Dev.tc n) ((cc0_scratch10.slice (Rect.unit (s := S4) off S1.size inb)).squeeze S_ squeezes_S1_S_).sem 1) k) Q) := by
  subst hp hoff hn
  have hlt := l.isLt
  have hKA : (KA c l t : sProp 𝕄) ⊢ KA c l (t + 1) := by unfold KA; rw [if_neg (by omega), if_neg (by omega)]
  have hFr : (Fr c l t : sProp 𝕄) ⊢ agFree c l (m3 (t + 2)) := by unfold Fr; rw [if_neg (by omega)]
  unfold A7 A0 Rst' Wv Wv' Owes
  iintro ⟨#HC, ⟨H1, H2, ⟨H3, H4, H5, H6, H7, H8, H9⟩, Hv1, Hv2, Hv3, Hv4, Hv5, Hv6, Hrr⟩, ⟨%W, Ho⟩⟩ Hk
  unfold TkA
  icases (ico_pop (show t - 1 < 29 by omega) _) $$ Hv5 with ⟨Hd, Hv5⟩
  unfold PV
  icases Hv1 with ⟨Hv1, #Hrv⟩
  iapply (Rounds.wp_signal 𝒱₀ ER (Rd m) (c : Thread nD τ) none (dst := (src l c : Thread nD τ)) (κ := K (src l c, some (l, 13))) (d := 0) (r := t - 1)
    (by rw [dutA m (src l c) l (by omega)]; exact Finset.mem_singleton_self _) (amtA m (src l c) l (t - 1) 0) (16 * (t + 32) + 8 + l.val) (O c (16 * (t + 32) + 8 + l.val + 1))
    ((O_step c (by omega)).trans (congrArg _ (due_ac c l ht0 ht))) (W := W)) $$ [Ho Hd H6 Hrr]
  · isplitr; · iapply (Ctx_A m K κ (src l c) l); iexact HC
    isplitl [Ho]; · iexact Ho
    isplitl [Hd]; · iexact Hd
    isplitl [H6]
    · iapply (Entails.of_eq (payA m (src l c) l (t - 1) 0).symm)
      unfold DK
      rw [dst_src, show t - 1 + 2 = t + 1 by omega]
      isplitl [H6]
      · iapply hFr; iexact H6
      iexact Hrv
    · iexact Hrr
  iintro Ho
  iapply Hk
  isplitr [Ho]
  · isplitl [H1]; · iexact H1
    isplitl [H4]; · iexact H4
    isplitl [H5]; · iexact H5
    isplitl [H3]; · iapply (PUf_Prv c l t); iexact H3
    isplitl [H7]; · iexact H7
    isplitl [H8]; · iexact H8
    isplitl [H9]; · iexact H9
    isplitl [H2]; · iexact H2
    isplitl [Hv1]
    · isplitl [Hv1]; · iexact Hv1
      iexact Hrv
    isplitl [Hv2]; · iexact Hv2
    isplitl [Hv3]; · iexact Hv3
    isplitl [Hv4]; · iexact Hv4
    isplitl [Hv5]
    · rw [show t + 1 - 1 = t - 1 + 1 by omega]; iexact Hv5
    iapply hKA; iexact Hv6
  · iexists W; iexact Ho

end Ops

end Cert.KernelIdealProof
-- ==== Proof.KernelIdealAgLoop.lean ====
/-
  The all-gather loop.
-/
module

public import proofs.«01_k».proof.Proof.KernelIdealAg

@[expose] public section

noncomputable section

namespace Cert.KernelIdealProof

open Cert.KernelIdeal Cert.KernelIdeal.Gen Idealize.ShloMosaic TcCoe Rounds Release Idealize.SL RA BI BI.BIBase BI.Laws ProofMode Idealize.SL.Sem
open scoped Idealize.SL.BI
open Pipeline (Dat Cfg Window BodyObligation cellOf)

variable {F : FTy → Type} [FloatOps F]

local notation "𝕄" => MT nD τ sig ℕ (Elt F) ℕ UU ℕ

variable (m : (ℓ : Loc nD τ sig) → Buf (Elt F) ℓ)
variable (K : Dev nD × CK → ℕ) (κ : RK → ℕ)

/-! ## The steps of the all-gather loop -/

theorem agTrips : k0_t2_loop.trips = 31 := by decide

theorem guard_ag (t : Fin k0_t2_loop.trips) :
    Scalar.cmpi .ne (Scalar.extui (Scalar.cmpi .sge (Scf.iv 0#32 1#32 t) 2#32)) 0#32 = 1#1 ↔ 2 ≤ t.val := by revert t; decide
theorem cond11_iff (t : Fin k0_t2_loop.trips) : k0_cond11 t = 1#1 ↔ t.val ≠ 1 := by revert t; decide
theorem cond14_iff (t : Fin k0_t2_loop.trips) : k0_cond14 t = 1#1 ↔ t.val ≠ 1 := by revert t; decide
theorem cond17_iff (t : Fin k0_t2_loop.trips) : k0_cond17 t = 1#1 ↔ t.val ≠ 1 := by revert t; decide
theorem cond20_iff (t : Fin k0_t2_loop.trips) : k0_cond20 t = 1#1 ↔ t.val ≠ 1 := by revert t; decide
theorem cond12_iff (t : Fin k0_t2_loop.trips) : k0_cond12 t = 1#1 ↔ t.val ≠ 0 := by revert t; decide
theorem cond15_iff (t : Fin k0_t2_loop.trips) : k0_cond15 t = 1#1 ↔ t.val ≠ 0 := by revert t; decide
theorem cond18_iff (t : Fin k0_t2_loop.trips) : k0_cond18 t = 1#1 ↔ t.val ≠ 0 := by revert t; decide
theorem cond21_iff (t : Fin k0_t2_loop.trips) : k0_cond21 t = 1#1 ↔ t.val ≠ 0 := by revert t; decide
theorem cond13_iff (t : Fin k0_t2_loop.trips) : k0_cond13 t = 1#1 ↔ 1 ≤ t.val ∧ t.val < 30 := by revert t; decide
theorem cond16_iff (t : Fin k0_t2_loop.trips) : k0_cond16 t = 1#1 ↔ 1 ≤ t.val ∧ t.val < 30 := by revert t; decide
theorem cond19_iff (t : Fin k0_t2_loop.trips) : k0_cond19 t = 1#1 ↔ 1 ≤ t.val ∧ t.val < 30 := by revert t; decide
theorem cond22_iff (t : Fin k0_t2_loop.trips) : k0_cond22 t = 1#1 ↔ 1 ≤ t.val ∧ t.val < 30 := by revert t; decide

theorem not_ne1 {C : Prop} {n : ℕ} (h : C ↔ n ≠ 1) (hn : ¬C) : n = 1 := by by_contra h'; exact hn (h.mpr h')
theorem not_mid {C : Prop} {n : ℕ} (h : C ↔ 1 ≤ n ∧ n < 30) (hn : ¬C) (hn' : n < 31) : n = 0 ∨ n = 30 := by
  by_contra h'; exact hn (h.mpr (by omega))

theorem Owes_gapA (c : Dev nD) {t : ℕ} (ht : t < 31) : (Owes c (16 * (t + 32) + 1 + 1 + 1 + 1) : sProp 𝕄) ⊢ Owes c (16 * (t + 32) + 8) :=
  Owes_skip c (by omega) (by omega) (fun q h1 h2 => by unfold idle; omega)
theorem Owes_noneA (c : Dev nD) {t l : ℕ} (ht : t = 0 ∨ t = 30) (hl : l < 4) : (Owes c (16 * (t + 32) + 8 + l) : sProp 𝕄) ⊢ Owes c (16 * (t + 32) + 8 + l + 1) :=
  Owes_skip c (by omega) (by omega) (fun q h1 h2 => by unfold idle; omega)
theorem Owes_nextA (c : Dev nD) {t : ℕ} (ht : t < 31) : (Owes c (16 * (t + 32) + 12) : sProp 𝕄) ⊢ Owes c (16 * (t + 1 + 32)) :=
  Owes_skip c (by omega) (by omega) (fun q h1 h2 => by unfold idle; omega)

theorem row_r (c : Dev nD) {l : Fin 4} (hl : rgt l) {t : ℕ} {o : Fin 2 → ℕ} (h : o = ![256 * ((c.val + 32 - t) % 32), 1024 * l.val]) :
    o = ![256 * (outRow l c (t + 1) % 32), 1024 * l.val] := by
  rw [h]; unfold outRow; rw [if_pos hl, show c.val + 33 - (t + 1) = c.val + 32 - t by omega]
theorem row_l (c : Dev nD) {l : Fin 4} (hl : ¬rgt l) {t : ℕ} {o : Fin 2 → ℕ} (h : o = ![256 * ((c.val + t) % 32), 1024 * l.val]) :
    o = ![256 * (outRow l c (t + 1) % 32), 1024 * l.val] := by
  rw [h]; unfold outRow; rw [if_neg hl, show c.val + 31 + (t + 1) = c.val + t + 32 by omega, Nat.add_mod_right]

/-- Four lanes advanced without a step of the program, each with the shared facts at hand. -/
theorem skip4 {c : Dev nD} {E X0 X1 X2 X3 B0 B1 B2 B3 : sProp 𝕄} {p : ℕ} (h0 : iprop(Ctx m K κ ∗ X0) ⊢ B0) (h1 : iprop(Ctx m K κ ∗ X1) ⊢ B1)
    (h2 : iprop(Ctx m K κ ∗ X2) ⊢ B2) (h3 : iprop(Ctx m K κ ∗ X3) ⊢ B3) : Bd m K κ c E X0 X1 X2 X3 p ⊢ Bd m K κ c E B0 B1 B2 B3 p := by
  unfold Bd
  iintro ⟨#HC, HE, H0, H1, H2, H3, Ho⟩
  isplitr; · iexact HC
  isplitl [HE]; · iexact HE
  isplitl [H0]; · iapply h0; isplitr; · iexact HC
                  iexact H0
  isplitl [H1]; · iapply h1; isplitr; · iexact HC
                  iexact H1
  isplitl [H2]; · iapply h2; isplitr; · iexact HC
                  iexact H2
  isplitl [H3]; · iapply h3; isplitr; · iexact HC
                  iexact H3
  iexact Ho

theorem part6_spec (c : Dev nD) (E : sProp 𝕄) (h0 : xM.IsWhole) (h1 : wM.IsWhole) (h2 : oM.IsWhole) (h3 : accB.IsWhole) (h4 : rcvB.IsWhole) (h5 : agB.IsWhole) (h6 : stB.IsWhole) (v7 : BitVec 32) (t : Fin k0_t2_loop.trips) :
    Bd m K κ c E (A0 m c 0 t.val) (A0 m c 1 t.val) (A0 m c 2 t.val) (A0 m c 3 t.val) (16 * (t.val + 32))
      ⊢ WP c (k0_part6 xM h0 wM h1 oM h2 accB h3 rcvB h4 agB h5 stB h6 cc0_scratch4 cc0_scratch5 cc0_scratch6 cc0_scratch7 cc0_scratch8 cc0_scratch9 cc0_scratch10 c v7 0#32 1#32 t)
          (fun _ => iprop(⌜True⌝ ∗ Bd m K κ c E (A2 m c 0 t.val) (A2 m c 1 t.val) (A1 m c 2 t.val) (A1 m c 3 t.val) (16 * (t.val + 32) + 1 + 1))) := by
  have ht : t.val < 31 := agTrips ▸ t.isLt
  rw [k0_part6_eq_skeleton]
  unfold k0_part6_skel
  simp only [semWaitWord, Prog.lift, Prog.bind_op, Prog.bind_ret, Prog.pure_eq_ret]
  refine cond_mid (fun h hk => chain (fr0 (ag_waitC m K κ c 0 ((guard_ag t).mp h) ht (le_refl _) rfl))
      (chain (fr1 (ag_waitC m K κ c 1 ((guard_ag t).mp h) ht (le_refl _) rfl))
      (chain (fr2 (ag_waitC m K κ c 2 ((guard_ag t).mp h) ht (le_refl _) rfl))
      (chain (fr3 (ag_waitC m K κ c 3 ((guard_ag t).mp h) ht (le_refl _) rfl)) hk))))
    (fun h => have h2 := not_guard (guard_ag t) h
      skip4 m K κ (ag_skipC m K κ c 0 h2) (ag_skipC m K κ c 1 h2) (ag_skipC m K κ c 2 h2) (ag_skipC m K κ c 3 h2)) ?_
  refine chain (fr0 (ag_send m K κ c 0 ht rfl (k0_off32_eq t) (k0_off33_eq t) (k0_off35_eq t) (k0_off34_eq t) (Fin.ext (k0_dev11_eq c)))) ?_
  refine chain (fr1 (ag_send m K κ c 1 ht rfl (k0_off36_eq t) (k0_off37_eq t) (k0_off39_eq t) (k0_off38_eq t) (Fin.ext (k0_dev12_eq c)))) ?_
  exact spec_ret trivial

theorem part7_spec (c : Dev nD) (E : sProp 𝕄) (h0 : xM.IsWhole) (h1 : wM.IsWhole) (h2 : oM.IsWhole) (h3 : accB.IsWhole) (h4 : rcvB.IsWhole) (h5 : agB.IsWhole) (h6 : stB.IsWhole) (v2 v5 v7 a14 : BitVec 32) (t : Fin k0_t2_loop.trips) :
    Bd m K κ c E (A2 m c 0 t.val) (A2 m c 1 t.val) (A1 m c 2 t.val) (A1 m c 3 t.val) (16 * (t.val + 32) + 1 + 1)
      ⊢ WP c (k0_part7 xM h0 wM h1 oM h2 accB h3 rcvB h4 agB h5 stB h6 cc0_scratch4 cc0_scratch5 cc0_scratch6 cc0_scratch7 cc0_scratch8 cc0_scratch9 cc0_scratch10 c v2 v5 v7 t a14)
          (fun _ => iprop(⌜True⌝ ∗ Bd m K κ c E (A2 m c 0 t.val) (A2 m c 1 t.val) (A2 m c 2 t.val) (A2 m c 3 t.val) (16 * (t.val + 32) + 1 + 1 + 1 + 1))) := by
  have ht : t.val < 31 := agTrips ▸ t.isLt
  rw [k0_part7_eq_skeleton]
  unfold k0_part7_skel
  simp only [semWaitWord, Prog.lift, Prog.bind_op, Prog.bind_ret, Prog.pure_eq_ret]
  refine chain (fr2 (ag_send m K κ c 2 ht rfl (k0_off40_eq t) (k0_off41_eq t) (k0_off43_eq t) (k0_off42_eq t) (Fin.ext (k0_dev13_eq c)))) ?_
  refine chain (fr3 (ag_send m K κ c 3 ht rfl (k0_off44_eq t) (k0_off45_eq t) (k0_off47_eq t) (k0_off46_eq t) (Fin.ext (k0_dev14_eq c)))) ?_
  exact spec_ret trivial

theorem part8_spec (c : Dev nD) (E : sProp 𝕄) (h0 : xM.IsWhole) (h1 : wM.IsWhole) (h2 : oM.IsWhole) (h3 : accB.IsWhole) (h4 : rcvB.IsWhole) (h5 : agB.IsWhole) (h6 : stB.IsWhole) (v5 a14 v258 v259 v305 : BitVec 32) (t : Fin k0_t2_loop.trips) :
    Bd m K κ c E (A2 m c 0 t.val) (A2 m c 1 t.val) (A2 m c 2 t.val) (A2 m c 3 t.val) (16 * (t.val + 32) + 8)
      ⊢ WP c (k0_part8 xM h0 wM h1 oM h2 accB h3 rcvB h4 agB h5 stB h6 cc0_scratch4 cc0_scratch5 cc0_scratch6 cc0_scratch7 cc0_scratch8 cc0_scratch9 cc0_scratch10 c v5 t a14 v258 v259 v305)
          (fun _ => iprop(⌜True⌝ ∗ Bd m K κ c E (A0 m c 0 (t.val + 1)) (A2 m c 1 t.val) (A2 m c 2 t.val) (A2 m c 3 t.val) (16 * (t.val + 32) + 8 + 1))) := by
  have ht : t.val < 31 := agTrips ▸ t.isLt
  rw [k0_part8_eq_skeleton]
  unfold k0_part8_skel
  simp only [semWaitWord, semSignalWord, Prog.lift, Prog.bind_op, Prog.bind_ret, Prog.pure_eq_ret]
  refine chain (fr0 (ag_recv m K κ c 0 ht (Nat.add_lt_add_left (by decide) _) (k0_off33_eq t))) ?_
  refine cond_mid (fun h hk => chain (fr0 (ag_waitT m K κ c 0 ((cond11_iff t).mp h) ht (by omega) (k0_off48_eq t))) hk)
    (fun h => mono4 (ag_skipT m c 0 (not_ne1 (cond11_iff t) h)) .rfl .rfl .rfl .rfl) ?_
  refine chain (rd0 (ag_ldG m c 0 (k0_off50_eq t))) ?_
  refine chainA (rdA0 (ag_ldT m c 0 (k0_off51_eq t))) (fun _ => ?_)
  refine chain (rd0 (ag_stT m c 0 rfl (k0_off51_eq t))) ?_
  refine chain (fr0 (ag_copy m K κ c 0 ht (k0_off52_eq t) (k0_off54_eq t) (row_r c (by decide) (k0_off53_eq c t)))) ?_
  refine cond_mid (fun h hk => chain (fr0 (ag_waitU m K κ c 0 ((cond12_iff t).mp h) ht (by omega) (k0_off55_eq t))) hk)
    (fun h => mono4 (ag_skipU m c 0 (not_ne (cond12_iff t) h)) .rfl .rfl .rfl .rfl) ?_
  refine cond_mid (fun h hk => chain (fr0 (ag_signal m K κ c 0 ((cond13_iff t).mp h).1 ((cond13_iff t).mp h).2 rfl rfl (Fin.ext (k0_dev15_eq c)))) hk)
    (fun h => mono4 (ag_skipG m c 0 (not_mid (cond13_iff t) h ht)) .rfl .rfl .rfl (Owes_noneA c (l := 0) (not_mid (cond13_iff t) h ht) (by decide))) ?_
  exact spec_ret trivial

theorem part9_spec (c : Dev nD) (E : sProp 𝕄) (h0 : xM.IsWhole) (h1 : wM.IsWhole) (h2 : oM.IsWhole) (h3 : accB.IsWhole) (h4 : rcvB.IsWhole) (h5 : agB.IsWhole) (h6 : stB.IsWhole) (v7 a14 v258 v259 v305 : BitVec 32) (t : Fin k0_t2_loop.trips) :
    Bd m K κ c E (A0 m c 0 (t.val + 1)) (A2 m c 1 t.val) (A2 m c 2 t.val) (A2 m c 3 t.val) (16 * (t.val + 32) + 8 + 1)
      ⊢ WP c (k0_part9 xM h0 wM h1 oM h2 accB h3 rcvB h4 agB h5 stB h6 cc0_scratch4 cc0_scratch5 cc0_scratch6 cc0_scratch7 cc0_scratch8 cc0_scratch9 cc0_scratch10 c v7 t a14 v258 v259 v305)
          (fun _ => iprop(⌜True⌝ ∗ Bd m K κ c E (A0 m c 0 (t.val + 1)) (A7 m c 1 t.val) (A2 m c 2 t.val) (A2 m c 3 t.val) (16 * (t.val + 32) + 8 + 1))) := by
  have ht : t.val < 31 := agTrips ▸ t.isLt
  rw [k0_part9_eq_skeleton]
  unfold k0_part9_skel
  simp only [semWaitWord, semSignalWord, Prog.lift, Prog.bind_op, Prog.bind_ret, Prog.pure_eq_ret]
  refine chain (fr1 (ag_recv m K κ c 1 ht (by show _ + 1 < _; omega) (k0_off37_eq t))) ?_
  refine cond_mid (fun h hk => chain (fr1 (ag_waitT m K κ c 1 ((cond14_iff t).mp h) ht (by omega) (k0_off58_eq t))) hk)
    (fun h => mono4 .rfl (ag_skipT m c 1 (not_ne1 (cond14_iff t) h)) .rfl .rfl .rfl) ?_
  refine chain (rd1 (ag_ldG m c 1 (k0_off60_eq t))) ?_
  refine chainA (rdA1 (ag_ldT m c 1 (k0_off61_eq t))) (fun _ => ?_)
  refine chain (rd1 (ag_stT m c 1 rfl (k0_off61_eq t))) ?_
  refine chain (fr1 (ag_copy m K κ c 1 ht (k0_off62_eq t) (k0_off64_eq t) (row_r c (by decide) (k0_off63_eq c t)))) ?_
  refine cond_mid (fun h hk => chain (fr1 (ag_waitU m K κ c 1 ((cond15_iff t).mp h) ht (by omega) (k0_off65_eq t))) hk)
    (fun h => mono4 .rfl (ag_skipU m c 1 (not_ne (cond15_iff t) h)) .rfl .rfl .rfl) ?_
  exact spec_ret trivial

theorem part10_spec (c : Dev nD) (E : sProp 𝕄) (h0 : xM.IsWhole) (h1 : wM.IsWhole) (h2 : oM.IsWhole) (h3 : accB.IsWhole) (h4 : rcvB.IsWhole) (h5 : agB.IsWhole) (h6 : stB.IsWhole) (v5 a14 v258 v259 v307 : BitVec 32) (t : Fin k0_t2_loop.trips) :
    Bd m K κ c E (A0 m c 0 (t.val + 1)) (A7 m c 1 t.val) (A2 m c 2 t.val) (A2 m c 3 t.val) (16 * (t.val + 32) + 8 + 1)
      ⊢ WP c (k0_part10 xM h0 wM h1 oM h2 accB h3 rcvB h4 agB h5 stB h6 cc0_scratch4 cc0_scratch5 cc0_scratch6 cc0_scratch7 cc0_scratch8 cc0_scratch9 cc0_scratch10 c v5 t a14 v258 v259 v307)
          (fun _ => iprop(⌜True⌝ ∗ Bd m K κ c E (A0 m c 0 (t.val + 1)) (A0 m c 1 (t.val + 1)) (A5 m c 2 t.val) (A2 m c 3 t.val) (16 * (t.val + 32) + 8 + 1 + 1))) := by
  have ht : t.val < 31 := agTrips ▸ t.isLt
  rw [k0_part10_eq_skeleton]
  unfold k0_part10_skel
  simp only [semWaitWord, semSignalWord, Prog.lift, Prog.bind_op, Prog.bind_ret, Prog.pure_eq_ret]
  refine cond_mid (fun h hk => chain (fr1 (ag_signal m K κ c 1 ((cond16_iff t).mp h).1 ((cond16_iff t).mp h).2 rfl rfl (Fin.ext (k0_dev16_eq c)))) hk)
    (fun h => mono4 .rfl (ag_skipG m c 1 (not_mid (cond16_iff t) h ht)) .rfl .rfl (Owes_noneA c (l := 1) (not_mid (cond16_iff t) h ht) (by decide))) ?_
  refine chain (fr2 (ag_recv m K κ c 2 ht (by show _ + 2 < _; omega) (k0_off41_eq t))) ?_
  refine cond_mid (fun h hk => chain (fr2 (ag_waitT m K κ c 2 ((cond17_iff t).mp h) ht (by omega) (k0_off68_eq t))) hk)
    (fun h => mono4 .rfl .rfl (ag_skipT m c 2 (not_ne1 (cond17_iff t) h)) .rfl .rfl) ?_
  refine chain (rd2 (ag_ldG m c 2 (k0_off70_eq t))) ?_
  refine chainA (rdA2 (ag_ldT m c 2 (k0_off71_eq t))) (fun _ => ?_)
  refine chain (rd2 (ag_stT m c 2 rfl (k0_off71_eq t))) ?_
  exact spec_ret trivial

theorem part11_spec (c : Dev nD) (E : sProp 𝕄) (h0 : xM.IsWhole) (h1 : wM.IsWhole) (h2 : oM.IsWhole) (h3 : accB.IsWhole) (h4 : rcvB.IsWhole) (h5 : agB.IsWhole) (h6 : stB.IsWhole) (v5 v7 a14 v258 v259 : BitVec 32) (t : Fin k0_t2_loop.trips) :
    Bd m K κ c E (A0 m c 0 (t.val + 1)) (A0 m c 1 (t.val + 1)) (A5 m c 2 t.val) (A2 m c 3 t.val) (16 * (t.val + 32) + 8 + 1 + 1)
      ⊢ WP c (k0_part11 xM h0 wM h1 oM h2 accB h3 rcvB h4 agB h5 stB h6 cc0_scratch4 cc0_scratch5 cc0_scratch6 cc0_scratch7 cc0_scratch8 cc0_scratch9 cc0_scratch10 c v5 v7 t a14 v258 v259)
          (fun v => iprop(⌜v.1 = k0_pay14 (agV m 3 (t.val + 1) c)⌝
            ∗ Bd m K κ c E (A0 m c 0 (t.val + 1)) (A0 m c 1 (t.val + 1)) (A0 m c 2 (t.val + 1)) (A4 m c 3 t.val) (16 * (t.val + 32) + 8 + 1 + 1 + 1))) := by
  have ht : t.val < 31 := agTrips ▸ t.isLt
  rw [k0_part11_eq_skeleton]
  unfold k0_part11_skel
  simp only [semWaitWord, semSignalWord, Prog.lift, Prog.bind_op, Prog.bind_ret, Prog.pure_eq_ret]
  refine chain (fr2 (ag_copy m K κ c 2 ht (k0_off72_eq t) (k0_off74_eq t) (row_l c (by decide) (k0_off73_eq c t)))) ?_
  refine cond_mid (fun h hk => chain (fr2 (ag_waitU m K κ c 2 ((cond18_iff t).mp h) ht (by omega) (k0_off75_eq t))) hk)
    (fun h => mono4 .rfl .rfl (ag_skipU m c 2 (not_ne (cond18_iff t) h)) .rfl .rfl) ?_
  refine cond_mid (fun h hk => chain (fr2 (ag_signal m K κ c 2 ((cond19_iff t).mp h).1 ((cond19_iff t).mp h).2 rfl rfl (Fin.ext (k0_dev17_eq c)))) hk)
    (fun h => mono4 .rfl .rfl (ag_skipG m c 2 (not_mid (cond19_iff t) h ht)) .rfl (Owes_noneA c (l := 2) (not_mid (cond19_iff t) h ht) (by decide))) ?_
  refine chain (fr3 (ag_recv m K κ c 3 ht (by show _ + 3 < _; omega) (k0_off45_eq t))) ?_
  refine cond_mid (fun h hk => chain (fr3 (ag_waitT m K κ c 3 ((cond20_iff t).mp h) ht (by omega) (k0_off78_eq t))) hk)
    (fun h => mono4 .rfl .rfl .rfl (ag_skipT m c 3 (not_ne1 (cond20_iff t) h)) .rfl) ?_
  refine chain (rd3 (ag_ldG m c 3 (k0_off80_eq t))) ?_
  refine chainA (rdA3 (ag_ldT m c 3 (k0_off81_eq t))) (fun _ => ?_)
  exact spec_ret rfl

/-- One trip of the all-gather loop. -/
theorem ag_trip (c : Dev nD) (E : sProp 𝕄) (h0 : xM.IsWhole) (h1 : wM.IsWhole) (h2 : oM.IsWhole) (h3 : accB.IsWhole) (h4 : rcvB.IsWhole) (h5 : agB.IsWhole) (h6 : stB.IsWhole) (v2 v5 v7 v86 : BitVec 32) (t : Fin k0_t2_loop.trips) (u : Unit) :
    Bd m K κ c E (A0 m c 0 t.val) (A0 m c 1 t.val) (A0 m c 2 t.val) (A0 m c 3 t.val) (16 * (t.val + 32))
      ⊢ WP c (k0_t2_body xM h0 wM h1 oM h2 accB h3 rcvB h4 agB h5 stB h6 cc0_scratch4 cc0_scratch5 cc0_scratch6 cc0_scratch7 cc0_scratch8 cc0_scratch9 cc0_scratch10 c v2 v5 v7 v86 t u)
          (fun _ => Bd m K κ c E (A0 m c 0 (t.val + 1)) (A0 m c 1 (t.val + 1)) (A0 m c 2 (t.val + 1)) (A0 m c 3 (t.val + 1)) (16 * (t.val + 1 + 32))) := by
  have ht : t.val < 31 := agTrips ▸ t.isLt
  unfold k0_t2_body
  refine spec_bind (part6_spec m K κ c _ h0 h1 h2 h3 h4 h5 h6 v7 t) (fun v hv => ?_)
  obtain ⟨a14, v258, v259⟩ := v
  refine spec_bind (part7_spec m K κ c _ h0 h1 h2 h3 h4 h5 h6 v2 v5 v7 a14 t) (fun v hv => ?_)
  obtain ⟨v305, v307⟩ := v
  refine (mono4 .rfl .rfl .rfl .rfl (Owes_gapA c ht)).trans ?_
  refine spec_bind (part8_spec m K κ c _ h0 h1 h2 h3 h4 h5 h6 v5 a14 v258 v259 v305 t) (fun _ _ => ?_)
  refine spec_bind (part9_spec m K κ c _ h0 h1 h2 h3 h4 h5 h6 v7 a14 v258 v259 v305 t) (fun _ _ => ?_)
  refine spec_bind (part10_spec m K κ c _ h0 h1 h2 h3 h4 h5 h6 v5 a14 v258 v259 v307 t) (fun _ _ => ?_)
  refine spec_bind (part11_spec m K κ c _ h0 h1 h2 h3 h4 h5 h6 v5 v7 a14 v258 v259 t) (fun v hv => ?_)
  obtain ⟨v429, v431⟩ := v
  simp only at hv
  subst hv
  simp only [semWaitWord, semSignalWord, Prog.lift, Prog.bind_op, Prog.bind_ret, Prog.pure_eq_ret]
  refine chain (rd3 (ag_stT m c 3 rfl (k0_off81_eq t))) ?_
  refine chain (fr3 (ag_copy m K κ c 3 ht (k0_off82_eq t) (k0_off84_eq t) (row_l c (by decide) (k0_off83_eq c t)))) ?_
  refine cond_mid (fun h hk => chain (fr3 (ag_waitU m K κ c 3 ((cond21_iff t).mp h) ht (by omega) (k0_off85_eq t))) hk)
    (fun h => mono4 .rfl .rfl .rfl (ag_skipU m c 3 (not_ne (cond21_iff t) h)) .rfl) ?_
  refine cond_mid (fun h hk => chain (fr3 (ag_signal m K κ c 3 ((cond22_iff t).mp h).1 ((cond22_iff t).mp h).2 rfl rfl (Fin.ext (k0_dev18_eq c)))) hk)
    (fun h => mono4 .rfl .rfl .rfl (ag_skipG m c 3 (not_mid (cond22_iff t) h ht)) (Owes_noneA c (l := 3) (not_mid (cond22_iff t) h ht) (by decide))) ?_
  refine (mono4 .rfl .rfl .rfl .rfl (Owes_nextA c ht)).trans ?_
  unfold WP
  rw [wp_ret]
  iintro H
  imodintro
  iexact H

end Cert.KernelIdealProof
-- ==== Proof.KernelIdealEdge.lean ====
/-
  What a device holds on entering the kernel, between its two loops and on leaving it.
-/
module

public import proofs.«01_k».proof.Proof.KernelIdealAgLoop

@[expose] public section

noncomputable section

namespace Cert.KernelIdealProof

open Cert.KernelIdeal Cert.KernelIdeal.Gen Idealize.ShloMosaic TcCoe Rounds Release Idealize.SL RA BI BI.BIBase BI.Laws ProofMode Idealize.SL.Sem
open scoped Idealize.SL.BI
open Pipeline (Dat Cfg Window BodyObligation cellOf)

variable {F : FTy → Type} [FloatOps F]

local notation "𝕄" => MT nD τ sig ℕ (Elt F) ℕ UU ℕ

variable (m : (ℓ : Loc nD τ sig) → Buf (Elt F) ℓ)
variable (K : Dev nD × CK → ℕ) (κ : RK → ℕ)

/-! ## Entering and leaving the kernel -/

section Rules
variable {m K κ} {c : Dev nD} {E E' A A' A0 A1 A2 A3 R X Y : sProp (MT nD τ sig ℕ (Elt F) ℕ UU ℕ)} {p p' : ℕ} {T : Type} {G : T → sProp (MT nD τ sig ℕ (Elt F) ℕ UU ℕ)}

/-- A rule with a part it does not touch. -/
theorem carry (h : A ⊢ iprop((A' -∗ X) -∗ Y)) : iprop(A ∗ R) ⊢ iprop((iprop(A' ∗ R) -∗ X) -∗ Y) := by
  iintro ⟨H, HR⟩ Hk
  iapply h $$ H
  iintro H
  iapply Hk
  isplitl [H]; · iexact H
  iexact HR
theorem carryA (h : A ⊢ iprop((∀ x, A' -∗ G x) -∗ Y)) : iprop(A ∗ R) ⊢ iprop((∀ x, iprop(A' ∗ R) -∗ G x) -∗ Y) := by
  iintro ⟨H, HR⟩ Hk
  iapply h $$ H
  iintro %x H
  iapply Hk
  isplitl [H]; · iexact H
  iexact HR

/-- A step that changes the rest and what is owed. -/
theorem frEO (h : iprop(Ctx m K κ ∗ E ∗ Owes c p) ⊢ iprop(((E' ∗ Owes c p') -∗ X) -∗ Y)) :
    Bd m K κ c E A0 A1 A2 A3 p ⊢ iprop((Bd m K κ c E' A0 A1 A2 A3 p' -∗ X) -∗ Y) := by
  unfold Bd
  iintro ⟨#HC, HE, H0, H1, H2, H3, Ho⟩ Hk
  iapply h $$ [HE Ho]
  · isplitr; · iexact HC
    isplitl [HE]; · iexact HE
    iexact Ho
  iintro ⟨HE, Ho⟩
  iapply Hk
  isplitr; · iexact HC
  isplitl [HE]; · iexact HE
  isplitl [H0]; · iexact H0
  isplitl [H1]; · iexact H1
  isplitl [H2]; · iexact H2
  isplitl [H3]; · iexact H3
  iexact Ho

end Rules

section State
variable (c : Dev nD) (l : Fin 4)

/-- The landing slots before they are first released. -/
def PZ : sProp 𝕄 := iprop(rcvFree c l 0 ∗ rcvFree c l 1 ∗ readerAt EL (c, l, 0) 0 ∗ readerAt EL (c, l, 1) 0)
/-- The credits of the reduce-scatter, none collected. -/
def CZ : sProp 𝕄 := iprop(atPos ER (cC c l) 0 ∅ 0 ∗ bigSep (Finset.Ico 0 29) (fun j => cred (tallyAt (cC c l) (16 * (j + 1) + 8 + l.val) 1)))
/-- What only the all-gather uses. -/
def GG : sProp 𝕄 := iprop(stFree c l 1 ∗ outTodo c l 0 ∗ Td c l 0 ∗ (PU c l 0 ∗ PU c l 1 ∗ PU c l 2) ∗ (PV c l 0 ∗ PV c l 1 ∗ PV c l 2) ∗ PT c l 0 ∗ PT c l 3
  ∗ PA c l 0 ∗ TkU c l 0 ∗ TkV c l 0 ∗ TkA c l 0 ∗ TkT c l 0 ∗ dutyTok ER (cT c l 0) 0 0)
def Gr : sProp 𝕄 := iprop(agFree c l 0 ∗ stFree c l 0 ∗ GG c l)
def Gd : sProp 𝕄 := iprop(DB c l 0 ∗ Gr c l)

/-- A lane on entry; with its landing slots released; with what the barrier hands over; with its first partial sum. -/
def Z0 : sProp 𝕄 := iprop(accFree c l 0 ∗ accFree c l 1 ∗ PS c l 0 ∗ PS c l 1 ∗ PR c l 0 ∗ PR c l 1 ∗ PZ c l ∗ TkR c l 0 ∗ TkC c l 0 ∗ CZ c l ∗ TkS c l 0
  ∗ agFree c l 1 ∗ agFree c l 2 ∗ Gr c l)
def Z1 : sProp 𝕄 := iprop(accFree c l 0 ∗ accFree c l 1 ∗ PS c l 0 ∗ PS c l 1 ∗ Rw c l 0 ∗ CZ c l ∗ TkS c l 0 ∗ Gr c l)
def VV : sProp 𝕄 := iprop(accFree c l 1 ∗ PS c l 0 ∗ PS c l 1 ∗ Rw c l 0 ∗ RC c l 0 ∗ TkS c l 0 ∗ Gd c l)
def Z2 : sProp 𝕄 := iprop(accFree c l 0 ∗ VV c l)
def Z3 : sProp 𝕄 := iprop(accAt c l 0 (accInit l (xrow m c c.val) (wcol m c l)) ∗ VV c l)

/-- What is left of the reduce-scatter after its loop. -/
def RE : sProp 𝕄 := iprop(PS c l 31 ∗ PS c l 32 ∗ PR c l 31 ∗ PR c l 32 ∗ rcvFree c l 1 ∗ rcvFree c l 0
  ∗ (∃ T : Finset ℕ, ⌜T ⊆ Finset.range 29 ∧ 29 ≤ T.card⌝ ∗ atPos ER (cC c l) 0 T 29))
/-- A lane between the loops: its total in a slot; the total ready to be passed on; ready to be copied to the result. -/
def Y0 : sProp 𝕄 := iprop(accAt c l 1 (accV m l 31 c) ∗ accFree c l 0 ∗ RE c l ∗ agFree c l 0 ∗ stFree c l 0 ∗ DB c l 0 ∗ GG c l)
def Y1 : sProp 𝕄 := iprop(accAt c l 1 (accV m l 31 c) ∗ accFree c l 0 ∗ RE c l ∗ agAt c l 0 (agInit l (accV m l 31 c)) ∗ stFree c l 0 ∗ DB c l 0 ∗ GG c l)
def Y2 : sProp 𝕄 := iprop(accAt c l 1 (accV m l 31 c) ∗ accFree c l 0 ∗ RE c l ∗ agAt c l 0 (agInit l (accV m l 31 c)) ∗ stAt c l 0 (stInit l (accV m l 31 c)) ∗ DB c l 0 ∗ GG c l)
def HH : sProp 𝕄 := iprop(accFree c l 1 ∗ accFree c l 0 ∗ RE c l)

/-- What is left of the all-gather after its loop, and the lane through the last waits. -/
def AE : sProp 𝕄 := iprop(agAt c l (m3 31) (agV m l 31 c) ∗ PU c l 31 ∗ PU c l 32 ∗ PA c l 31 ∗ (PV c l 31 ∗ PV c l 32 ∗ PV c l 33) ∗ agFree c l 2
  ∗ bigSep (Finset.range 30) (fun k => outDone m c l k))
def X0 : sProp 𝕄 := iprop(PUf c l 30 ∗ Fl c l 32 ∗ Fl c l 31 ∗ AE m c l ∗ HH c l)
def X1 : sProp 𝕄 := iprop((agFree c l (m3 30) ∗ PU c l 33) ∗ Fl c l 32 ∗ Fl c l 31 ∗ AE m c l ∗ HH c l)
def X2 : sProp 𝕄 := iprop((agFree c l (m3 30) ∗ PU c l 33) ∗ (FreeSt c l 34 ∗ outDone m c l 31) ∗ Fl c l 31 ∗ AE m c l ∗ HH c l)
def X3 : sProp 𝕄 := iprop((agFree c l (m3 30) ∗ PU c l 33) ∗ (FreeSt c l 34 ∗ outDone m c l 31) ∗ (FreeSt c l 33 ∗ outDone m c l 30) ∗ AE m c l ∗ HH c l)

/-- A lane's buffers on leaving, and its semaphores. -/
def Mem : sProp 𝕄 := iprop(accFree c l 0 ∗ accFree c l 1 ∗ rcvFree c l 0 ∗ rcvFree c l 1 ∗ agFree c l 0 ∗ agFree c l 1 ∗ agFree c l 2 ∗ stFree c l 0 ∗ stFree c l 1
  ∗ bigSep (Finset.range 32) (fun k => outDone m c l k))
def Sm : sProp 𝕄 := bigSep (Finset.univ : Finset (Fin 14)) (fun k => semVal (kcell (c, some (l, k))) 0)

/-- The signals of the barrier a device pays, its wait. -/
def S1 : sProp 𝕄 := iprop(dutyTok ER (cB (mv false c)) 0 1 ∗ LP (mv false c) 0 ∗ LP (mv false c) 1)
def S2 : sProp 𝕄 := iprop(dutyTok ER (cB (mv true c)) 0 0 ∗ LP (mv true c) 2 ∗ LP (mv true c) 3)
def BW : sProp 𝕄 := iprop(atPos ER (cB c) 0 ∅ 0 ∗ cred (tallyAt (cB c) 2 2))
def E0 : sProp 𝕄 := iprop(EX m c ∗ dutyTok ER (cB (mv false c)) 0 1 ∗ dutyTok ER (cB (mv true c)) 0 0 ∗ BW c)
def E1 : sProp 𝕄 := iprop(EX m c ∗ S1 c ∗ S2 c ∗ BW c)
def E2 : sProp 𝕄 := iprop(EX m c ∗ S2 c ∗ BW c)
def E3 : sProp 𝕄 := iprop(EX m c ∗ BW c)
def E4 : sProp 𝕄 := iprop(EX m c ∗ atPos ER (cB c) 1 ∅ 0)

end State

section Ops
variable (c : Dev nD) (l : Fin 4)

/-- The landing slots of a lane are released for the first time. -/
theorem enter_lane : iprop(Ctx m K κ ∗ Z0 c l) ⊢ (|={Set.univ}=> iprop(LP (src l c) l ∗ Z1 c l) : sProp 𝕄) := by
  unfold Z0 Z1 PZ Rw
  iintro ⟨#HC, H1, H2, H3, H4, Hp0, Hp1, ⟨Hf0, Hf1, Hr0, Hr1⟩, H5, H6, H7, H8, Ha1, Ha2, HG⟩
  imod (slot_release EL (ι := κ (c, l, 0)) (S := slotS (F := F) (c, l, 0)) (Set.mem_univ _) (slotS_two (c, l, 0)) 0) $$ [Hf0 Hr0] with ⟨Hr0, #Hl0⟩
  · isplitr; · iapply (Ctx_slot m K κ (c, l, 0)); iexact HC
    isplitl [Hr0]; · iexact Hr0
    iapply (show (rcvFree c l 0 : sProp 𝕄) ⊢ slotS (c, l, 0) from .rfl); iexact Hf0
  imod (slot_release EL (ι := κ (c, l, 1)) (S := slotS (F := F) (c, l, 1)) (Set.mem_univ _) (slotS_two (c, l, 1)) 0) $$ [Hf1 Hr1] with ⟨Hr1, #Hl1⟩
  · isplitr; · iapply (Ctx_slot m K κ (c, l, 1)); iexact HC
    isplitl [Hr1]; · iexact Hr1
    iapply (show (rcvFree c l 1 : sProp 𝕄) ⊢ slotS (c, l, 1) from .rfl); iexact Hf1
  imodintro
  isplitl [Ha1 Ha2]
  · unfold LP Kn
    rw [dst_src]
    isplitr
    · isplitr; · iexact Hl0
      iapply (show Ctx m K κ ⊢ reached ER (cR c l (m2 0)) 0 from Ctx_reached m K κ c (some (l, kR 0))); iexact HC
    isplitr
    · isplitr; · iexact Hl1
      iapply (show Ctx m K κ ⊢ reached ER (cR c l (m2 1)) 0 from Ctx_reached m K κ c (some (l, kR 1))); iexact HC
    isplitl [Ha1]; · iexact Ha1
    iexact Ha2
  isplitl [H1]; · iexact H1
  isplitl [H2]; · iexact H2
  isplitl [H3]; · iexact H3
  isplitl [H4]; · iexact H4
  isplitl [Hp0 Hp1 Hr0 Hr1 H5 H6]
  · isplitl [Hp0]; · iexact Hp0
    isplitl [Hp1]; · iexact Hp1
    isplitl [Hr0]
    · unfold RDK; rw [if_pos (by omega)]
      isplitl [Hr0]; · iexact Hr0
      iexact Hl0
    isplitl [Hr1]
    · unfold RDK; rw [if_pos (by omega)]
      isplitl [Hr1]; · iexact Hr1
      iexact Hl1
    isplitl [H5]; · iexact H5
    iexact H6
  isplitl [H7]; · iexact H7
  isplitl [H8]; · iexact H8
  iexact HG

theorem enter_all {p : ℕ} : Bd m K κ c (E0 m c) (Z0 c 0) (Z0 c 1) (Z0 c 2) (Z0 c 3) p
    ⊢ (|={Set.univ}=> Bd m K κ c (E1 m c) (Z1 c 0) (Z1 c 1) (Z1 c 2) (Z1 c 3) p : sProp 𝕄) := by
  unfold Bd E0 E1 S1 S2
  iintro ⟨#HC, ⟨HX, Ht1, Ht2, HB⟩, H0, H1, H2, H3, Ho⟩
  imod (enter_lane m K κ c 0) $$ [H0] with ⟨L0, H0⟩
  · isplitr; · iexact HC
    iexact H0
  imod (enter_lane m K κ c 1) $$ [H1] with ⟨L1, H1⟩
  · isplitr; · iexact HC
    iexact H1
  imod (enter_lane m K κ c 2) $$ [H2] with ⟨L2, H2⟩
  · isplitr; · iexact HC
    iexact H2
  imod (enter_lane m K κ c 3) $$ [H3] with ⟨L3, H3⟩
  · isplitr; · iexact HC
    iexact H3
  imodintro
  isplitr; · iexact HC
  isplitl [HX Ht1 Ht2 HB L0 L1 L2 L3]
  · isplitl [HX]; · iexact HX
    isplitl [Ht1 L0 L1]
    · isplitl [Ht1]; · iexact Ht1
      isplitl [L0]; · iexact L0
      iexact L1
    isplitl [Ht2 L2 L3]
    · isplitl [Ht2]; · iexact Ht2
      isplitl [L2]; · iexact L2
      iexact L3
    iexact HB
  isplitl [H0]; · iexact H0
  isplitl [H1]; · iexact H1
  isplitl [H2]; · iexact H2
  isplitl [H3]; · iexact H3
  iexact Ho

theorem bar_signal1 {α : Type} {Q : α → sProp 𝕄} {n : Dev nD} (hn : n = mv false c) {k : PUnit → Prog (TpuEff nD τ sig (Elt F) Λ₀ .tc) α} :
    iprop(Ctx m K κ ∗ E1 m c ∗ Owes c 1)
      ⊢ iprop(((E2 m c ∗ Owes c 2) -∗ WP c (k ⟨⟩) Q) -∗ WP c (.op (.semSignal (Dev.tc n) barS 1) k) Q) := by
  subst hn
  unfold E1 E2 S1 Owes
  iintro ⟨#HC, ⟨HX, ⟨Ht, HL⟩, HR⟩, ⟨%W, Ho⟩⟩ Hk
  iapply (Rounds.wp_signal 𝒱₀ ER (Rd m) (c : Thread nD τ) none (dst := (mv false c : Thread nD τ)) (κ := K (mv false c, none)) (d := 1) (r := 0)
    (by rw [dutB m (mv false c)]; decide) (amtB m (mv false c) 0 1) 2 (O c 2)
    ((O_step c (by omega)).trans (congrArg _ (due_bar1 c))) (W := W)) $$ [Ho Ht HL]
  · isplitr; · iapply (Ctx_B m K κ (mv false c)); iexact HC
    isplitl [Ho]; · iexact Ho
    isplitl [Ht]; · iexact Ht
    isplitl [HL]
    · iapply (Entails.of_eq (payB1 m (mv false c) 0).symm); iexact HL
    · iapply (Ctx_reached m K κ (mv false c) none); iexact HC
  iintro Ho
  iapply Hk
  isplitr [Ho]
  · isplitl [HX]; · iexact HX
    iexact HR
  · iexists W; iexact Ho

theorem bar_signal2 {α : Type} {Q : α → sProp 𝕄} {n : Dev nD} (hn : n = mv true c) {k : PUnit → Prog (TpuEff nD τ sig (Elt F) Λ₀ .tc) α} :
    iprop(Ctx m K κ ∗ E2 m c ∗ Owes c 2)
      ⊢ iprop(((E3 m c ∗ Owes c 3) -∗ WP c (k ⟨⟩) Q) -∗ WP c (.op (.semSignal (Dev.tc n) barS 1) k) Q) := by
  subst hn
  unfold E2 E3 S2 Owes
  iintro ⟨#HC, ⟨HX, ⟨Ht, HL⟩, HR⟩, ⟨%W, Ho⟩⟩ Hk
  iapply (Rounds.wp_signal 𝒱₀ ER (Rd m) (c : Thread nD τ) none (dst := (mv true c : Thread nD τ)) (κ := K (mv true c, none)) (d := 0) (r := 0)
    (by rw [dutB m (mv true c)]; decide) (amtB m (mv true c) 0 0) 2 (O c 3)
    ((O_step c (by omega)).trans (congrArg _ (due_bar2 c))) (W := W)) $$ [Ho Ht HL]
  · isplitr; · iapply (Ctx_B m K κ (mv true c)); iexact HC
    isplitl [Ho]; · iexact Ho
    isplitl [Ht]; · iexact Ht
    isplitl [HL]
    · iapply (Entails.of_eq (payB0 m (mv true c) 0).symm); iexact HL
    · iapply (Ctx_reached m K κ (mv true c) none); iexact HC
  iintro Ho
  iapply Hk
  isplitr [Ho]
  · isplitl [HX]; · iexact HX
    iexact HR
  · iexists W; iexact Ho

omit [FloatOps F] in
/-- A lane takes what the barrier hands over. -/
theorem take_lane : iprop(LP c l ∗ Z1 c l) ⊢ (Z2 c l : sProp 𝕄) := by
  unfold LP Z1 Z2 VV CZ RC Gd DB
  iintro ⟨⟨#Hk0, #Hk1, Ha1, Ha2⟩, H1, H2, H3, H4, H5, ⟨H6, H6'⟩, H7, H8⟩
  isplitl [H1]; · iexact H1
  isplitl [H2]; · iexact H2
  isplitl [H3]; · iexact H3
  isplitl [H4]; · iexact H4
  isplitl [H5]; · iexact H5
  isplitl [H6 H6']
  · isplitr; · iexact Hk0
    isplitr; · iexact Hk1
    isplitl [H6]
    · iexists ∅
      isplitr; · ipureintro; exact ⟨Finset.empty_subset _, Nat.zero_le _⟩
      isplitl [H6]; · iexact H6
      unfold Cpay; rw [bigSep_empty]; iempintro
    iexact H6'
  isplitl [H7]; · iexact H7
  isplitl [Ha1 Ha2]
  · rw [if_pos rfl, if_pos (by omega)]
    isplitl [Ha1]; · iexact Ha1
    iexact Ha2
  iexact H8

theorem rest_B : bigSep ((Rd m).duties (cB c) 0 \ ∅) (fun d => (Rd m).payload (cB c) 0 d) = iprop((LP c 2 ∗ LP c 3) ∗ (LP c 0 ∗ LP c 1)) := by
  rw [Finset.sdiff_empty, dutB, bigSep_insert (by decide), bigSep_singleton, payB0, payB1]; rfl

theorem bar_wait {α : Type} {Q : α → sProp 𝕄} {k : PUnit → Prog (TpuEff nD τ sig (Elt F) Λ₀ .tc) α} :
    Bd m K κ c (E3 m c) (Z1 c 0) (Z1 c 1) (Z1 c 2) (Z1 c 3) 16
      ⊢ iprop((Bd m K κ c (E4 m c) (Z2 c 0) (Z2 c 1) (Z2 c 2) (Z2 c 3) 16 -∗ WP c (k ⟨⟩) Q) -∗ WP c (.op (.semWait barS 2) k) Q) := by
  unfold Bd E3 E4 BW Owes
  iintro ⟨#HC, ⟨HX, Hat, Hc⟩, H0, H1, H2, H3, ⟨%W, Ho⟩⟩ Hk
  iapply (Rounds.wp_wait_rest_token 𝒱₀ ER (Rd m) (c : Thread nD τ) none (κ := K (c, none)) (w := .semWait barS 2) (wpE_semWait_eq 𝒱₀ (c : Thread nD τ) none Set.univ) (Set.mem_univ _) 2 (O := O c 16) (W := W) (R := 0) (m := 0) (T := ∅)
    ((Nat.zero_add 2).trans (expB m c).symm)) $$ [Hc Ho Hat]
  · isplitr; · iapply (Ctx_B m K κ c); iexact HC
    isplitl [Hc]; · iexact Hc
    isplitl [Ho]; · iexact Ho
    isplitr; · iapply (Ctx_mayWait m K κ c (.reg barS) (show 2 < 16 by omega) (by omega)); iexact HC
    iexact Hat
  iintro ⟨Ho, Hat, -, Hp⟩
  icases (Entails.of_eq (rest_B m c)) $$ Hp with ⟨⟨L2, L3⟩, L0, L1⟩
  iapply Hk
  isplitr; · iexact HC
  isplitl [HX Hat]
  · isplitl [HX]; · iexact HX
    iexact Hat
  isplitl [L0 H0]
  · iapply (take_lane c 0)
    isplitl [L0]; · iexact L0
    iexact H0
  isplitl [L1 H1]
  · iapply (take_lane c 1)
    isplitl [L1]; · iexact L1
    iexact H1
  isplitl [L2 H2]
  · iapply (take_lane c 2)
    isplitl [L2]; · iexact L2
    iexact H2
  isplitl [L3 H3]
  · iapply (take_lane c 3)
    isplitl [L3]; · iexact L3
    iexact H3
  iexists _; iexact Ho

/-- The first partial sum starts the reduce-scatter. -/
theorem first_sum : (Z3 m c l : sProp 𝕄) ⊢ iprop(R0 m c l 0 ∗ Gd c l) := by
  unfold Z3 VV R0 Oth
  rw [if_pos rfl]
  iintro ⟨H1, H2, H3, H4, H5, H6, H7, H8⟩
  isplitr [H8]
  · isplitl [H1]; · iexact H1
    isplitl [H3]; · iexact H3
    isplitl [H2 H4]
    · isplitl [H2]; · iexact H2
      iexact H4
    isplitl [H5]; · iexact H5
    isplitl [H6]; · iexact H6
    iexact H7
  iexact H8

theorem rs_end {α : Type} {Q : α → sProp 𝕄} {p : ℕ} (hp : 0 < p)
    {o1 : Fin 2 → ℕ} {i1 : ∀ a : Fin S4x2.rank, o1 a + S1x1.size a ≤ S4x2.size a} (h1 : o1 = ![l.val, (m2 30).val])
    {o2 : Fin 4 → ℕ} {i2 : ∀ a : Fin S4x2x256x1024.rank, o2 a + S1x1x256x1024.size a ≤ S4x2x256x1024.size a}
    {w1 w2} {k : PUnit → Prog (TpuEff nD τ sig (Elt F) Λ₀ .tc) α} :
    iprop(Ctx m K κ ∗ (R0 m c l 31 ∗ Gd c l) ∗ Owes c p)
      ⊢ iprop(((Y0 m c l ∗ Owes c p) -∗ WP c (k ⟨⟩) Q)
          -∗ WP c (.op (.waitDma2 ((cc0_scratch4.slice (Rect.unit (s := S4x2) o1 S1x1.size i1)).squeeze S_ squeezes_S1x1_S_).sem
              (d2 rcvB o2 i2)
              (d2 accB o2 i2) w1 w2) k) Q) := by
  have hO : (Oth c l 31 : sProp 𝕄) ⊢ PSf c l 30 := by unfold Oth; rw [if_neg (by omega)]
  have hD1 : (RDK c l 31 : sProp 𝕄) ⊢ rcvFree c l 1 := by unfold RDK; rw [if_neg (by omega)]; exact .rfl
  have hD2 : (RDK c l (31 + 1) : sProp 𝕄) ⊢ rcvFree c l 0 := by unfold RDK; rw [if_neg (by omega)]; exact .rfl
  unfold R0 Rw RC Gd Gr Y0 RE
  iintro ⟨#HC, ⟨⟨Hacc, Hps, Hoth, ⟨Hp1, Hp2, Hd1, Hd2, -, -⟩, ⟨-, -, ⟨%T, %hT, Hat, -⟩, -⟩, -⟩, HDB, Hag, Hst, HGG⟩, Ho⟩ Hk
  iapply (PSf_wait m K κ c l (j := 30) (by omega) hp h1) $$ [Hoth Ho]
  · isplitr; · iexact HC
    isplitl [Hoth]; · iapply hO; iexact Hoth
    iexact Ho
  iintro ⟨Hf, Hps2, Ho⟩
  iapply Hk
  isplitr [Ho]
  · isplitl [Hacc]; · iexact Hacc
    isplitl [Hf]; · iexact Hf
    isplitl [Hps Hps2 Hp1 Hp2 Hd1 Hd2 Hat]
    · isplitl [Hps]; · iexact Hps
      isplitl [Hps2]; · iexact Hps2
      isplitl [Hp1]; · iexact Hp1
      isplitl [Hp2]; · iexact Hp2
      isplitl [Hd1]; · iapply hD1; iexact Hd1
      isplitl [Hd2]; · iapply hD2; iexact Hd2
      iexists T
      isplitr; · ipureintro; exact hT
      iexact Hat
    isplitl [Hag]; · iexact Hag
    isplitl [Hst]; · iexact Hst
    isplitl [HDB]; · iexact HDB
    iexact HGG
  iexact Ho

theorem ed_ldA {α : Type} {Q : α → sProp 𝕄} {off : Fin 4 → ℕ} {inb : ∀ a : Fin S4x2x256x1024.rank, off a + S1x1x256x1024.size a ≤ S4x2x256x1024.size a} (hoff : off = ![l.val, 1, 0, 0])
    {hl : accB.view.LoadsAt (Rect.unit (s := S4x2x256x1024) off S1x1x256x1024.size inb).toLoadRect} {k : (S1x1x256x1024.Idx → Elt F .bf16) → Prog (TpuEff nD τ sig (Elt F) Λ₀ .tc) α} :
    Y0 m c l ⊢ iprop((Y0 m c l -∗ WP c (k (accV m l 31 c)) Q)
      -∗ WP c (.op (.load accB (Rect.unit (s := S4x2x256x1024) off S1x1x256x1024.size inb).toLoadRect hl) k) Q) :=
  carry (ld2 accB c l 1 (accV m l 31 c) off inb hoff)

theorem ed_ldG {α : Type} {Q : α → sProp 𝕄} {off : Fin 4 → ℕ} {inb : ∀ a : Fin S4x3x256x1024.rank, off a + S1x1x256x1024.size a ≤ S4x3x256x1024.size a} (hoff : off = ![l.val, 0, 0, 0])
    {hl : agB.view.LoadsAt (Rect.unit (s := S4x3x256x1024) off S1x1x256x1024.size inb).toLoadRect} {k : (S1x1x256x1024.Idx → Elt F .bf16) → Prog (TpuEff nD τ sig (Elt F) Λ₀ .tc) α} :
    Y0 m c l ⊢ iprop((∀ X, Y0 m c l -∗ WP c (k X) Q)
      -∗ WP c (.op (.load agB (Rect.unit (s := S4x3x256x1024) off S1x1x256x1024.size inb).toLoadRect hl) k) Q) := by
  unfold Y0
  iintro ⟨H1, H2, H3, H4, H5⟩ Hk
  iapply (ld3f agB c l 0 off inb hoff) $$ H4
  iintro %X H4
  iapply Hk
  isplitl [H1]; · iexact H1
  isplitl [H2]; · iexact H2
  isplitl [H3]; · iexact H3
  isplitl [H4]; · iexact H4
  iexact H5

theorem ed_stG {α : Type} {Q : α → sProp 𝕄} {w : S1x1x256x1024.Idx → Elt F .bf16} (hw : w = agInit l (accV m l 31 c))
    {off : Fin 4 → ℕ} {inb : ∀ a : Fin S4x3x256x1024.rank, off a + S1x1x256x1024.size a ≤ S4x3x256x1024.size a} (hoff : off = ![l.val, 0, 0, 0])
    {h1 : (agB.access (Rect.unit (s := S4x3x256x1024) off S1x1x256x1024.size inb)).Stores Finset.univ} {h2} {k : PUnit → Prog (TpuEff nD τ sig (Elt F) Λ₀ .tc) α} :
    Y0 m c l ⊢ iprop((Y1 m c l -∗ WP c (k ⟨⟩) Q)
      -∗ WP c (.op (.store agB (Rect.unit (s := S4x3x256x1024) off S1x1x256x1024.size inb) w Finset.univ h1 h2) k) Q) := by
  subst hw
  unfold Y0 Y1
  iintro ⟨H1, H2, H3, H4, H5⟩ Hk
  iapply (st3 agB c l 0 _ off inb hoff) $$ H4
  iintro H4
  iapply Hk
  isplitl [H1]; · iexact H1
  isplitl [H2]; · iexact H2
  isplitl [H3]; · iexact H3
  isplitl [H4]; · iexact H4
  iexact H5

theorem ed_ldT {α : Type} {Q : α → sProp 𝕄} {off : Fin 4 → ℕ} {inb : ∀ a : Fin S4x2x256x1024.rank, off a + S1x1x256x1024.size a ≤ S4x2x256x1024.size a} (hoff : off = ![l.val, 0, 0, 0])
    {hl : stB.view.LoadsAt (Rect.unit (s := S4x2x256x1024) off S1x1x256x1024.size inb).toLoadRect} {k : (S1x1x256x1024.Idx → Elt F .f32) → Prog (TpuEff nD τ sig (Elt F) Λ₀ .tc) α} :
    Y1 m c l ⊢ iprop((∀ X, Y1 m c l -∗ WP c (k X) Q)
      -∗ WP c (.op (.load stB (Rect.unit (s := S4x2x256x1024) off S1x1x256x1024.size inb).toLoadRect hl) k) Q) := by
  unfold Y1
  iintro ⟨H1, H2, H3, H4, H5, H6⟩ Hk
  iapply (ld2f stB c l 0 off inb hoff) $$ H5
  iintro %X H5
  iapply Hk
  isplitl [H1]; · iexact H1
  isplitl [H2]; · iexact H2
  isplitl [H3]; · iexact H3
  isplitl [H4]; · iexact H4
  isplitl [H5]; · iexact H5
  iexact H6

theorem ed_stT {α : Type} {Q : α → sProp 𝕄} {w : S1x1x256x1024.Idx → Elt F .f32} (hw : w = stInit l (accV m l 31 c))
    {off : Fin 4 → ℕ} {inb : ∀ a : Fin S4x2x256x1024.rank, off a + S1x1x256x1024.size a ≤ S4x2x256x1024.size a} (hoff : off = ![l.val, 0, 0, 0])
    {h1 : (stB.access (Rect.unit (s := S4x2x256x1024) off S1x1x256x1024.size inb)).Stores Finset.univ} {h2} {k : PUnit → Prog (TpuEff nD τ sig (Elt F) Λ₀ .tc) α} :
    Y1 m c l ⊢ iprop((Y2 m c l -∗ WP c (k ⟨⟩) Q)
      -∗ WP c (.op (.store stB (Rect.unit (s := S4x2x256x1024) off S1x1x256x1024.size inb) w Finset.univ h1 h2) k) Q) := by
  subst hw
  unfold Y1 Y2
  iintro ⟨H1, H2, H3, H4, H5, H6⟩ Hk
  iapply (st2 stB c l 0 _ off inb hoff) $$ H5
  iintro H5
  iapply Hk
  isplitl [H1]; · iexact H1
  isplitl [H2]; · iexact H2
  isplitl [H3]; · iexact H3
  isplitl [H4]; · iexact H4
  isplitl [H5]; · iexact H5
  iexact H6

/-- The copy of a lane's own block starts, and the all-gather with it. -/
theorem ed_copy {α : Type} {Q : α → sProp 𝕄} {p : ℕ}
    {o1 : Fin 2 → ℕ} {i1 : ∀ a : Fin S4x2.rank, o1 a + S1x1.size a ≤ S4x2.size a} (h1 : o1 = ![l.val, (m2 0).val])
    {o2 : Fin 4 → ℕ} {i2 : ∀ a : Fin S4x2x256x1024.rank, o2 a + S1x1x256x1024.size a ≤ S4x2x256x1024.size a} (h2 : o2 = ![l.val, (m2 0).val, 0, 0])
    {o3 : Fin 2 → ℕ} {i3 : ∀ a : Fin S8192x4096.rank, o3 a + S256x1024.size a ≤ S8192x4096.size a} (h3 : o3 = ![256 * (outRow l c 0 % 32), 1024 * l.val])
    {w1 w2 w3} {k : PUnit → Prog (TpuEff nD τ sig (Elt F) Λ₀ .tc) α} :
    iprop(Ctx m K κ ∗ Y2 m c l ∗ Owes c p)
      ⊢ iprop(((iprop(A0 m c l 0 ∗ HH c l) ∗ Owes c p) -∗ WP c (k ⟨⟩) Q)
          -∗ WP c (.op (.enqueueDma
              (d2 stB o2 i2)
              (.here (oM.slice (Rect.unit (s := S8192x4096) o3 S256x1024.size i3) (fun _ => rfl)))
              (.dma ((cc0_scratch8.slice (Rect.unit (s := S4x2) o1 S1x1.size i1)).squeeze S_ squeezes_S1x1_S_).sem) w1 w2 w3) k) Q) := by
  unfold Y2 GG A0 HH St0 Wv
  iintro ⟨#HC, ⟨Hacc, Hf, HE, Hag, Hst, HDB, Hsf, Ho0, Htd, ⟨Hu0, Hu1, Hu2⟩, ⟨Hv0, Hv1, Hv2⟩, Ht0, Ht3, Hpa, HU, HV, HA, HT, Htok⟩, Ho⟩ Hk
  iapply (cp_start m K κ c l (n := 0) (k' := 0) (by omega) (by omega) rfl h1 h2 h3) $$ [Hst Ht0 Ho0 Htok]
  · isplitr; · iexact HC
    isplitl [Hst]; · iexact Hst
    isplitl [Ht0]; · iexact Ht0
    isplitl [Ho0]; · iexact Ho0
    iexact Htok
  iintro Hfl
  iapply Hk
  isplitr [Ho]
  · isplitr [Hacc Hf HE]
    · isplitl [Hag]; · iexact Hag
      isplitl [Hu0]; · iexact Hu0
      isplitl [Hu1]; · iexact Hu1
      isplitl [Hu2]; · unfold Prv; rw [if_pos rfl]; iexact Hu2
      isplitl [Hpa]; · iexact Hpa
      isplitl [HDB]; · iexact HDB
      isplitl [HU]; · iexact HU
      isplitl [Hfl Hsf Ht3 Htd HT]
      · isplitl [Hfl]; · unfold SA; rw [if_neg (by omega)]; iexact Hfl
        isplitl [Hsf Ht3]
        · unfold SB FreeSt; rw [if_pos rfl]
          isplitl [Hsf]; · iexact Hsf
          iexact Ht3
        isplitl [Htd]; · iexact Htd
        isplitr
        · unfold Dn Ds; rw [if_pos (by omega), Finset.range_zero, bigSep_empty]; iempintro
        iexact HT
      isplitl [Hv0]; · iexact Hv0
      isplitl [Hv1]; · iexact Hv1
      isplitl [Hv2]; · iexact Hv2
      isplitl [HV]; · iexact HV
      isplitl [HA]; · iexact HA
      unfold KA; rw [if_neg (by omega)]; iempintro
    isplitl [Hacc]; · iapply (at2_free accB c l 1 _); iexact Hacc
    isplitl [Hf]; · iexact Hf
    iexact HE
  iexact Ho

theorem ag_last : iprop(A0 m c l 31 ∗ HH c l) ⊢ (X0 m c l : sProp 𝕄) := by
  have hP : (Prv c l 31 : sProp 𝕄) ⊢ PUf c l 30 := by unfold Prv; rw [if_neg (by omega)]
  have hA : (SA c l 31 : sProp 𝕄) ⊢ Fl c l 31 := by unfold SA; rw [if_neg (by omega)]
  have hB : (SB c l 31 : sProp 𝕄) ⊢ Fl c l 32 := by unfold SB; rw [if_neg (by omega)]
  have hK : (KA c l 31 : sProp 𝕄) ⊢ agFree c l 2 := by unfold KA; rw [if_pos rfl]
  have hD : (Dn m c l 31 : sProp 𝕄) ⊢ bigSep (Finset.range 30) (fun k => outDone m c l k) := by unfold Dn Ds; rw [if_neg (by omega)]
  unfold A0 X0 AE St0 Wv
  iintro ⟨⟨Hag, Hu1, Hu2, Hpv, Hpa, -, -, ⟨HA, HB, -, HD, -⟩, Hv1, Hv2, Hv3, -, -, HK⟩, HH⟩
  isplitl [Hpv]; · iapply hP; iexact Hpv
  isplitl [HB]; · iapply hB; iexact HB
  isplitl [HA]; · iapply hA; iexact HA
  isplitr [HH]
  · isplitl [Hag]; · iexact Hag
    isplitl [Hu1]; · iexact Hu1
    isplitl [Hu2]; · iexact Hu2
    isplitl [Hpa]; · iexact Hpa
    isplitl [Hv1 Hv2 Hv3]
    · isplitl [Hv1]; · iexact Hv1
      isplitl [Hv2]; · iexact Hv2
      iexact Hv3
    isplitl [HK]; · iapply hK; iexact HK
    iapply hD; iexact HD
  iexact HH

theorem fin_U {α : Type} {Q : α → sProp 𝕄} {p : ℕ} (hp : 0 < p)
    {o1 : Fin 2 → ℕ} {i1 : ∀ a : Fin S4x3.rank, o1 a + S1x1.size a ≤ S4x3.size a} (h1 : o1 = ![l.val, (m3 30).val])
    {o2 : Fin 4 → ℕ} {i2 : ∀ a : Fin S4x3x256x1024.rank, o2 a + S1x1x256x1024.size a ≤ S4x3x256x1024.size a}
    {o2' : Fin 4 → ℕ} {i2' : ∀ a : Fin S4x3x256x1024.rank, o2' a + S1x1x256x1024.size a ≤ S4x3x256x1024.size a}
    {w1 w2} {k : PUnit → Prog (TpuEff nD τ sig (Elt F) Λ₀ .tc) α} :
    iprop(Ctx m K κ ∗ X0 m c l ∗ Owes c p)
      ⊢ iprop(((X1 m c l ∗ Owes c p) -∗ WP c (k ⟨⟩) Q)
          -∗ WP c (.op (.waitDma2 ((cc0_scratch6.slice (Rect.unit (s := S4x3) o1 S1x1.size i1)).squeeze S_ squeezes_S1x1_S_).sem
              (d3 agB o2 i2)
              (d3 agB o2' i2') w1 w2) k) Q) := by
  unfold X0 X1
  iintro ⟨#HC, ⟨H1, H2⟩, Ho⟩ Hk
  iapply (PUf_wait m K κ c l (j := 30) (by omega) hp h1) $$ [H1 Ho]
  · isplitr; · iexact HC
    isplitl [H1]; · iexact H1
    iexact Ho
  iintro ⟨Hf, Hu, Ho⟩
  iapply Hk
  isplitr [Ho]
  · isplitl [Hf Hu]
    · isplitl [Hf]; · iexact Hf
      iexact Hu
    iexact H2
  iexact Ho

theorem fin_T0 {α : Type} {Q : α → sProp 𝕄} {p : ℕ} (hp : 0 < p)
    {o1 : Fin 2 → ℕ} {i1 : ∀ a : Fin S4x2.rank, o1 a + S1x1.size a ≤ S4x2.size a} (h1 : o1 = ![l.val, (m2 32).val])
    {o2 : Fin 4 → ℕ} {i2 : ∀ a : Fin S4x2x256x1024.rank, o2 a + S1x1x256x1024.size a ≤ S4x2x256x1024.size a}
    {w1 w2} {k : PUnit → Prog (TpuEff nD τ sig (Elt F) Λ₀ .tc) α} :
    iprop(Ctx m K κ ∗ X1 m c l ∗ Owes c p)
      ⊢ iprop(((X2 m c l ∗ Owes c p) -∗ WP c (k ⟨⟩) Q)
          -∗ WP c (.op (.waitDma2 ((cc0_scratch8.slice (Rect.unit (s := S4x2) o1 S1x1.size i1)).squeeze S_ squeezes_S1x1_S_).sem
              (d2 stB o2 i2)
              (d2 stB o2 i2) w1 w2) k) Q) := by
  unfold X1 X2
  iintro ⟨#HC, ⟨H0, H1, H2⟩, Ho⟩ Hk
  iapply (Fl_wait m K κ c l (n := 32) (by omega) (by omega) hp h1) $$ [H1 Ho]
  · isplitr; · iexact HC
    isplitl [H1]; · iexact H1
    iexact Ho
  iintro ⟨Hf, Hu, Ho⟩
  iapply Hk
  isplitr [Ho]
  · isplitl [H0]; · iexact H0
    isplitl [Hf Hu]
    · isplitl [Hf]; · iexact Hf
      iexact Hu
    iexact H2
  iexact Ho

theorem fin_T1 {α : Type} {Q : α → sProp 𝕄} {p : ℕ} (hp : 0 < p)
    {o1 : Fin 2 → ℕ} {i1 : ∀ a : Fin S4x2.rank, o1 a + S1x1.size a ≤ S4x2.size a} (h1 : o1 = ![l.val, (m2 31).val])
    {o2 : Fin 4 → ℕ} {i2 : ∀ a : Fin S4x2x256x1024.rank, o2 a + S1x1x256x1024.size a ≤ S4x2x256x1024.size a}
    {w1 w2} {k : PUnit → Prog (TpuEff nD τ sig (Elt F) Λ₀ .tc) α} :
    iprop(Ctx m K κ ∗ X2 m c l ∗ Owes c p)
      ⊢ iprop(((X3 m c l ∗ Owes c p) -∗ WP c (k ⟨⟩) Q)
          -∗ WP c (.op (.waitDma2 ((cc0_scratch8.slice (Rect.unit (s := S4x2) o1 S1x1.size i1)).squeeze S_ squeezes_S1x1_S_).sem
              (d2 stB o2 i2)
              (d2 stB o2 i2) w1 w2) k) Q) := by
  unfold X2 X3
  iintro ⟨#HC, ⟨H0, H1, H2, H3⟩, Ho⟩ Hk
  iapply (Fl_wait m K κ c l (n := 31) (by omega) (by omega) hp h1) $$ [H2 Ho]
  · isplitr; · iexact HC
    isplitl [H2]; · iexact H2
    iexact Ho
  iintro ⟨Hf, Hu, Ho⟩
  iapply Hk
  isplitr [Ho]
  · isplitl [H0]; · iexact H0
    isplitl [H1]; · iexact H1
    isplitl [Hf Hu]
    · isplitl [Hf]; · iexact Hf
      iexact Hu
    iexact H3
  iexact Ho

/-- A cell past its last round closes. -/
theorem close_k (k : CK) {R : ℕ} (h : ∀ r, R ≤ r → dut k r = ∅) :
    iprop(Ctx m K κ ∗ atPos ER ((c : Thread nD τ), csem k) R ∅ 0) ⊢ (|={Set.univ}=> semVal (kcell (c, k)) 0 : sProp 𝕄) := by
  iintro ⟨#HC, H⟩
  iapply (Rounds.cell_close ER (Rd m) (κ := K (c, k)) (g := kcell (c, k)) (Set.mem_univ _) (fun h => h) (R := R) (duties_past m c h))
  isplitr; · iapply (Ctx_inv m K κ c k); iexact HC
  iexact H

theorem close_S {j : ℕ} (b : Fin 2) (hb : m2 j = b) (hj : 31 ≤ j) :
    iprop(Ctx m K κ ∗ PS c l j) ⊢ (|={Set.univ}=> semVal (kcell (c, some (l, kS b))) 0 : sProp 𝕄) := by
  subst hb
  unfold PS
  iintro ⟨#HC, H, -⟩
  iapply (close_k m K κ c (some (l, kS (m2 j))) (R := j / 2) (fun r hr => by
    rcases (show j % 2 = 0 ∨ j % 2 = 1 by omega) with h | h
    · rw [show m2 j = 0 from Fin.ext h]; exact if_neg (by omega)
    · rw [show m2 j = 1 from Fin.ext h]; exact if_neg (by omega)))
  isplitr; · iexact HC
  rw [csem_S]; iexact H
theorem close_R {j : ℕ} (b : Fin 2) (hb : m2 j = b) (hj : 31 ≤ j) :
    iprop(Ctx m K κ ∗ PR c l j) ⊢ (|={Set.univ}=> semVal (kcell (c, some (l, kR b))) 0 : sProp 𝕄) := by
  subst hb
  unfold PR
  iintro ⟨#HC, H, -⟩
  iapply (close_k m K κ c (some (l, kR (m2 j))) (R := j / 2) (fun r hr => by
    rcases (show j % 2 = 0 ∨ j % 2 = 1 by omega) with h | h
    · rw [show m2 j = 0 from Fin.ext h]; exact if_neg (by omega)
    · rw [show m2 j = 1 from Fin.ext h]; exact if_neg (by omega)))
  isplitr; · iexact HC
  rw [csem_R]; iexact H
theorem close_T {j : ℕ} (b : Fin 2) (hb : m2 j = b) (hj : 33 ≤ j) :
    iprop(Ctx m K κ ∗ PT c l j) ⊢ (|={Set.univ}=> semVal (kcell (c, some (l, kT b))) 0 : sProp 𝕄) := by
  subst hb
  unfold PT rst
  iintro ⟨#HC, H, -⟩
  iapply (close_k m K κ c (some (l, kT (m2 j))) (R := j / 2 - j % 2) (fun r hr => by
    rcases (show j % 2 = 0 ∨ j % 2 = 1 by omega) with h | h
    · rw [show m2 j = 0 from Fin.ext h]; exact if_neg (by omega)
    · rw [show m2 j = 1 from Fin.ext h]; exact if_neg (by omega)))
  isplitr; · iexact HC
  rw [csem_T]; iexact H
theorem close_U {j : ℕ} (b : Fin 3) (hb : m3 j = b) (hj : 31 ≤ j) :
    iprop(Ctx m K κ ∗ PU c l j) ⊢ (|={Set.univ}=> semVal (kcell (c, some (l, kU b))) 0 : sProp 𝕄) := by
  subst hb
  unfold PU
  iintro ⟨#HC, H, -⟩
  iapply (close_k m K κ c (some (l, kU (m3 j))) (R := j / 3) (fun r hr => by
    rcases (show j % 3 = 0 ∨ j % 3 = 1 ∨ j % 3 = 2 by omega) with h | h | h
    · rw [show m3 j = 0 from Fin.ext h]; exact if_neg (by omega)
    · rw [show m3 j = 1 from Fin.ext h]; exact if_neg (by omega)
    · rw [show m3 j = 2 from Fin.ext h]; exact if_neg (by omega)))
  isplitr; · iexact HC
  rw [csem_U]; iexact H
theorem close_V {j : ℕ} (b : Fin 3) (hb : m3 (j + 1) = b) (hj : 31 ≤ j) :
    iprop(Ctx m K κ ∗ PV c l j) ⊢ (|={Set.univ}=> semVal (kcell (c, some (l, kV b))) 0 : sProp 𝕄) := by
  subst hb
  unfold PV
  iintro ⟨#HC, H, -⟩
  iapply (close_k m K κ c (some (l, kV (m3 (j + 1)))) (R := j / 3) (fun r hr => by
    rcases (show j % 3 = 0 ∨ j % 3 = 1 ∨ j % 3 = 2 by omega) with h | h | h
    · rw [show m3 (j + 1) = 1 from Fin.ext (show (j + 1) % 3 = 1 by omega)]; exact if_neg (by omega)
    · rw [show m3 (j + 1) = 2 from Fin.ext (show (j + 1) % 3 = 2 by omega)]; exact if_neg (by omega)
    · rw [show m3 (j + 1) = 0 from Fin.ext (show (j + 1) % 3 = 0 by omega)]; exact if_neg (by omega)))
  isplitr; · iexact HC
  rw [csem_V]; iexact H
theorem close_C {T : Finset ℕ} (hT : T ⊆ Finset.range 29 ∧ 29 ≤ T.card) :
    iprop(Ctx m K κ ∗ atPos ER (cC c l) 0 T 29) ⊢ (|={Set.univ}=> semVal (kcell (c, some (l, 12))) 0 : sProp 𝕄) := by
  have e : T = Finset.range 29 := Finset.eq_of_subset_of_card_le hT.1 (by rw [Finset.card_range]; exact hT.2)
  subst e
  iintro ⟨#HC, H⟩
  imod (Rounds.fupd_skip ER (Rd m) (κ := K (c, some (l, 12))) (g := cC c l) (R := 0) (m := 29) (T := Finset.range 29)
    (by rw [dutC]) (expC m c l).symm (Set.mem_univ _)) $$ [H] with ⟨H, -⟩
  · isplitr; · iapply (Ctx_C m K κ c l); iexact HC
    iexact H
  iapply (close_k m K κ c (some (l, 12)) (R := 1) (fun r hr => if_neg (show ¬ r = 0 by omega)))
  isplitr; · iexact HC
  iexact H
theorem close_A : iprop(Ctx m K κ ∗ PA c l 31) ⊢ (|={Set.univ}=> semVal (kcell (c, some (l, 13))) 0 : sProp 𝕄) := by
  unfold PA
  iintro ⟨#HC, H, -, -⟩
  iapply (close_k m K κ c (some (l, 13)) (R := 29) (fun r hr => if_neg (show ¬ r < 29 by omega)))
  isplitr; · iexact HC
  iexact H
theorem close_B : iprop(Ctx m K κ ∗ atPos ER (cB c) 1 ∅ 0) ⊢ (|={Set.univ}=> semVal (kcell (c, none)) 0 : sProp 𝕄) :=
  close_k m K κ c none (R := 1) (fun r hr => if_neg (show ¬ r = 0 by omega))

omit [FloatOps F] in
theorem sems_of (Φ : Fin 14 → sProp 𝕄) :
    iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) ⊢ bigSep (Finset.univ : Finset (Fin 14)) Φ := by
  rw [bigSep_univ_eq_bigSepL [0, 1, 2, 3, 4, 5, 6, 7, 8, 9, 10, 11, 12, 13] (by decide) (by decide)]
  exact .rfl

theorem leave_lane : iprop(Ctx m K κ ∗ X3 m c l) ⊢ (|={Set.univ}=> iprop(Mem m c l ∗ Sm c l) : sProp 𝕄) := by
  have hT0 : (FreeSt c l 34 : sProp 𝕄) ⊢ iprop(stFree c l 0 ∗ PT c l 34) := by unfold FreeSt; exact .rfl
  have hT1 : (FreeSt c l 33 : sProp 𝕄) ⊢ iprop(stFree c l 1 ∗ PT c l 33) := by unfold FreeSt; exact .rfl
  unfold X3 AE HH RE Mem Sm
  iintro ⟨#HC, ⟨Hg0, Hu3⟩, ⟨Ht0, Hd1⟩, ⟨Ht1, Hd0⟩, ⟨Hag, Hu1, Hu2, Hpa, ⟨Hv1, Hv2, Hv3⟩, Hg2, HD⟩, Ha1, Ha0, Hs1, Hs2, Hr1, Hr2, Hf1, Hf0, ⟨%T, %hT, Hc⟩⟩
  icases hT0 $$ Ht0 with ⟨Hst0, Ht0⟩
  icases hT1 $$ Ht1 with ⟨Hst1, Ht1⟩
  imod (close_S m K κ c l (j := 32) 0 rfl (by omega)) $$ [Hs2] with K0
  · isplitr; · iexact HC
    iexact Hs2
  imod (close_S m K κ c l (j := 31) 1 rfl (by omega)) $$ [Hs1] with K1
  · isplitr; · iexact HC
    iexact Hs1
  imod (close_R m K κ c l (j := 32) 0 rfl (by omega)) $$ [Hr2] with K2
  · isplitr; · iexact HC
    iexact Hr2
  imod (close_R m K κ c l (j := 31) 1 rfl (by omega)) $$ [Hr1] with K3
  · isplitr; · iexact HC
    iexact Hr1
  imod (close_T m K κ c l (j := 34) 0 rfl (by omega)) $$ [Ht0] with K4
  · isplitr; · iexact HC
    iexact Ht0
  imod (close_T m K κ c l (j := 33) 1 rfl (by omega)) $$ [Ht1] with K5
  · isplitr; · iexact HC
    iexact Ht1
  imod (close_U m K κ c l (j := 33) 0 rfl (by omega)) $$ [Hu3] with K6
  · isplitr; · iexact HC
    iexact Hu3
  imod (close_U m K κ c l (j := 31) 1 rfl (by omega)) $$ [Hu1] with K7
  · isplitr; · iexact HC
    iexact Hu1
  imod (close_U m K κ c l (j := 32) 2 rfl (by omega)) $$ [Hu2] with K8
  · isplitr; · iexact HC
    iexact Hu2
  imod (close_V m K κ c l (j := 32) 0 rfl (by omega)) $$ [Hv2] with K9
  · isplitr; · iexact HC
    iexact Hv2
  imod (close_V m K κ c l (j := 33) 1 rfl (by omega)) $$ [Hv3] with K10
  · isplitr; · iexact HC
    iexact Hv3
  imod (close_V m K κ c l (j := 31) 2 rfl (by omega)) $$ [Hv1] with K11
  · isplitr; · iexact HC
    iexact Hv1
  imod (close_C m K κ c l hT) $$ [Hc] with K12
  · isplitr; · iexact HC
    iexact Hc
  imod (close_A m K κ c l) $$ [Hpa] with K13
  · isplitr; · iexact HC
    iexact Hpa
  imodintro
  isplitr [K0 K1 K2 K3 K4 K5 K6 K7 K8 K9 K10 K11 K12 K13]
  · isplitl [Ha0]; · iexact Ha0
    isplitl [Ha1]; · iexact Ha1
    isplitl [Hf0]; · iexact Hf0
    isplitl [Hf1]; · iexact Hf1
    isplitl [Hg0]; · iexact Hg0
    isplitl [Hag]; · iapply (show (agAt c l (m3 31) (agV m l 31 c) : sProp 𝕄) ⊢ agFree c l 1 from at3_free agB c l 1 _); iexact Hag
    isplitl [Hg2]; · iexact Hg2
    isplitl [Hst0]; · iexact Hst0
    isplitl [Hst1]; · iexact Hst1
    iapply (show iprop((bigSep (Finset.range 30) (fun k => outDone m c l k) ∗ outDone m c l 30) ∗ outDone m c l 31) ⊢ bigSep (Finset.range 32) (fun k => outDone m c l k) from by
      rw [show Finset.range 32 = insert 31 (insert 30 (Finset.range 30)) from by decide, bigSep_insert (by decide), bigSep_insert (by decide)]
      show _ ⊢ iprop(outDone m c l 31 ∗ outDone m c l 30 ∗ bigSep (Finset.range 30) (fun k => outDone m c l k))
      iintro ⟨⟨H1, H2⟩, H3⟩
      isplitl [H3]; · iexact H3
      isplitl [H2]; · iexact H2
      iexact H1)
    isplitl [HD Hd0]
    · isplitl [HD]; · iexact HD
      iexact Hd0
    iexact Hd1
  · iapply (sems_of (fun k => semVal (kcell (c, some (l, k))) 0))
    isplitl [K0]; · iexact K0
    isplitl [K1]; · iexact K1
    isplitl [K2]; · iexact K2
    isplitl [K3]; · iexact K3
    isplitl [K4]; · iexact K4
    isplitl [K5]; · iexact K5
    isplitl [K6]; · iexact K6
    isplitl [K7]; · iexact K7
    isplitl [K8]; · iexact K8
    isplitl [K9]; · iexact K9
    isplitl [K10]; · iexact K10
    isplitl [K11]; · iexact K11
    isplitl [K12]; · iexact K12
    iexact K13

end Ops

end Cert.KernelIdealProof
-- ==== Proof.KernelIdealBody.lean ====
/-
  The whole kernel on one device.
-/
module

public import proofs.«01_k».proof.Proof.KernelIdealEdge

@[expose] public section

noncomputable section

namespace Cert.KernelIdealProof

open Cert.KernelIdeal Cert.KernelIdeal.Gen Idealize.ShloMosaic TcCoe Rounds Release Idealize.SL RA BI BI.BIBase BI.Laws ProofMode Idealize.SL.Sem
open scoped Idealize.SL.BI
open Pipeline (Dat Cfg Window BodyObligation cellOf)

variable {F : FTy → Type} [FloatOps F]

local notation "𝕄" => MT nD τ sig ℕ (Elt F) ℕ UU ℕ

variable (m : (ℓ : Loc nD τ sig) → Buf (Elt F) ℓ)
variable (K : Dev nD × CK → ℕ) (κ : RK → ℕ)

/-! ## The whole kernel -/

theorem xoff (c : Dev nD) {o : Fin 2 → ℕ} (h : o = ![256 * c.val, 0]) : o = ![256 * (c.val % 32), 0] := by
  rw [h, Nat.mod_eq_of_lt c.isLt]

theorem Owes_bar (c : Dev nD) : (Owes c 3 : sProp 𝕄) ⊢ Owes c 16 := Owes_skip c (by omega) (by omega) (fun q h1 h2 => by unfold idle; omega)

theorem part12_spec (c : Dev nD) (h0 : xM.IsWhole) (h1 : wM.IsWhole) (h2 : oM.IsWhole) (h3 : accB.IsWhole) (h4 : rcvB.IsWhole) (h5 : agB.IsWhole) (h6 : stB.IsWhole) :
    Bd m K κ c (E1 m c) (Z1 c 0) (Z1 c 1) (Z1 c 2) (Z1 c 3) 1
      ⊢ WP c (k0_part12 xM h0 wM h1 oM h2 accB h3 rcvB h4 agB h5 stB h6 cc0_scratch4 cc0_scratch5 cc0_scratch6 cc0_scratch7 cc0_scratch8 cc0_scratch9 cc0_scratch10)
          (fun v => iprop(⌜v.1 = c ∧ v.2.2.2.2 = k0_pay16 (xrow m c c.val)⌝ ∗ Bd m K κ c (E4 m c) (Z3 m c 0) (Z2 c 1) (Z2 c 2) (Z2 c 3) 16)) := by
  rw [k0_part12_eq_skeleton]
  unfold k0_part12_skel
  simp only [semWaitWord, semSignalWord, Prog.lift, Prog.bind_op, Prog.bind_ret, Prog.pure_eq_ret, wp_deviceId]
  refine chain (frEO (bar_signal1 m K κ c (Fin.ext (k0_dev1_eq c)))) ?_
  refine chain (frEO (bar_signal2 m K κ c (Fin.ext (k0_dev2_eq c)))) ?_
  refine (mono4 .rfl .rfl .rfl .rfl (Owes_bar c)).trans ?_
  refine chain (bar_wait m K κ c) ?_
  refine chain (frE (carry (ldX m c c.val (xoff c (k0_off1_eq c))))) ?_
  refine chain (frE (carry (ldW m c 0 rfl))) ?_
  refine chainA (rdA0 (carryA (ld2f accB c 0 0 _ _ rfl))) (fun _ => ?_)
  refine chain (rd0 (carry (st2 accB c 0 0 _ _ _ rfl))) ?_
  refine chain (frE (carry (ldX m c c.val (xoff c (k0_off1_eq c))))) ?_
  exact spec_ret ⟨rfl, rfl⟩

theorem part13_spec (c : Dev nD) (h0 : xM.IsWhole) (h1 : wM.IsWhole) (h2 : oM.IsWhole) (h3 : accB.IsWhole) (h4 : rcvB.IsWhole) (h5 : agB.IsWhole) (h6 : stB.IsWhole) (v2 : BitVec 32) :
    Bd m K κ c (E4 m c) (Z3 m c 0) (Z2 c 1) (Z2 c 2) (Z2 c 3) 16
      ⊢ WP c (k0_part13 xM h0 wM h1 oM h2 accB h3 rcvB h4 agB h5 stB h6 cc0_scratch4 cc0_scratch5 cc0_scratch6 cc0_scratch7 cc0_scratch8 cc0_scratch9 cc0_scratch10 c v2 (k0_pay16 (xrow m c c.val)))
          (fun v => iprop(⌜v.1 = 0#32 ∧ v.2 = 1#32⌝ ∗ Bd m K κ c (E4 m c) (Z3 m c 0) (Z3 m c 1) (Z3 m c 2) (Z3 m c 3) 16)) := by
  rw [k0_part13_eq_skeleton]
  unfold k0_part13_skel
  simp only [semWaitWord, semSignalWord, Prog.lift, Prog.bind_op, Prog.bind_ret, Prog.pure_eq_ret]
  refine chain (frE (carry (ldW m c 1 rfl))) ?_
  refine chainA (rdA1 (carryA (ld2f accB c 1 0 _ _ rfl))) (fun _ => ?_)
  refine chain (rd1 (carry (st2 accB c 1 0 _ _ _ rfl))) ?_
  refine chain (frE (carry (ldX m c c.val (xoff c (k0_off1_eq c))))) ?_
  refine chain (frE (carry (ldW m c 2 rfl))) ?_
  refine chainA (rdA2 (carryA (ld2f accB c 2 0 _ _ rfl))) (fun _ => ?_)
  refine chain (rd2 (carry (st2 accB c 2 0 _ _ _ rfl))) ?_
  refine chain (frE (carry (ldX m c c.val (xoff c (k0_off1_eq c))))) ?_
  refine chain (frE (carry (ldW m c 3 rfl))) ?_
  refine chainA (rdA3 (carryA (ld2f accB c 3 0 _ _ rfl))) (fun _ => ?_)
  refine chain (rd3 (carry (st2 accB c 3 0 _ _ _ rfl))) ?_
  exact spec_ret ⟨rfl, rfl⟩

/-- What the loops do not touch stays aside. -/
theorem aside {c : Dev nD} {E R A0 A1 A2 A3 G0 G1 G2 G3 : sProp 𝕄} {p : ℕ} :
    Bd m K κ c iprop(E ∗ R) iprop(A0 ∗ G0) iprop(A1 ∗ G1) iprop(A2 ∗ G2) iprop(A3 ∗ G3) p
      ⊢ iprop(Bd m K κ c E A0 A1 A2 A3 p ∗ (R ∗ G0 ∗ G1 ∗ G2 ∗ G3)) := by
  unfold Bd
  iintro ⟨HC, ⟨HE, HR⟩, ⟨H0, G0⟩, ⟨H1, G1⟩, ⟨H2, G2⟩, ⟨H3, G3⟩, Ho⟩
  isplitr [HR G0 G1 G2 G3]
  · isplitl [HC]; · iexact HC
    isplitl [HE]; · iexact HE
    isplitl [H0]; · iexact H0
    isplitl [H1]; · iexact H1
    isplitl [H2]; · iexact H2
    isplitl [H3]; · iexact H3
    iexact Ho
  isplitl [HR]; · iexact HR
  isplitl [G0]; · iexact G0
  isplitl [G1]; · iexact G1
  isplitl [G2]; · iexact G2
  iexact G3
theorem beside {c : Dev nD} {E R A0 A1 A2 A3 G0 G1 G2 G3 : sProp 𝕄} {p : ℕ} :
    iprop(Bd m K κ c E A0 A1 A2 A3 p ∗ (R ∗ G0 ∗ G1 ∗ G2 ∗ G3))
      ⊢ Bd m K κ c iprop(E ∗ R) iprop(A0 ∗ G0) iprop(A1 ∗ G1) iprop(A2 ∗ G2) iprop(A3 ∗ G3) p := by
  unfold Bd
  iintro ⟨⟨HC, HE, H0, H1, H2, H3, Ho⟩, HR, G0, G1, G2, G3⟩
  isplitl [HC]; · iexact HC
  isplitl [HE HR]
  · isplitl [HE]; · iexact HE
    iexact HR
  isplitl [H0 G0]
  · isplitl [H0]; · iexact H0
    iexact G0
  isplitl [H1 G1]
  · isplitl [H1]; · iexact H1
    iexact G1
  isplitl [H2 G2]
  · isplitl [H2]; · iexact H2
    iexact G2
  isplitl [H3 G3]
  · isplitl [H3]; · iexact H3
    iexact G3
  iexact Ho

/-- A loop at the head of a program, with what it does not touch. -/
theorem loop_head {c : Dev nD} {α : Type} {Q : α → sProp 𝕄} {lb ub st : BitVec 32} {hok : Scf.OK lb ub st}
    {body : Fin (Scf.trips lb ub st) → Unit → Prog (TpuEff nD τ sig (Elt F) Λ₀ .tc) Unit} {kk : Unit → Prog (TpuEff nD τ sig (Elt F) Λ₀ .tc) α}
    {P R P' : sProp 𝕄} (I : ℕ → sProp 𝕄)
    (hbody : ∀ k acc, I k.val ⊢ WP c (body k acc) (fun _ => I (k.val + 1)))
    (h0 : P ⊢ iprop(I 0 ∗ R)) (h1 : iprop(I (Scf.trips lb ub st) ∗ R) ⊢ P') (h : ∀ u, P' ⊢ WP c (kk u) Q) :
    P ⊢ WP c (Scf.for lb ub st hok ⟨⟩ body >>= kk) Q := by
  have hl : I 0 ⊢ iprop((∀ u, I (Scf.trips lb ub st) -∗ WP c (kk u) Q) -∗ WP c (Scf.for lb ub st hok ⟨⟩ body >>= kk) Q) :=
    Scf.wp_for_bind _ _ _ lb ub st hok ⟨⟩ body (fun k _ => I k) hbody
  refine h0.trans ?_
  iintro ⟨HI, HR⟩
  iapply hl $$ HI
  iintro %u HI
  iapply (h u)
  iapply h1
  isplitl [HI]; · iexact HI
  iexact HR

theorem part14_spec (c : Dev nD) (h0 : xM.IsWhole) (h1 : wM.IsWhole) (h2 : oM.IsWhole) (h3 : accB.IsWhole) (h4 : rcvB.IsWhole) (h5 : agB.IsWhole) (h6 : stB.IsWhole) (v2 v5 v7 : BitVec 32) :
    Bd m K κ c (E4 m c) (Z3 m c 0) (Z3 m c 1) (Z3 m c 2) (Z3 m c 3) 16
      ⊢ WP c (k0_part14 xM h0 wM h1 oM h2 accB h3 rcvB h4 agB h5 stB h6 cc0_scratch4 cc0_scratch5 cc0_scratch6 cc0_scratch7 cc0_scratch8 cc0_scratch9 cc0_scratch10 c v2 v5 v7 0#32 1#32)
          (fun _ => iprop(⌜True⌝ ∗ Bd m K κ c (E4 m c) (Y0 m c 0) (Y0 m c 1) iprop(R0 m c 2 31 ∗ Gd c 2) iprop(R0 m c 3 31 ∗ Gd c 3) 512)) := by
  rw [k0_part14_eq_skeleton]
  unfold k0_part14_skel
  refine (mono4 (first_sum m c 0) (first_sum m c 1) (first_sum m c 2) (first_sum m c 3) .rfl).trans ?_
  refine loop_head (I := fun s => Bd m K κ c (EX m c) (R0 m c 0 s) (R0 m c 1 s) (R0 m c 2 s) (R0 m c 3 s) (16 * (s + 1)))
    (fun s u => rs_trip m K κ c h0 h1 h2 h3 h4 h5 h6 v2 v5 v7 s u) (aside m K κ) (P' := Bd m K κ c (E4 m c) iprop(R0 m c 0 31 ∗ Gd c 0) iprop(R0 m c 1 31 ∗ Gd c 1) iprop(R0 m c 2 31 ∗ Gd c 2) iprop(R0 m c 3 31 ∗ Gd c 3) 512)
    (by rw [show Scf.trips _ _ _ = 31 from rsTrips]; exact beside m K κ) (fun _ => ?_)
  simp only [semWaitWord, semSignalWord, Prog.lift, Prog.bind_op, Prog.bind_ret, Prog.pure_eq_ret]
  refine chain (fr0 (rs_end m K κ c 0 (by omega) rfl)) ?_
  refine chain (fr1 (rs_end m K κ c 1 (by omega) rfl)) ?_
  exact spec_ret trivial

theorem part15_spec (c : Dev nD) (E : sProp 𝕄) (h0 : xM.IsWhole) (h1 : wM.IsWhole) (h2 : oM.IsWhole) (h3 : accB.IsWhole) (h4 : rcvB.IsWhole) (h5 : agB.IsWhole) (h6 : stB.IsWhole) (v2 : BitVec 32) :
    Bd m K κ c E (Y0 m c 0) (Y0 m c 1) iprop(R0 m c 2 31 ∗ Gd c 2) iprop(R0 m c 3 31 ∗ Gd c 3) 512
      ⊢ WP c (k0_part15 xM h0 wM h1 oM h2 accB h3 rcvB h4 agB h5 stB h6 cc0_scratch4 cc0_scratch5 cc0_scratch6 cc0_scratch7 cc0_scratch8 cc0_scratch9 cc0_scratch10 v2)
          (fun v => iprop(⌜v.2.2 = k0_pay21 (accV m 0 31 c)⌝ ∗ Bd m K κ c E (Y1 m c 0) (Y0 m c 1) (Y0 m c 2) (Y0 m c 3) 512)) := by
  rw [k0_part15_eq_skeleton]
  unfold k0_part15_skel
  simp only [semWaitWord, semSignalWord, Prog.lift, Prog.bind_op, Prog.bind_ret, Prog.pure_eq_ret]
  refine chain (fr2 (rs_end m K κ c 2 (by omega) rfl)) ?_
  refine chain (fr3 (rs_end m K κ c 3 (by omega) rfl)) ?_
  refine chain (rd0 (ed_ldA m c 0 rfl)) ?_
  refine chainA (rdA0 (ed_ldG m c 0 rfl)) (fun _ => ?_)
  refine chain (rd0 (ed_stG m c 0 rfl rfl)) ?_
  exact spec_ret rfl

theorem row0_r (c : Dev nD) {l : Fin 4} (hl : rgt l) {o : Fin 2 → ℕ} (h : o = ![256 * ((c.val + 1) % 32), 1024 * l.val]) :
    o = ![256 * (outRow l c 0 % 32), 1024 * l.val] := by
  rw [h]; unfold outRow; rw [if_pos hl, show c.val + 33 - 0 = c.val + 1 + 32 by omega, Nat.add_mod_right]
theorem row0_l (c : Dev nD) {l : Fin 4} (hl : ¬rgt l) {o : Fin 2 → ℕ} (h : o = ![256 * ((c.val + 31) % 32), 1024 * l.val]) :
    o = ![256 * (outRow l c 0 % 32), 1024 * l.val] := by
  rw [h]; unfold outRow; rw [if_neg hl]

theorem part16_spec (c : Dev nD) (E : sProp 𝕄) (h0 : xM.IsWhole) (h1 : wM.IsWhole) (h2 : oM.IsWhole) (h3 : accB.IsWhole) (h4 : rcvB.IsWhole) (h5 : agB.IsWhole) (h6 : stB.IsWhole) (v83 : BitVec 32) :
    Bd m K κ c E (Y1 m c 0) (Y0 m c 1) (Y0 m c 2) (Y0 m c 3) 512
      ⊢ WP c (k0_part16 xM h0 wM h1 oM h2 accB h3 rcvB h4 agB h5 stB h6 cc0_scratch4 cc0_scratch5 cc0_scratch6 cc0_scratch7 cc0_scratch8 cc0_scratch9 cc0_scratch10 c v83 (k0_pay21 (accV m 0 31 c)))
          (fun _ => iprop(⌜True⌝ ∗ Bd m K κ c E iprop(A0 m c 0 0 ∗ HH c 0) (Y2 m c 1) (Y0 m c 2) (Y0 m c 3) 512)) := by
  rw [k0_part16_eq_skeleton]
  unfold k0_part16_skel
  simp only [semWaitWord, semSignalWord, Prog.lift, Prog.bind_op, Prog.bind_ret, Prog.pure_eq_ret]
  refine chainA (rdA0 (ed_ldT m c 0 rfl)) (fun _ => ?_)
  refine chain (rd0 (ed_stT m c 0 rfl rfl)) ?_
  refine chain (fr0 (ed_copy m K κ c 0 rfl rfl (row0_r c (by decide) (k0_off28_eq c)))) ?_
  refine chain (rd1 (ed_ldA m c 1 rfl)) ?_
  refine chainA (rdA1 (ed_ldG m c 1 rfl)) (fun _ => ?_)
  refine chain (rd1 (ed_stG m c 1 rfl rfl)) ?_
  refine chainA (rdA1 (ed_ldT m c 1 rfl)) (fun _ => ?_)
  refine chain (rd1 (ed_stT m c 1 rfl rfl)) ?_
  exact spec_ret trivial

theorem part17_spec (c : Dev nD) (E A : sProp 𝕄) (h0 : xM.IsWhole) (h1 : wM.IsWhole) (h2 : oM.IsWhole) (h3 : accB.IsWhole) (h4 : rcvB.IsWhole) (h5 : agB.IsWhole) (h6 : stB.IsWhole) (v86 : BitVec 32) :
    Bd m K κ c E A (Y2 m c 1) (Y0 m c 2) (Y0 m c 3) 512
      ⊢ WP c (k0_part17 xM h0 wM h1 oM h2 accB h3 rcvB h4 agB h5 stB h6 cc0_scratch4 cc0_scratch5 cc0_scratch6 cc0_scratch7 cc0_scratch8 cc0_scratch9 cc0_scratch10 c v86)
          (fun _ => iprop(⌜True⌝ ∗ Bd m K κ c E A iprop(A0 m c 1 0 ∗ HH c 1) (Y2 m c 2) (Y0 m c 3) 512)) := by
  rw [k0_part17_eq_skeleton]
  unfold k0_part17_skel
  simp only [semWaitWord, semSignalWord, Prog.lift, Prog.bind_op, Prog.bind_ret, Prog.pure_eq_ret]
  refine chain (fr1 (ed_copy m K κ c 1 rfl rfl (row0_r c (by decide) (k0_off29_eq c)))) ?_
  refine chain (rd2 (ed_ldA m c 2 rfl)) ?_
  refine chainA (rdA2 (ed_ldG m c 2 rfl)) (fun _ => ?_)
  refine chain (rd2 (ed_stG m c 2 rfl rfl)) ?_
  refine chainA (rdA2 (ed_ldT m c 2 rfl)) (fun _ => ?_)
  refine chain (rd2 (ed_stT m c 2 rfl rfl)) ?_
  exact spec_ret trivial

theorem part18_spec (c : Dev nD) (h0 : xM.IsWhole) (h1 : wM.IsWhole) (h2 : oM.IsWhole) (h3 : accB.IsWhole) (h4 : rcvB.IsWhole) (h5 : agB.IsWhole) (h6 : stB.IsWhole) (v2 v5 v7 v86 : BitVec 32) :
    Bd m K κ c (E4 m c) iprop(A0 m c 0 0 ∗ HH c 0) iprop(A0 m c 1 0 ∗ HH c 1) (Y2 m c 2) (Y0 m c 3) 512
      ⊢ WP c (k0_part18 xM h0 wM h1 oM h2 accB h3 rcvB h4 agB h5 stB h6 cc0_scratch4 cc0_scratch5 cc0_scratch6 cc0_scratch7 cc0_scratch8 cc0_scratch9 cc0_scratch10 c v2 v5 v7 v86)
          (fun _ => iprop(⌜True⌝ ∗ Bd m K κ c (E4 m c) (X0 m c 0) (X0 m c 1) (X0 m c 2) (X0 m c 3) 1008)) := by
  rw [k0_part18_eq_skeleton]
  unfold k0_part18_skel
  simp only [semWaitWord, semSignalWord, Prog.lift, Prog.bind_op, Prog.bind_ret, Prog.pure_eq_ret]
  refine chain (fr2 (ed_copy m K κ c 2 rfl rfl (row0_l c (by decide) (k0_off30_eq c)))) ?_
  refine chain (rd3 (ed_ldA m c 3 rfl)) ?_
  refine chainA (rdA3 (ed_ldG m c 3 rfl)) (fun _ => ?_)
  refine chain (rd3 (ed_stG m c 3 rfl rfl)) ?_
  refine chainA (rdA3 (ed_ldT m c 3 rfl)) (fun _ => ?_)
  refine chain (rd3 (ed_stT m c 3 rfl rfl)) ?_
  refine chain (fr3 (ed_copy m K κ c 3 rfl rfl (row0_l c (by decide) (k0_off31_eq c)))) ?_
  refine loop_head (I := fun t => Bd m K κ c (EX m c) (A0 m c 0 t) (A0 m c 1 t) (A0 m c 2 t) (A0 m c 3 t) (16 * (t + 32)))
    (fun t u => ag_trip m K κ c _ h0 h1 h2 h3 h4 h5 h6 v2 v5 v7 v86 t u) (aside m K κ) (P' := Bd m K κ c (E4 m c) iprop(A0 m c 0 31 ∗ HH c 0) iprop(A0 m c 1 31 ∗ HH c 1) iprop(A0 m c 2 31 ∗ HH c 2) iprop(A0 m c 3 31 ∗ HH c 3) 1008)
    (by rw [show Scf.trips _ _ _ = 31 from agTrips]; exact beside m K κ) (fun _ => ?_)
  refine (mono4 (ag_last m c 0) (ag_last m c 1) (ag_last m c 2) (ag_last m c 3) .rfl).trans ?_
  exact spec_ret trivial

theorem part19_spec (c : Dev nD) (E A1 A2 A3 : sProp 𝕄) (h0 : xM.IsWhole) (h1 : wM.IsWhole) (h2 : oM.IsWhole) (h3 : accB.IsWhole) (h4 : rcvB.IsWhole) (h5 : agB.IsWhole) (h6 : stB.IsWhole) :
    Bd m K κ c E (X0 m c 0) A1 A2 A3 1008
      ⊢ WP c (k0_part19 xM h0 wM h1 oM h2 accB h3 rcvB h4 agB h5 stB h6 cc0_scratch4 cc0_scratch5 cc0_scratch6 cc0_scratch7 cc0_scratch8 cc0_scratch9 cc0_scratch10) (fun _ => iprop(⌜True⌝ ∗ Bd m K κ c E (X3 m c 0) A1 A2 A3 1008)) := by
  rw [k0_part19_eq_skeleton]
  unfold k0_part19_skel
  simp only [semWaitWord, semSignalWord, Prog.lift, Prog.bind_op, Prog.bind_ret, Prog.pure_eq_ret]
  refine chain (fr0 (fin_U m K κ c 0 (by omega) rfl)) ?_
  refine chain (fr0 (fin_T0 m K κ c 0 (by omega) rfl)) ?_
  refine chain (fr0 (fin_T1 m K κ c 0 (by omega) rfl)) ?_
  exact spec_ret trivial

theorem part20_spec (c : Dev nD) (E A0 A2 A3 : sProp 𝕄) (h0 : xM.IsWhole) (h1 : wM.IsWhole) (h2 : oM.IsWhole) (h3 : accB.IsWhole) (h4 : rcvB.IsWhole) (h5 : agB.IsWhole) (h6 : stB.IsWhole) :
    Bd m K κ c E A0 (X0 m c 1) A2 A3 1008
      ⊢ WP c (k0_part20 xM h0 wM h1 oM h2 accB h3 rcvB h4 agB h5 stB h6 cc0_scratch4 cc0_scratch5 cc0_scratch6 cc0_scratch7 cc0_scratch8 cc0_scratch9 cc0_scratch10) (fun _ => iprop(⌜True⌝ ∗ Bd m K κ c E A0 (X3 m c 1) A2 A3 1008)) := by
  rw [k0_part20_eq_skeleton]
  unfold k0_part20_skel
  simp only [semWaitWord, semSignalWord, Prog.lift, Prog.bind_op, Prog.bind_ret, Prog.pure_eq_ret]
  refine chain (fr1 (fin_U m K κ c 1 (by omega) rfl)) ?_
  refine chain (fr1 (fin_T0 m K κ c 1 (by omega) rfl)) ?_
  refine chain (fr1 (fin_T1 m K κ c 1 (by omega) rfl)) ?_
  exact spec_ret trivial

theorem part21_spec (c : Dev nD) (E A0 A1 : sProp 𝕄) (h0 : xM.IsWhole) (h1 : wM.IsWhole) (h2 : oM.IsWhole) (h3 : accB.IsWhole) (h4 : rcvB.IsWhole) (h5 : agB.IsWhole) (h6 : stB.IsWhole) :
    Bd m K κ c E A0 A1 (X0 m c 2) (X0 m c 3) 1008
      ⊢ WP c (k0_part21 xM h0 wM h1 oM h2 accB h3 rcvB h4 agB h5 stB h6 cc0_scratch4 cc0_scratch5 cc0_scratch6 cc0_scratch7 cc0_scratch8 cc0_scratch9 cc0_scratch10) (fun _ => iprop(⌜True⌝ ∗ Bd m K κ c E A0 A1 (X3 m c 2) (X1 m c 3) 1008)) := by
  rw [k0_part21_eq_skeleton]
  unfold k0_part21_skel
  simp only [semWaitWord, semSignalWord, Prog.lift, Prog.bind_op, Prog.bind_ret, Prog.pure_eq_ret]
  refine chain (fr2 (fin_U m K κ c 2 (by omega) rfl)) ?_
  refine chain (fr2 (fin_T0 m K κ c 2 (by omega) rfl)) ?_
  refine chain (fr2 (fin_T1 m K κ c 2 (by omega) rfl)) ?_
  refine chain (fr3 (fin_U m K κ c 3 (by omega) rfl)) ?_
  exact spec_ret trivial

/-- What a device holds when the kernel is done. -/
def Out (c : Dev nD) : sProp 𝕄 :=
  iprop(EX m c ∗ semVal (kcell (c, none)) 0 ∗ (Mem m c 0 ∗ Mem m c 1 ∗ Mem m c 2 ∗ Mem m c 3) ∗ (Sm c 0 ∗ Sm c 1 ∗ Sm c 2 ∗ Sm c 3) ∗ Owes c 1008)

theorem leave_all (c : Dev nD) : Bd m K κ c (E4 m c) (X3 m c 0) (X3 m c 1) (X3 m c 2) (X3 m c 3) 1008 ⊢ (|={Set.univ}=> Out m c : sProp 𝕄) := by
  unfold Bd E4 Out
  iintro ⟨#HC, ⟨HX, Hb⟩, H0, H1, H2, H3, Ho⟩
  imod (close_B m K κ c) $$ [Hb] with Hb
  · isplitr; · iexact HC
    iexact Hb
  imod (leave_lane m K κ c 0) $$ [H0] with ⟨M0, S0⟩
  · isplitr; · iexact HC
    iexact H0
  imod (leave_lane m K κ c 1) $$ [H1] with ⟨M1, S1⟩
  · isplitr; · iexact HC
    iexact H1
  imod (leave_lane m K κ c 2) $$ [H2] with ⟨M2, S2⟩
  · isplitr; · iexact HC
    iexact H2
  imod (leave_lane m K κ c 3) $$ [H3] with ⟨M3, S3⟩
  · isplitr; · iexact HC
    iexact H3
  imodintro
  isplitl [HX]; · iexact HX
  isplitl [Hb]; · iexact Hb
  isplitl [M0 M1 M2 M3]
  · isplitl [M0]; · iexact M0
    isplitl [M1]; · iexact M1
    isplitl [M2]; · iexact M2
    iexact M3
  isplitl [S0 S1 S2 S3]
  · isplitl [S0]; · iexact S0
    isplitl [S1]; · iexact S1
    isplitl [S2]; · iexact S2
    iexact S3
  iexact Ho

/-- The kernel on a device, from what the launch deals it to its part of the result. -/
theorem body_spec (c : Dev nD) (h0 : xM.IsWhole) (h1 : wM.IsWhole) (h2 : oM.IsWhole) (h3 : accB.IsWhole) (h4 : rcvB.IsWhole) (h5 : agB.IsWhole) (h6 : stB.IsWhole) :
    Bd m K κ c (E0 m c) (Z0 c 0) (Z0 c 1) (Z0 c 2) (Z0 c 3) 1 ⊢ WP c (cc0_body xM h0 wM h1 oM h2 accB h3 rcvB h4 agB h5 stB h6 cc0_scratch4 cc0_scratch5 cc0_scratch6 cc0_scratch7 cc0_scratch8 cc0_scratch9 cc0_scratch10) (fun _ => Out m c) := by
  rw [cc0_body_eq_skeleton]
  unfold cc0_body_skel
  refine wp_of_fupd _ _ _ (enter_all m K κ c) ?_
  refine spec_bind (part12_spec m K κ c h0 h1 h2 h3 h4 h5 h6) (fun v hv => ?_)
  obtain ⟨d0, v2, v5, v7, v27⟩ := v
  obtain ⟨e1, e2⟩ := hv
  simp only at e1 e2
  subst e1 e2
  refine spec_bind (part13_spec m K κ _ h0 h1 h2 h3 h4 h5 h6 v2) (fun v hv => ?_)
  obtain ⟨c0, c1⟩ := v
  obtain ⟨e1, e2⟩ := hv
  simp only at e1 e2
  subst e1 e2
  refine spec_bind (part14_spec m K κ _ h0 h1 h2 h3 h4 h5 h6 v2 v5 v7) (fun _ _ => ?_)
  refine spec_bind (part15_spec m K κ _ _ h0 h1 h2 h3 h4 h5 h6 v2) (fun v hv => ?_)
  obtain ⟨v83, v86, v97⟩ := v
  simp only at hv
  subst hv
  refine spec_bind (part16_spec m K κ _ _ h0 h1 h2 h3 h4 h5 h6 v83) (fun _ _ => ?_)
  refine spec_bind (part17_spec m K κ _ _ _ h0 h1 h2 h3 h4 h5 h6 v86) (fun _ _ => ?_)
  refine spec_bind (part18_spec m K κ _ h0 h1 h2 h3 h4 h5 h6 v2 v5 v7 v86) (fun _ _ => ?_)
  refine spec_bind (part19_spec m K κ _ _ _ _ _ h0 h1 h2 h3 h4 h5 h6) (fun _ _ => ?_)
  refine spec_bind (part20_spec m K κ _ _ _ _ _ h0 h1 h2 h3 h4 h5 h6) (fun _ _ => ?_)
  refine spec_bind (part21_spec m K κ _ _ _ _ h0 h1 h2 h3 h4 h5 h6) (fun _ _ => ?_)
  simp only [semWaitWord, semSignalWord, Prog.lift, Prog.bind_op, Prog.bind_ret, Prog.pure_eq_ret]
  refine chain (fr3 (fin_T0 m K κ _ 3 (by omega) rfl)) ?_
  refine chain (fr3 (fin_T1 m K κ _ 3 (by omega) rfl)) ?_
  unfold WP
  rw [wp_ret]
  exact leave_all m K κ _

end Cert.KernelIdealProof
-- ==== Proof.KernelIdealMem.lean ====
/-
  Buffers cut into slots and put together again, and the tiles of the result.
-/
module

public import proofs.«01_k».proof.Proof.KernelIdealOps
public import Idealize.ShloMosaic.Lib.Ring

@[expose] public section

noncomputable section

namespace Cert.KernelIdealProof

open Cert.KernelIdeal Cert.KernelIdeal.Gen Idealize.ShloMosaic TcCoe Rounds Release Idealize.SL RA BI BI.BIBase BI.Laws ProofMode Idealize.SL.Sem
open scoped Idealize.SL.BI
open Pipeline (Dat Cfg Window BodyObligation cellOf)

variable {F : FTy → Type} [FloatOps F]

local notation "𝕄" => MT nD τ sig ℕ (Elt F) ℕ UU ℕ

variable (m : (ℓ : Loc nD τ sig) → Buf (Elt F) ℓ)
variable (K : Dev nD × CK → ℕ) (κ : RK → ℕ)

/-! ## Buffers and their slots -/

section Slots
variable {e : EltTy}

omit [FloatOps F] in
theorem disj2 (M : Memref sig .tc .vmem S4x2x256x1024 e) (x y : Fin 4 × Fin 2) (h : x ≠ y) :
    Disjoint (sl2 M x.1 x.2).view.set (sl2 M y.1 y.2).view.set := by
  rw [set2, set2, Finset.disjoint_map, Finset.disjoint_left]
  intro i hi hj
  have a0 := (Rect.mem_set_unit.mp hi) (0 : Fin 4)
  have a1 := (Rect.mem_set_unit.mp hi) (1 : Fin 4)
  have b0 := (Rect.mem_set_unit.mp hj) (0 : Fin 4)
  have b1 := (Rect.mem_set_unit.mp hj) (1 : Fin 4)
  simp only [Matrix.cons_val_zero, Matrix.cons_val_one] at a0 a1 b0 b1
  have s0 : S1x1x256x1024.size (0 : Fin 4) = 1 := rfl
  have s1 : S1x1x256x1024.size (1 : Fin 4) = 1 := rfl
  exact h (Prod.ext (Fin.ext (by omega)) (Fin.ext (by omega)))
omit [FloatOps F] in
theorem disj3 (M : Memref sig .tc .vmem S4x3x256x1024 e) (x y : Fin 4 × Fin 3) (h : x ≠ y) :
    Disjoint (sl3 M x.1 x.2).view.set (sl3 M y.1 y.2).view.set := by
  rw [set3, set3, Finset.disjoint_map, Finset.disjoint_left]
  intro i hi hj
  have a0 := (Rect.mem_set_unit.mp hi) (0 : Fin 4)
  have a1 := (Rect.mem_set_unit.mp hi) (1 : Fin 4)
  have b0 := (Rect.mem_set_unit.mp hj) (0 : Fin 4)
  have b1 := (Rect.mem_set_unit.mp hj) (1 : Fin 4)
  simp only [Matrix.cons_val_zero, Matrix.cons_val_one] at a0 a1 b0 b1
  have s0 : S1x1x256x1024.size (0 : Fin 4) = 1 := rfl
  have s1 : S1x1x256x1024.size (1 : Fin 4) = 1 := rfl
  exact h (Prod.ext (Fin.ext (by omega)) (Fin.ext (by omega)))

omit [FloatOps F] in
theorem mem_r2 (i : S4x2x256x1024.Idx) : ∃ l b, i ∈ (r2 l b).set := by
  refine ⟨i (0 : Fin 4), i (1 : Fin 4), Rect.mem_set_unit.mpr fun a => ?_⟩
  match a with
  | ⟨0, _⟩ => exact ⟨le_refl _, Nat.lt_succ_self _⟩
  | ⟨1, _⟩ => exact ⟨le_refl _, Nat.lt_succ_self _⟩
  | ⟨2, h⟩ => exact ⟨Nat.zero_le _, lt_of_lt_of_eq (i ⟨2, h⟩).isLt (Nat.zero_add _).symm⟩
  | ⟨3, h⟩ => exact ⟨Nat.zero_le _, lt_of_lt_of_eq (i ⟨3, h⟩).isLt (Nat.zero_add _).symm⟩
omit [FloatOps F] in
theorem mem_r3 (i : S4x3x256x1024.Idx) : ∃ l b, i ∈ (r3 l b).set := by
  refine ⟨i (0 : Fin 4), i (1 : Fin 4), Rect.mem_set_unit.mpr fun a => ?_⟩
  match a with
  | ⟨0, _⟩ => exact ⟨le_refl _, Nat.lt_succ_self _⟩
  | ⟨1, _⟩ => exact ⟨le_refl _, Nat.lt_succ_self _⟩
  | ⟨2, h⟩ => exact ⟨Nat.zero_le _, lt_of_lt_of_eq (i ⟨2, h⟩).isLt (Nat.zero_add _).symm⟩
  | ⟨3, h⟩ => exact ⟨Nat.zero_le _, lt_of_lt_of_eq (i ⟨3, h⟩).isLt (Nat.zero_add _).symm⟩

omit [FloatOps F] in
theorem cover2 (M : Memref sig .tc .vmem S4x2x256x1024 e) :
    Finset.univ.biUnion (fun x : Fin 4 × Fin 2 => (sl2 M x.1 x.2).view.set) = M.view.set := by
  ext j
  rw [Finset.mem_biUnion]
  constructor
  · rintro ⟨x, -, hx⟩
    rw [set2] at hx
    obtain ⟨i, -, hi⟩ := Finset.mem_map.mp hx
    exact Finset.mem_map.mpr ⟨i, Finset.mem_univ _, hi⟩
  · intro hj
    obtain ⟨i, -, hi⟩ := Finset.mem_map.mp hj
    obtain ⟨l, b, h⟩ := mem_r2 i
    refine ⟨(l, b), Finset.mem_univ _, ?_⟩
    rw [set2]
    exact Finset.mem_map.mpr ⟨i, h, hi⟩
omit [FloatOps F] in
theorem cover3 (M : Memref sig .tc .vmem S4x3x256x1024 e) :
    Finset.univ.biUnion (fun x : Fin 4 × Fin 3 => (sl3 M x.1 x.2).view.set) = M.view.set := by
  ext j
  rw [Finset.mem_biUnion]
  constructor
  · rintro ⟨x, -, hx⟩
    rw [set3] at hx
    obtain ⟨i, -, hi⟩ := Finset.mem_map.mp hx
    exact Finset.mem_map.mpr ⟨i, Finset.mem_univ _, hi⟩
  · intro hj
    obtain ⟨i, -, hi⟩ := Finset.mem_map.mp hj
    obtain ⟨l, b, h⟩ := mem_r3 i
    refine ⟨(l, b), Finset.mem_univ _, ?_⟩
    rw [set3]
    exact Finset.mem_map.mpr ⟨i, h, hi⟩

/-- Any contents. -/
def anyBuf (ℓ : Loc nD τ sig) : Buf (Elt F) ℓ := fun _ => Classical.choice inferInstance

omit [FloatOps F] in
theorem split2 (M : Memref sig .tc .vmem S4x2x256x1024 e) (c : Dev nD) :
    (iprop(∃ f : Buf (Elt F) (M.view.loc (c : Thread nD τ)), M.view.loc (c : Thread nD τ) ↦[M.view.set]{fullShare} f) : sProp 𝕄)
      ⊢ bigSep Finset.univ (fun x : Fin 4 × Fin 2 => free2 M c x.1 x.2) := by
  iintro ⟨%f, H⟩
  have e1 := Ring.pointsTo_sub_blocks (ℓ := M.view.loc (c : Thread nD τ)) (Ix := ℕ) (Name := ℕ) (U := UU) (Lvl := ℕ) (fun x : Fin 4 × Fin 2 => (sl2 M x.1 x.2).view.set) (disj2 M) M.view.set (cover2 M) (q := fullShare) f
  have e2 : (bigSep Finset.univ (fun x : Fin 4 × Fin 2 => (M.view.loc (c : Thread nD τ) ↦[(sl2 M x.1 x.2).view.set]{fullShare} f)) : sProp 𝕄)
      ⊢ bigSep Finset.univ (fun x : Fin 4 × Fin 2 => free2 M c x.1 x.2) := bigSep_mono fun x _ =>
    show (M.view.loc (c : Thread nD τ) ↦[(sl2 M x.1 x.2).view.set]{fullShare} f : sProp 𝕄)
      ⊢ iprop(∃ f, M.view.loc (c : Thread nD τ) ↦[(sl2 M x.1 x.2).view.set]{fullShare} f) by
    iintro H; iexists f; iexact H
  iapply e2
  iapply (Entails.of_eq e1); iexact H
omit [FloatOps F] in
theorem split3 (M : Memref sig .tc .vmem S4x3x256x1024 e) (c : Dev nD) :
    (iprop(∃ f : Buf (Elt F) (M.view.loc (c : Thread nD τ)), M.view.loc (c : Thread nD τ) ↦[M.view.set]{fullShare} f) : sProp 𝕄)
      ⊢ bigSep Finset.univ (fun x : Fin 4 × Fin 3 => free3 M c x.1 x.2) := by
  iintro ⟨%f, H⟩
  have e1 := Ring.pointsTo_sub_blocks (ℓ := M.view.loc (c : Thread nD τ)) (Ix := ℕ) (Name := ℕ) (U := UU) (Lvl := ℕ) (fun x : Fin 4 × Fin 3 => (sl3 M x.1 x.2).view.set) (disj3 M) M.view.set (cover3 M) (q := fullShare) f
  have e2 : (bigSep Finset.univ (fun x : Fin 4 × Fin 3 => (M.view.loc (c : Thread nD τ) ↦[(sl3 M x.1 x.2).view.set]{fullShare} f)) : sProp 𝕄)
      ⊢ bigSep Finset.univ (fun x : Fin 4 × Fin 3 => free3 M c x.1 x.2) := bigSep_mono fun x _ =>
    show (M.view.loc (c : Thread nD τ) ↦[(sl3 M x.1 x.2).view.set]{fullShare} f : sProp 𝕄)
      ⊢ iprop(∃ f, M.view.loc (c : Thread nD τ) ↦[(sl3 M x.1 x.2).view.set]{fullShare} f) by
    iintro H; iexists f; iexact H
  iapply e2
  iapply (Entails.of_eq e1); iexact H

theorem join2 (M : Memref sig .tc .vmem S4x2x256x1024 e) (c : Dev nD) :
    bigSep Finset.univ (fun x : Fin 4 × Fin 2 => free2 M c x.1 x.2)
      ⊢ (iprop(∃ f : Buf (Elt F) (M.view.loc (c : Thread nD τ)), M.view.loc (c : Thread nD τ) ↦[M.view.set]{fullShare} f) : sProp 𝕄) :=
  Ring.pointsTo_sub_blocks_join_exists (ℓ := M.view.loc (c : Thread nD τ)) (fun x : Fin 4 × Fin 2 => (sl2 M x.1 x.2).view.set) (disj2 M) M.view.set (cover2 M) (anyBuf _)
theorem join3 (M : Memref sig .tc .vmem S4x3x256x1024 e) (c : Dev nD) :
    bigSep Finset.univ (fun x : Fin 4 × Fin 3 => free3 M c x.1 x.2)
      ⊢ (iprop(∃ f : Buf (Elt F) (M.view.loc (c : Thread nD τ)), M.view.loc (c : Thread nD τ) ↦[M.view.set]{fullShare} f) : sProp 𝕄) :=
  Ring.pointsTo_sub_blocks_join_exists (ℓ := M.view.loc (c : Thread nD τ)) (fun x : Fin 4 × Fin 3 => (sl3 M x.1 x.2).view.set) (disj3 M) M.view.set (cover3 M) (anyBuf _)

omit [FloatOps F] in
theorem fin2 (Φ : Fin 2 → sProp 𝕄) : bigSep Finset.univ Φ = iprop(Φ 0 ∗ Φ 1) := bigSep_univ_eq_bigSepL [0, 1] (by decide) (by decide) Φ
omit [FloatOps F] in
theorem fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem fin4 (Φ : Fin 4 → sProp 𝕄) : bigSep Finset.univ Φ = iprop(Φ 0 ∗ Φ 1 ∗ Φ 2 ∗ Φ 3) := bigSep_univ_eq_bigSepL [0, 1, 2, 3] (by decide) (by decide) Φ

end Slots

/-! ## The result's tiles -/

theorem outRow_inj (c : Dev nD) (l : Fin 4) {k k' : ℕ} (h : k < 32) (h' : k' < 32) (e : outRow l c k % 32 = outRow l c k' % 32) : k = k' := by
  have := c.isLt
  unfold outRow at e
  split at e <;> omega

omit [FloatOps F] in
theorem disjO (c : Dev nD) (x y : Fin 4 × Fin 32) (h : x ≠ y) :
    Disjoint (slo (outRow x.1 c x.2.val) x.1).view.set (slo (outRow y.1 c y.2.val) y.1).view.set := by
  have e : ∀ k l, (slo k l).view.set = (ro k l).set.map oM.view.emb := fun k l => View.set_slice _ _
  rw [e, e, Finset.disjoint_map, Finset.disjoint_left]
  intro i hi hj
  have a0 := (Rect.mem_set_unit.mp hi) (0 : Fin 2)
  have a1 := (Rect.mem_set_unit.mp hi) (1 : Fin 2)
  have b0 := (Rect.mem_set_unit.mp hj) (0 : Fin 2)
  have b1 := (Rect.mem_set_unit.mp hj) (1 : Fin 2)
  simp only [Matrix.cons_val_zero, Matrix.cons_val_one] at a0 a1 b0 b1
  have s0 : S256x1024.size (0 : Fin 2) = 256 := rfl
  have s1 : S256x1024.size (1 : Fin 2) = 1024 := rfl
  have hl : x.1 = y.1 := Fin.ext (by omega)
  rw [hl] at a0
  exact h (Prod.ext hl (Fin.ext (outRow_inj c y.1 x.2.isLt y.2.isLt (by omega))))

omit [FloatOps F] in
/-- The result falls into tiles. -/
theorem splitO (c : Dev nD) (f : Buf (Elt F) ((c : Thread nD τ).loc main_v1)) :
    (((c : Thread nD τ).loc main_v1) ↦{fullShare} f : sProp 𝕄)
      ⊢ bigSep Finset.univ (fun l : Fin 4 => bigSep (Finset.range 32) (fun k => outTodo c l k)) := by
  have e1 := pointsTo_biUnion (ℓ := (c : Thread nD τ).loc main_v1) (Ix := ℕ) (Name := ℕ) (U := UU) (Lvl := ℕ) (q := fullShare) (f := f) Finset.univ
    (fun x : Fin 4 × Fin 32 => (slo (outRow x.1 c x.2.val) x.1).view.set) (fun x _ y _ h => disjO c x y h)
  have e2 : (bigSep Finset.univ (fun x : Fin 4 × Fin 32 => (((c : Thread nD τ).loc main_v1) ↦[(slo (outRow x.1 c x.2.val) x.1).view.set]{fullShare} f)) : sProp 𝕄)
      ⊢ bigSep Finset.univ (fun x : Fin 4 × Fin 32 => outTodo c x.1 x.2.val) := bigSep_mono fun x _ =>
    show (((c : Thread nD τ).loc main_v1) ↦[(slo (outRow x.1 c x.2.val) x.1).view.set]{fullShare} f : sProp 𝕄)
      ⊢ iprop(∃ f, ((c : Thread nD τ).loc main_v1) ↦[(slo (outRow x.1 c x.2.val) x.1).view.set]{fullShare} f) by
    iintro H; iexists f; iexact H
  have e3 : bigSep Finset.univ (fun x : Fin 4 × Fin 32 => (outTodo c x.1 x.2.val : sProp 𝕄))
      = bigSep Finset.univ (fun l : Fin 4 => bigSep (Finset.range 32) (fun k => outTodo c l k)) := by
    rw [bigSep_univ_prod]
    refine bigSep_congr fun l _ => ?_
    rw [show Finset.range 32 = (Finset.univ : Finset (Fin 32)).map Fin.valEmbedding from by decide, bigSep_map]
    rfl
  iintro H
  icases (pointsTo_split_subset (Finset.subset_univ _)).1 $$ H with ⟨H, -⟩
  iapply (Entails.of_eq e3)
  iapply e2
  iapply (Entails.of_eq e1); iexact H

/-- What the final memory holds of device `c`'s result. -/
def OutOk (c : Dev nD) (s : MemSt nD τ sig (Elt F)) : Prop :=
  ∀ (l : Fin 4) (k : ℕ), k < 32 →
    (slo (outRow l c k) l).view.read (Elt F) (s.mem ((c : Thread nD τ).loc main_v1)) = shapeCast S256x1024 (outV m l c k) shapeCasts_S1x1x256x1024_S256x1024

theorem read_tile (c : Dev nD) (l : Fin 4) (k : ℕ) (s' : Phys nD τ sig (Elt F)) :
    iprop(outDone m c l k ∗ SI s')
      ⊢ (⌜(slo (outRow l c k) l).view.read (Elt F) (s'.mem.mem ((c : Thread nD τ).loc main_v1)) = shapeCast S256x1024 (outV m l c k) shapeCasts_S1x1x256x1024_S256x1024⌝ : sProp 𝕄) := by
  unfold outDone
  iintro ⟨⟨%f, %hf, H⟩, HSI⟩
  icombine HSI H gives %h
  ipureintro
  rw [← hf]
  exact View.read_congr h

theorem read_tiles (c : Dev nD) (s' : Phys nD τ sig (Elt F)) :
    iprop(bigSep Finset.univ (fun l : Fin 4 => bigSep (Finset.range 32) (fun k => outDone m c l k)) ∗ SI s')
      ⊢ iprop(⌜OutOk m c s'.mem⌝ ∗ SI s') := by
  have one : ∀ x : Fin 4 × Fin 32, iprop(bigSep Finset.univ (fun l : Fin 4 => bigSep (Finset.range 32) (fun k => outDone m c l k)) ∗ SI s')
      ⊢ (⌜(slo (outRow x.1 c x.2.val) x.1).view.read (Elt F) (s'.mem.mem ((c : Thread nD τ).loc main_v1)) = shapeCast S256x1024 (outV m x.1 c x.2.val) shapeCasts_S1x1x256x1024_S256x1024⌝ : sProp 𝕄) :=
    fun x => (sep_mono_left ((bigSep_elim (Finset.mem_univ x.1)).trans (bigSep_elim (Finset.mem_range.mpr x.2.isLt)))).trans (read_tile m c x.1 x.2.val s')
  have all : iprop(bigSep Finset.univ (fun l : Fin 4 => bigSep (Finset.range 32) (fun k => outDone m c l k)) ∗ SI s') ⊢ (⌜OutOk m c s'.mem⌝ : sProp 𝕄) :=
    ((Laws.forall_intro one).trans Laws.pure_forall.2).trans (Laws.pure_mono fun h l k hk => h (l, ⟨k, hk⟩))
  refine (persistent_entails_right all).trans ?_
  iintro ⟨%h, -, HSI⟩
  isplitr
  · ipureintro; exact h
  · iexact HSI

end Cert.KernelIdealProof
-- ==== Proof.KernelIdealDeal.lean ====
/-
  What the launch deals each device: duties, write tokens, credit.
-/
module

public import proofs.«01_k».proof.Proof.KernelIdealEdge
public import proofs.«01_k».proof.Proof.KernelIdealMem

@[expose] public section

noncomputable section

namespace Cert.KernelIdealProof

open Cert.KernelIdeal Cert.KernelIdeal.Gen Idealize.ShloMosaic TcCoe Rounds Release Idealize.SL RA BI BI.BIBase BI.Laws ProofMode Idealize.SL.Sem
open scoped Idealize.SL.BI
open Pipeline (Dat Cfg Window BodyObligation cellOf)

variable {F : FTy → Type} [FloatOps F]

local notation "𝕄" => MT nD τ sig ℕ (Elt F) ℕ UU ℕ

variable (m : (ℓ : Loc nD τ sig) → Buf (Elt F) ℓ)
variable (K : Dev nD × CK → ℕ) (κ : RK → ℕ)

/-! ## Sums regrouped -/

omit [FloatOps F] in
theorem pull {I J : Type} [DecidableEq I] [DecidableEq J] {T : Finset J} {S : Finset I} (f : I → J)
    (hf : ∀ a ∈ S, ∀ b ∈ S, f a = f b → a = b) (hT : ∀ a ∈ S, f a ∈ T) (Φ : J → sProp 𝕄) :
    bigSep T Φ ⊢ bigSep S (fun i => Φ (f i)) := by
  have hs : S.image f ⊆ T := fun j hj => by
    obtain ⟨i, hi, rfl⟩ := Finset.mem_image.mp hj
    exact hT i hi
  have e : bigSep (S.image f) Φ = bigSep S (fun i => Φ (f i)) := Finset.fold_image hf
  rw [← e]
  exact bigSep_subset hs

omit [FloatOps F] in
/-- Each device gives what it has for `x` to another, `x` by `x`. -/
theorem deal {X : Type} [Fintype X] (e : X → Dev nD ≃ Dev nD) (Φ : Dev nD × X → sProp 𝕄) :
    bigSep Finset.univ Φ = bigSep Finset.univ (fun c => bigSep Finset.univ (fun x => Φ (e x c, x))) := by
  let E : (Dev nD × X) ≃ (Dev nD × X) :=
    ⟨fun p => (e p.2 p.1, p.2), fun p => ((e p.2).symm p.1, p.2),
      fun p => Prod.ext ((e p.2).symm_apply_apply p.1) rfl, fun p => Prod.ext ((e p.2).apply_symm_apply p.1) rfl⟩
  rw [bigSep_univ_equiv E Φ, bigSep_univ_prod]
  rfl

omit [FloatOps F] in
theorem runTo {M a b : ℕ} (hb : b ≤ M) (Ψ : Fin M → sProp 𝕄) (Φ : ℕ → sProp 𝕄) (h : ∀ n, Ψ n ⊢ Φ n.val) :
    bigSep Finset.univ Ψ ⊢ bigSep (Finset.Ico a b) Φ := by
  refine (bigSep_mono fun n _ => h n).trans ?_
  rw [show (bigSep (Finset.univ : Finset (Fin M)) (fun n => Φ n.val)) = bigSep ((Finset.univ : Finset (Fin M)).map Fin.valEmbedding) Φ from (bigSep_map Fin.valEmbedding).symm]
  exact bigSep_subset fun j hj => by
    have := Finset.mem_Ico.mp hj
    exact Finset.mem_map.mpr ⟨⟨j, by omega⟩, Finset.mem_univ _, rfl⟩

omit [FloatOps F] in
theorem shift {a b a' b' k : ℕ} (Φ : ℕ → sProp 𝕄) (h : ∀ j, a' ≤ j → j < b' → a ≤ j + k ∧ j + k < b) :
    bigSep (Finset.Ico a b) Φ ⊢ bigSep (Finset.Ico a' b') (fun j => Φ (j + k)) :=
  pull (fun j => j + k) (fun i _ j _ e => by omega) (fun j hj => by
    have := Finset.mem_Ico.mp hj
    exact Finset.mem_Ico.mpr (h j this.1 this.2)) Φ

omit [FloatOps F] in
theorem two_runs (a b : ℕ) (Φ Ψ : ℕ → sProp 𝕄) :
    iprop(bigSep (Finset.Ico a b) Φ ∗ bigSep (Finset.Ico a b) Ψ) ⊢ bigSep (Finset.Ico a b) (fun j => iprop(Φ j ∗ Ψ j)) :=
  Entails.of_eq (bigSep_sep' _ _ _).symm

/-! ## Who pays what -/

def dstE (l : Fin 4) : Dev nD ≃ Dev nD := ⟨dst l, src l, src_dst l, dst_src l⟩
def srcE (l : Fin 4) : Dev nD ≃ Dev nD := ⟨src l, dst l, dst_src l, src_dst l⟩
def mvE (b : Bool) : Dev nD ≃ Dev nD := ⟨mv b, mv (!b), mv_mv' b, mv_mv b⟩

/-- Lane, kind of duty, number. -/
abbrev TX : Type := Fin 4 × Fin 8 × Fin 32

/-- The copies to the result are numbered 0, 2, 3, 4, …. -/
def tn (n : ℕ) : ℕ := if n = 0 then 0 else n + 1

def tokKey (x : TX) : CK × ℕ × ℕ :=
  match x.2.1 with
  | 0 => (some (x.1, kS (m2 x.2.2.val)), x.2.2.val / 2, 0)
  | 1 => (some (x.1, kR (m2 x.2.2.val)), x.2.2.val / 2, 0)
  | 2 => (some (x.1, 12), 0, x.2.2.val)
  | 3 => (some (x.1, kU (m3 x.2.2.val)), x.2.2.val / 3, 0)
  | 4 => (some (x.1, kV (m3 (x.2.2.val + 1))), x.2.2.val / 3, 0)
  | 5 => (some (x.1, 13), x.2.2.val, 0)
  | 6 => (some (x.1, kT (m2 (tn x.2.2.val))), rst (tn x.2.2.val), 0)
  | 7 => (none, 0, 4 * x.2.2.val + x.1.val)

def untok (y : CK × ℕ × ℕ) : ℕ × ℕ × ℕ :=
  match y with
  | (none, _, d) => (d % 4, 7, d / 4)
  | (some (l, k), r, d) =>
    if k.val < 2 then (l.val, 0, 2 * r + k.val)
    else if k.val < 4 then (l.val, 1, 2 * r + (k.val - 2))
    else if k.val < 6 then (l.val, 6, if k.val = 4 then 2 * r - 1 else 2 * r + 2)
    else if k.val < 9 then (l.val, 3, 3 * r + (k.val - 6))
    else if k.val < 12 then (l.val, 4, if k.val = 9 then 3 * r + 2 else 3 * r + (k.val - 10))
    else if k.val < 13 then (l.val, 2, d) else (l.val, 5, r)

theorem untok_tokKey : ∀ x : TX, untok (tokKey x) = (x.1.val, x.2.1.val, x.2.2.val) := by decide +kernel

theorem tokKey_inj {x y : TX} (h : tokKey x = tokKey y) : x = y := by
  have e := congrArg untok h
  rw [untok_tokKey, untok_tokKey] at e
  have h1 := congrArg Prod.fst e
  have h2 := congrArg (fun z : ℕ × ℕ × ℕ => z.2.1) e
  have h3 := congrArg (fun z : ℕ × ℕ × ℕ => z.2.2) e
  exact Prod.ext (Fin.ext h1) (Prod.ext (Fin.ext h2) (Fin.ext h3))

def tokOf (p : Dev nD × TX) : GSem nD τ sig × ℕ × ℕ := (kcell (p.1, (tokKey p.2).1), (tokKey p.2).2)

theorem tokOf_inj : Function.Injective tokOf := fun p q h => by
  have h1 : (p.1, (tokKey p.2).1) = (q.1, (tokKey q.2).1) := kcell_inj (congrArg (fun z : GSem nD τ sig × ℕ × ℕ => z.1) h)
  have h2 : (tokKey p.2).2 = (tokKey q.2).2 := congrArg (fun z : GSem nD τ sig × ℕ × ℕ => z.2) h
  have h3 : p.1 = q.1 := congrArg (fun z : Dev nD × CK => z.1) h1
  have h4 : (tokKey p.2).1 = (tokKey q.2).1 := congrArg (fun z : Dev nD × CK => z.2) h1
  exact Prod.ext h3 (tokKey_inj (Prod.ext h4 h2))

def allToks : Finset (GSem nD τ sig × ℕ × ℕ) := Finset.univ.map ⟨tokOf, tokOf_inj⟩
def allCells : Finset (GSem nD τ sig) := Finset.univ.map ⟨kcell, kcell_inj⟩

/-- The device whose cell device `c` pays. -/
def payE (x : TX) : Dev nD ≃ Dev nD :=
  match x.2.1 with
  | 0 => Equiv.refl _
  | 1 => dstE x.1
  | 2 => srcE x.1
  | 3 => Equiv.refl _
  | 4 => dstE x.1
  | 5 => srcE x.1
  | 6 => Equiv.refl _
  | 7 => if x.1 = 0 then mvE true else mvE false

/-- The duty of the cell of `c`, as a token. -/
def tk (p : Dev nD × TX) : sProp 𝕄 := dutyTok ER (tokOf p).1 (tokOf p).2.1 (tokOf p).2.2

/-- The duties device `c` pays. -/
def pays (c : Dev nD) : sProp 𝕄 := bigSep Finset.univ (fun x : TX => tk (payE x c, x))

omit [FloatOps F] in
theorem toks_dealt : bigSep allToks (fun x => (dutyTok ER x.1 x.2.1 x.2.2 : sProp 𝕄)) = bigSep Finset.univ (fun c : Dev nD => pays c) := by
  unfold allToks
  rw [bigSep_map]
  exact deal payE (fun p => tk p)

/-- A lane's duties; the barrier's. -/
def LTok (c : Dev nD) (l : Fin 4) : sProp 𝕄 :=
  iprop(bigSep (Finset.Ico 0 31) (fun j => dutyTok ER (cS c l (m2 j)) (j / 2) 0)
    ∗ bigSep (Finset.Ico 0 31) (fun j => dutyTok ER (cR (dst l c) l (m2 j)) (j / 2) 0)
    ∗ TkC c l 0 ∗ TkU c l 0 ∗ TkA c l 0 ∗ TkT c l 0 ∗ dutyTok ER (cT c l 0) 0 0)
def BTok (c : Dev nD) (l : Fin 4) : sProp 𝕄 := dutyTok ER (cB (if l = 0 then mv true c else mv false c)) 0 l.val

omit [FloatOps F] in
theorem fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

section Lane
variable (c : Dev nD) (l : Fin 4)

theorem tk0 (n : Fin 32) : tk (payE (l, 0, n) c, (l, 0, n)) ⊢ (dutyTok ER (cS c l (m2 n.val)) (n.val / 2) 0 : sProp 𝕄) := by
  rw [cS, ← csem_S]; exact .rfl
theorem tk1 (n : Fin 32) : tk (payE (l, 1, n) c, (l, 1, n)) ⊢ (dutyTok ER (cR (dst l c) l (m2 n.val)) (n.val / 2) 0 : sProp 𝕄) := by
  rw [cR, ← csem_R]; exact .rfl
theorem tk2 (n : Fin 32) : tk (payE (l, 2, n) c, (l, 2, n)) ⊢ (dutyTok ER (cC (src l c) l) 0 n.val : sProp 𝕄) := .rfl
theorem tk3 (n : Fin 32) : tk (payE (l, 3, n) c, (l, 3, n)) ⊢ (dutyTok ER (cU c l (m3 n.val)) (n.val / 3) 0 : sProp 𝕄) := by
  rw [cU, ← csem_U]; exact .rfl
theorem tk4 (n : Fin 32) : tk (payE (l, 4, n) c, (l, 4, n)) ⊢ (dutyTok ER (cV (dst l c) l (m3 (n.val + 1))) (n.val / 3) 0 : sProp 𝕄) := by
  rw [cV, ← csem_V]; exact .rfl
theorem tk5 (n : Fin 32) : tk (payE (l, 5, n) c, (l, 5, n)) ⊢ (dutyTok ER (cA (src l c) l) n.val 0 : sProp 𝕄) := .rfl
theorem tk6 (n : Fin 32) : tk (payE (l, 6, n) c, (l, 6, n)) ⊢ (dutyTok ER (cT c l (m2 (tn n.val))) (rst (tn n.val)) 0 : sProp 𝕄) := by
  rw [cT, ← csem_T]; exact .rfl
theorem tk7 : tk (payE (l, 7, 0) c, (l, 7, 0)) ⊢ (BTok c l : sProp 𝕄) := by
  unfold BTok
  have e : (payE (l, 7, 0)) c = if l = 0 then mv true c else mv false c := by
    unfold payE
    show (if l = 0 then mvE true else mvE false) c = _
    split <;> rfl
  rw [← e]
  have d : 4 * ((0 : Fin 32).val) + l.val = l.val := by show 4 * 0 + l.val = l.val; omega
  rw [← d]
  exact .rfl

theorem lane_toks : bigSep Finset.univ (fun f : Fin 8 => bigSep Finset.univ (fun n : Fin 32 => tk (payE (l, f, n) c, (l, f, n))))
    ⊢ (iprop(LTok c l ∗ BTok c l) : sProp 𝕄) := by
  rw [fin8]
  have h0 := runTo (a := 0) (b := 31) (by omega) _ (fun j => (dutyTok ER (cS c l (m2 j)) (j / 2) 0 : sProp 𝕄)) (tk0 c l)
  have h1 := runTo (a := 0) (b := 31) (by omega) _ (fun j => (dutyTok ER (cR (dst l c) l (m2 j)) (j / 2) 0 : sProp 𝕄)) (tk1 c l)
  have h2 := runTo (a := 0) (b := 29) (by omega) _ (fun j => (dutyTok ER (cC (src l c) l) 0 j : sProp 𝕄)) (tk2 c l)
  have h3 := runTo (a := 0) (b := 31) (by omega) _ (fun j => (dutyTok ER (cU c l (m3 j)) (j / 3) 0 : sProp 𝕄)) (tk3 c l)
  have h4 := runTo (a := 0) (b := 31) (by omega) _ (fun j => (dutyTok ER (cV (dst l c) l (m3 (j + 1))) (j / 3) 0 : sProp 𝕄)) (tk4 c l)
  have h5 := runTo (a := 0) (b := 29) (by omega) _ (fun j => (dutyTok ER (cA (src l c) l) j 0 : sProp 𝕄)) (tk5 c l)
  have h6 := runTo (a := 0) (b := 32) (by omega) _ (fun j => (dutyTok ER (cT c l (m2 (tn j))) (rst (tn j)) 0 : sProp 𝕄)) (tk6 c l)
  have h6' := (h6.trans (ico_pop (by omega) _)).trans
    (sep_mono_right (shift (a' := 0) (b' := 31) (k := 1) (fun j => (dutyTok ER (cT c l (m2 (tn j))) (rst (tn j)) 0 : sProp 𝕄)) (fun j _ h => by omega)))
  have h6'' : bigSep (Finset.Ico 0 31) (fun j => (dutyTok ER (cT c l (m2 (tn (j + 1)))) (rst (tn (j + 1))) 0 : sProp 𝕄)) ⊢ TkT c l 0 := by
    unfold TkT
    refine bigSep_mono fun j _ => ?_
    rw [show tn (j + 1) = j + 2 from if_neg (by omega)]
    exact BI.Entails.refl _
  have h7 : bigSep Finset.univ (fun n : Fin 32 => tk (payE (l, 7, n) c, (l, 7, n))) ⊢ (BTok c l : sProp 𝕄) :=
    (bigSep_elim (Finset.mem_univ (0 : Fin 32))).trans (tk7 c l)
  unfold LTok TkC TkU TkA
  iintro ⟨H0, H1, H2, H3, H4, H5, H6, H7⟩
  isplitr [H7]
  · isplitl [H0]; · iapply h0; iexact H0
    isplitl [H1]; · iapply h1; iexact H1
    isplitl [H2]; · iapply h2; iexact H2
    isplitl [H3 H4]
    · iapply (two_runs 0 31 (fun j => (dutyTok ER (cU c l (m3 j)) (j / 3) 0 : sProp 𝕄)) (fun j => dutyTok ER (cV (dst l c) l (m3 (j + 1))) (j / 3) 0))
      isplitl [H3]; · iapply h3; iexact H3
      iapply h4; iexact H4
    isplitl [H5]; · iapply h5; iexact H5
    ihave H := h6' $$ H6
    icases H with ⟨Ha, Hb⟩
    isplitl [Hb]; · iapply h6''; iexact Hb
    iexact Ha
  iapply h7; iexact H7

end Lane

theorem toks_lanes (c : Dev nD) : (pays c : sProp 𝕄) ⊢ bigSep Finset.univ (fun l : Fin 4 => iprop(LTok c l ∗ BTok c l)) := by
  unfold pays
  rw [bigSep_univ_prod]
  refine bigSep_mono fun l _ => ?_
  rw [bigSep_univ_prod]
  exact lane_toks c l

/-! ## The slots' write tokens -/

abbrev WX : Type := Fin 4 × Fin 31

omit [FloatOps F] in
theorem writes_dealt : bigSep ((Finset.univ : Finset RK) ×ˢ Finset.range 16) (fun x => (writeTok EL x.1 (x.2 + 1) : sProp 𝕄))
    ⊢ bigSep Finset.univ (fun c : Dev nD => bigSep Finset.univ (fun x : WX => writeTok EL (dst x.1 c, x.1, m2 x.2.val) (x.2.val / 2 + 1))) := by
  have e : _ = bigSep Finset.univ (fun c : Dev nD => bigSep Finset.univ (fun x : WX => (writeTok EL (dst x.1 c, x.1, m2 x.2.val) (x.2.val / 2 + 1) : sProp 𝕄))) :=
    deal (fun x : WX => dstE x.1) (fun p : Dev nD × WX => (writeTok EL (p.1, p.2.1, m2 p.2.2.val) (p.2.2.val / 2 + 1) : sProp 𝕄))
  rw [← e]
  refine pull (fun p : Dev nD × WX => (((p.1, p.2.1, m2 p.2.2.val), p.2.2.val / 2) : RK × ℕ)) (fun p _ q _ h => ?_) (fun p _ => ?_) (fun x => (writeTok EL x.1 (x.2 + 1) : sProp 𝕄))
  · have h1 : p.1 = q.1 := congrArg (fun z : RK × ℕ => z.1.1) h
    have h2 : p.2.1 = q.2.1 := congrArg (fun z : RK × ℕ => z.1.2.1) h
    have h3 : p.2.2.val % 2 = q.2.2.val % 2 := congrArg (fun z : RK × ℕ => z.1.2.2.val) h
    have h4 : p.2.2.val / 2 = q.2.2.val / 2 := congrArg (fun z : RK × ℕ => z.2) h
    exact Prod.ext h1 (Prod.ext h2 (Fin.ext (by omega)))
  · have := p.2.2.isLt
    exact Finset.mem_product.mpr ⟨Finset.mem_univ _, Finset.mem_range.mpr (by show p.2.2.val / 2 < 16; omega)⟩

omit [FloatOps F] in
theorem writes_lanes (c : Dev nD) : bigSep Finset.univ (fun x : WX => (writeTok EL (dst x.1 c, x.1, m2 x.2.val) (x.2.val / 2 + 1) : sProp 𝕄))
    ⊢ bigSep Finset.univ (fun l : Fin 4 => bigSep (Finset.Ico 0 31) (fun j => writeTok EL (dst l c, l, m2 j) (j / 2 + 1))) := by
  rw [bigSep_univ_prod]
  exact bigSep_mono fun l _ => runTo (by omega) _ (fun j => (writeTok EL (dst l c, l, m2 j) (j / 2 + 1) : sProp 𝕄)) (fun n => .rfl)

/-! ## The launch credit -/

def LCr (c : Dev nD) (l : Fin 4) : sProp 𝕄 :=
  iprop(TkR c l 0 ∗ TkV c l 0
    ∗ bigSep (Finset.Ico 0 29) (fun j => cred (tallyAt (cC c l) (16 * (j + 1) + 8 + l.val) 1))
    ∗ bigSep (Finset.Ico 0 29) (fun j => cred (tallyAt (cA c l) (16 * (j + 33) + 8 + l.val) 1)))

abbrev lc (c : Dev nD) (q : ℕ) : sProp 𝕄 := Pipeline.launchCred (fun d => due d q) c

section Cr
variable (c : Dev nD) (l : Fin 4)

theorem lc_rs {j : ℕ} (h : j < 31) : (lc c (16 * (j + 1) + l.val) : sProp 𝕄) ⊢ cred (tallyAt (cR c l (m2 j)) (16 * (j + 1) + l.val) N) := by
  unfold lc
  rw [show (fun d => due d (16 * (j + 1) + l.val)) = fun d => tallyAt (cR (dst l d) l (m2 j)) (16 * (j + 1) + l.val) N from funext fun d => due_rs d l h]
  exact Pipeline.launchCred_tallyAt (.dma (rsR l (m2 j))) (dst l) (src l) (dst_src l) (src_dst l) _ _ c
theorem lc_ag {j : ℕ} (h : j < 31) : (lc c (16 * (j + 32) + l.val) : sProp 𝕄) ⊢ cred (tallyAt (cV c l (m3 (j + 1))) (16 * (j + 32) + l.val) N) := by
  unfold lc
  rw [show (fun d => due d (16 * (j + 32) + l.val)) = fun d => tallyAt (cV (dst l d) l (m3 (j + 1))) (16 * (j + 32) + l.val) N from funext fun d => due_ag d l h]
  exact Pipeline.launchCred_tallyAt (.dma (agR l (m3 (j + 1)))) (dst l) (src l) (dst_src l) (src_dst l) _ _ c
theorem lc_rc {j : ℕ} (h : j < 29) : (lc c (16 * (j + 1) + 8 + l.val) : sProp 𝕄) ⊢ cred (tallyAt (cC c l) (16 * (j + 1) + 8 + l.val) 1) := by
  unfold lc
  rw [show (fun d => due d (16 * (j + 1) + 8 + l.val)) = fun d => tallyAt (cC (src l d) l) (16 * (j + 1) + 8 + l.val) 1 from funext fun d => due_rc d l h]
  exact Pipeline.launchCred_tallyAt (.reg (rcS l)) (src l) (dst l) (src_dst l) (dst_src l) _ _ c
theorem lc_ac {j : ℕ} (h : j < 29) : (lc c (16 * (j + 33) + 8 + l.val) : sProp 𝕄) ⊢ cred (tallyAt (cA c l) (16 * (j + 33) + 8 + l.val) 1) := by
  unfold lc
  rw [show (fun d => due d (16 * (j + 33) + 8 + l.val)) = fun d => tallyAt (cA (src l d) l) (16 * (j + 33) + 8 + l.val) 1 from
    funext fun d => due_ac d l (t := j + 1) (by omega) (by omega)]
  exact Pipeline.launchCred_tallyAt (.reg (acS l)) (src l) (dst l) (src_dst l) (dst_src l) _ _ c
theorem lc_b1 : (lc c 1 : sProp 𝕄) ⊢ cred (tallyAt (cB c) 2 1) :=
  Pipeline.launchCred_tallyAt (.reg barS) (mv false) (mv true) (mv_mv false) (mv_mv' false) 2 1 c
theorem lc_b2 : (lc c 2 : sProp 𝕄) ⊢ cred (tallyAt (cB c) 2 1) :=
  Pipeline.launchCred_tallyAt (.reg barS) (mv true) (mv false) (mv_mv true) (mv_mv' true) 2 1 c

theorem lane_creds : bigSep Finset.univ (fun h : Fin 2 => bigSep Finset.univ (fun i : Fin 62 => lc c (16 * (i.val + 1) + 8 * h.val + l.val)))
    ⊢ (LCr c l : sProp 𝕄) := by
  rw [fin2]
  have split (Φ : ℕ → sProp 𝕄) : bigSep (Finset.Ico 0 62) Φ = iprop(bigSep (Finset.Ico 0 31) Φ ∗ bigSep (Finset.Ico 31 62) Φ) := by
    rw [show Finset.Ico 0 62 = Finset.Ico 0 31 ∪ Finset.Ico 31 62 from by decide]
    exact bigSep_union (by decide)
  have h0 := runTo (a := 0) (b := 62) (by omega) _ (fun i => (lc c (16 * (i + 1) + l.val) : sProp 𝕄))
    (fun n : Fin 62 => (Entails.of_eq (by rw [show 16 * (n.val + 1) + 8 * (0 : Fin 2).val + l.val = 16 * (n.val + 1) + l.val from rfl]) :
      (lc c (16 * (n.val + 1) + 8 * (0 : Fin 2).val + l.val) : sProp 𝕄) ⊢ _))
  have h1 := runTo (a := 0) (b := 62) (by omega) _ (fun i => (lc c (16 * (i + 1) + 8 + l.val) : sProp 𝕄))
    (fun n : Fin 62 => (Entails.of_eq (by rw [show 16 * (n.val + 1) + 8 * (1 : Fin 2).val + l.val = 16 * (n.val + 1) + 8 + l.val from rfl]) :
      (lc c (16 * (n.val + 1) + 8 * (1 : Fin 2).val + l.val) : sProp 𝕄) ⊢ _))
  have h0a : bigSep (Finset.Ico 0 31) (fun i => (lc c (16 * (i + 1) + l.val) : sProp 𝕄)) ⊢ TkR c l 0 := by
    unfold TkR
    exact bigSep_mono fun j hj => lc_rs c l (Finset.mem_Ico.mp hj).2
  have h0b : bigSep (Finset.Ico 31 62) (fun i => (lc c (16 * (i + 1) + l.val) : sProp 𝕄)) ⊢ TkV c l 0 := by
    unfold TkV
    refine (shift (a' := 0) (b' := 31) (k := 31) (fun i => (lc c (16 * (i + 1) + l.val) : sProp 𝕄)) (fun j _ h => by omega)).trans ?_
    exact bigSep_mono fun j hj => lc_ag c l (Finset.mem_Ico.mp hj).2
  have h1a : bigSep (Finset.Ico 0 31) (fun i => (lc c (16 * (i + 1) + 8 + l.val) : sProp 𝕄))
      ⊢ bigSep (Finset.Ico 0 29) (fun j => cred (tallyAt (cC c l) (16 * (j + 1) + 8 + l.val) 1)) :=
    (bigSep_subset (t := Finset.Ico 0 29) (by decide)).trans (bigSep_mono fun j hj => lc_rc c l (Finset.mem_Ico.mp hj).2)
  have h1b : bigSep (Finset.Ico 31 62) (fun i => (lc c (16 * (i + 1) + 8 + l.val) : sProp 𝕄))
      ⊢ bigSep (Finset.Ico 0 29) (fun j => cred (tallyAt (cA c l) (16 * (j + 33) + 8 + l.val) 1)) := by
    refine (shift (a' := 0) (b' := 29) (k := 32) (fun i => (lc c (16 * (i + 1) + 8 + l.val) : sProp 𝕄)) (fun j _ h => by omega)).trans ?_
    exact bigSep_mono fun j hj => lc_ac c l (Finset.mem_Ico.mp hj).2
  unfold LCr
  iintro ⟨H0, H1⟩
  ihave H0 := (h0.trans (Entails.of_eq (split _))) $$ H0
  ihave H1 := (h1.trans (Entails.of_eq (split _))) $$ H1
  icases H0 with ⟨Ha, Hb⟩
  icases H1 with ⟨Hc, Hd⟩
  isplitl [Ha]; · iapply h0a; iexact Ha
  isplitl [Hb]; · iapply h0b; iexact Hb
  isplitl [Hc]; · iapply h1a; iexact Hc
  iapply h1b; iexact Hd

end Cr

theorem creds (c : Dev nD) : (Pipeline.launchCred (fun d => O d 1) c : sProp 𝕄)
    ⊢ iprop(cred (tallyAt (cB c) 2 2) ∗ bigSep Finset.univ (fun l : Fin 4 => LCr c l)) := by
  have e : (Pipeline.launchCred (fun d => O d 1) c : sProp 𝕄) = bigSep (Finset.Ico 1 1008) (fun q => lc c q) :=
    Pipeline.launchCred_sum (Finset.Ico 1 1008) (fun q d => due d q) c
  have p1 := ico_pop (show 1 < 1008 by omega) (fun q => (lc c q : sProp 𝕄))
  have p2 := ico_pop (show 2 < 1008 by omega) (fun q => (lc c q : sProp 𝕄))
  have p3 : bigSep (Finset.Ico 3 1008) (fun q => (lc c q : sProp 𝕄)) ⊢ bigSep Finset.univ (fun l : Fin 4 => LCr c l) := by
    refine (pull (S := (Finset.univ : Finset (Fin 4 × Fin 2 × Fin 62))) (fun x => 16 * (x.2.2.val + 1) + 8 * x.2.1.val + x.1.val) (fun x _ y _ h => ?_) (fun x _ => ?_) (fun q => (lc c q : sProp 𝕄))).trans ?_
    · have := x.1.isLt; have := y.1.isLt; have := x.2.1.isLt; have := y.2.1.isLt
      exact Prod.ext (Fin.ext (by omega)) (Prod.ext (Fin.ext (by omega)) (Fin.ext (by omega)))
    · have := x.1.isLt; have := x.2.1.isLt; have := x.2.2.isLt
      exact Finset.mem_Ico.mpr ⟨by omega, by omega⟩
    · rw [bigSep_univ_prod]
      refine bigSep_mono fun l _ => ?_
      rw [bigSep_univ_prod]
      exact lane_creds c l
  rw [e]
  iintro H
  ihave H := p1 $$ H
  icases H with ⟨H1, H⟩
  ihave H := p2 $$ H
  icases H with ⟨H2, H⟩
  isplitl [H1 H2]
  · rw [show (tallyAt (cB c) 2 2 : CellTallies nD τ sig ℕ) = tallyAt (cB c) 2 1 + tallyAt (cB c) 2 1 from (tallyAt_add (cB c) 2 1 1).symm]
    iapply (cred_add _ _).2
    isplitl [H1]
    · iapply (lc_b1 c); iexact H1
    · iapply (lc_b2 c); iexact H2
  iapply p3; iexact H

end Cert.KernelIdealProof
-- ==== Proof.KernelIdealLane.lean ====
/-
  A device's part of what the launch deals, lane by lane, and what it gives back.
-/
module

public import proofs.«01_k».proof.Proof.KernelIdealBody
public import proofs.«01_k».proof.Proof.KernelIdealDeal

@[expose] public section

noncomputable section

namespace Cert.KernelIdealProof

open Cert.KernelIdeal Cert.KernelIdeal.Gen Idealize.ShloMosaic TcCoe Rounds Release Idealize.SL RA BI BI.BIBase BI.Laws ProofMode Idealize.SL.Sem
open scoped Idealize.SL.BI
open Pipeline (Dat Cfg Window BodyObligation cellOf)

variable {F : FTy → Type} [FloatOps F]

local notation "𝕄" => MT nD τ sig ℕ (Elt F) ℕ UU ℕ

variable (m : (ℓ : Loc nD τ sig) → Buf (Elt F) ℓ)
variable (K : Dev nD × CK → ℕ) (κ : RK → ℕ)

/-! ## A lane's share -/

def Rall : sProp 𝕄 := bigSep Finset.univ (fun ck : Dev nD × CK => reached ER (kcell ck) 0)
omit [FloatOps F] in
instance Rall_persistent : BI.Persistent (Rall : sProp 𝕄) := by unfold Rall; infer_instance

omit [FloatOps F] in
theorem posr (c : Dev nD) (k : CK) : iprop(Rall ∗ atPos ER (kcell (c, k)) 0 ∅ 0)
    ⊢ (iprop(atPos ER (kcell (c, k)) 0 ∅ 0 ∗ reached ER (kcell (c, k)) 0) : sProp 𝕄) := by
  have h : Rall ⊢ (reached ER (kcell (c, k)) 0 : sProp 𝕄) := bigSep_elim (Finset.mem_univ (c, k))
  iintro ⟨#HR, H⟩
  isplitl [H]; · iexact H
  iapply h; iexact HR

omit [FloatOps F] in
theorem fin14 (Φ : Fin 14 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

def LPos (c : Dev nD) (l : Fin 4) : sProp 𝕄 := bigSep (Finset.univ : Finset (Fin 14)) (fun k => atPos ER (kcell (c, some (l, k))) 0 ∅ 0)
def LWr (c : Dev nD) (l : Fin 4) : sProp 𝕄 := bigSep (Finset.Ico 0 31) (fun j => writeTok EL (dst l c, l, m2 j) (j / 2 + 1))
def LRd (c : Dev nD) (l : Fin 4) : sProp 𝕄 := bigSep (Finset.univ : Finset (Fin 2)) (fun b => readerAt EL (c, l, b) 0)
def LOut (c : Dev nD) (l : Fin 4) : sProp 𝕄 := bigSep (Finset.range 32) (fun k => outTodo c l k)
def LAcc (c : Dev nD) (l : Fin 4) : sProp 𝕄 := bigSep (Finset.univ : Finset (Fin 2)) (fun b => accFree c l b)
def LRcv (c : Dev nD) (l : Fin 4) : sProp 𝕄 := bigSep (Finset.univ : Finset (Fin 2)) (fun b => rcvFree c l b)
def LAg (c : Dev nD) (l : Fin 4) : sProp 𝕄 := bigSep (Finset.univ : Finset (Fin 3)) (fun b => agFree c l b)
def LSt (c : Dev nD) (l : Fin 4) : sProp 𝕄 := bigSep (Finset.univ : Finset (Fin 2)) (fun b => stFree c l b)

def LaneIn (c : Dev nD) (l : Fin 4) : sProp 𝕄 :=
  iprop(LPos c l ∗ LTok c l ∗ LWr c l ∗ LRd c l ∗ LCr c l ∗ LAcc c l ∗ LRcv c l ∗ LAg c l ∗ LSt c l ∗ LOut c l)

theorem lane_intro (c : Dev nD) (l : Fin 4) : iprop(Rall ∗ LaneIn c l) ⊢ (Z0 c l : sProp 𝕄) := by
  have hS0 : iprop(Rall ∗ atPos ER (kcell (c, some (l, 0))) 0 ∅ 0) ⊢ (PS c l 0 : sProp 𝕄) := posr c (some (l, 0))
  have hS1 : iprop(Rall ∗ atPos ER (kcell (c, some (l, 1))) 0 ∅ 0) ⊢ (PS c l 1 : sProp 𝕄) := posr c (some (l, 1))
  have hR0 : iprop(Rall ∗ atPos ER (kcell (c, some (l, 2))) 0 ∅ 0) ⊢ (PR c l 0 : sProp 𝕄) := posr c (some (l, 2))
  have hR1 : iprop(Rall ∗ atPos ER (kcell (c, some (l, 3))) 0 ∅ 0) ⊢ (PR c l 1 : sProp 𝕄) := posr c (some (l, 3))
  have hT0 : iprop(Rall ∗ atPos ER (kcell (c, some (l, 4))) 0 ∅ 0) ⊢ (PT c l 0 : sProp 𝕄) := posr c (some (l, 4))
  have hT3 : iprop(Rall ∗ atPos ER (kcell (c, some (l, 5))) 0 ∅ 0) ⊢ (PT c l 3 : sProp 𝕄) := posr c (some (l, 5))
  have hU0 : iprop(Rall ∗ atPos ER (kcell (c, some (l, 6))) 0 ∅ 0) ⊢ (PU c l 0 : sProp 𝕄) := posr c (some (l, 6))
  have hU1 : iprop(Rall ∗ atPos ER (kcell (c, some (l, 7))) 0 ∅ 0) ⊢ (PU c l 1 : sProp 𝕄) := posr c (some (l, 7))
  have hU2 : iprop(Rall ∗ atPos ER (kcell (c, some (l, 8))) 0 ∅ 0) ⊢ (PU c l 2 : sProp 𝕄) := posr c (some (l, 8))
  have hV2 : iprop(Rall ∗ atPos ER (kcell (c, some (l, 9))) 0 ∅ 0) ⊢ (PV c l 2 : sProp 𝕄) := posr c (some (l, 9))
  have hV0 : iprop(Rall ∗ atPos ER (kcell (c, some (l, 10))) 0 ∅ 0) ⊢ (PV c l 0 : sProp 𝕄) := posr c (some (l, 10))
  have hV1 : iprop(Rall ∗ atPos ER (kcell (c, some (l, 11))) 0 ∅ 0) ⊢ (PV c l 1 : sProp 𝕄) := posr c (some (l, 11))
  have hA : iprop(Rall ∗ atPos ER (kcell (c, some (l, 13))) 0 ∅ 0) ⊢ (iprop(atPos ER (cA c l) (0 - 2) ∅ 0 ∗ reached ER (cA c l) (0 - 2)) : sProp 𝕄) :=
    posr c (some (l, 13))
  have hS : iprop(bigSep (Finset.Ico 0 31) (fun j => dutyTok ER (cS c l (m2 j)) (j / 2) 0)
      ∗ bigSep (Finset.Ico 0 31) (fun j => dutyTok ER (cR (dst l c) l (m2 j)) (j / 2) 0)
      ∗ bigSep (Finset.Ico 0 31) (fun j => writeTok EL (dst l c, l, m2 j) (j / 2 + 1))) ⊢ (TkS c l 0 : sProp 𝕄) :=
    (sep_mono_right (two_runs 0 31 _ _)).trans (two_runs 0 31 _ _)
  have hO : bigSep (Finset.range 32) (fun k => outTodo c l k) ⊢ (iprop(outTodo c l 0 ∗ Td c l 0) : sProp 𝕄) := by
    rw [Finset.range_eq_Ico]
    exact ico_pop (by omega) _
  unfold LaneIn LPos LTok LWr LRd LCr LAcc LRcv LAg LSt LOut Z0 PZ CZ Gr GG
  rw [fin14, fin2, fin2, fin2, fin2, fin3]
  iintro ⟨#HR, ⟨K0, K1, K2, K3, K4, K5, K6, K7, K8, K9, K10, K11, K12, K13⟩, ⟨TS, TR, TC, TU, TA, TT, T0⟩, HW, ⟨D0, D1⟩, ⟨CR, CV, CC, CA⟩,
    ⟨A0, A1⟩, ⟨B0, B1⟩, ⟨G0, G1, G2⟩, ⟨S0, S1⟩, HO⟩
  ihave HO := hO $$ HO
  icases HO with ⟨O0, HO⟩
  isplitl [A0]; · iexact A0
  isplitl [A1]; · iexact A1
  isplitl [K0]
  · iapply hS0; isplitr; · iexact HR
    iexact K0
  isplitl [K1]
  · iapply hS1; isplitr; · iexact HR
    iexact K1
  isplitl [K2]
  · iapply hR0; isplitr; · iexact HR
    iexact K2
  isplitl [K3]
  · iapply hR1; isplitr; · iexact HR
    iexact K3
  isplitl [B0 B1 D0 D1]
  · isplitl [B0]; · iexact B0
    isplitl [B1]; · iexact B1
    isplitl [D0]; · iexact D0
    iexact D1
  isplitl [CR]; · iexact CR
  isplitl [TC]; · iexact TC
  isplitl [K12 CC]
  · isplitl [K12]
    · iapply (show (atPos ER (kcell (c, some (l, 12))) 0 ∅ 0 : sProp 𝕄) ⊢ atPos ER (cC c l) 0 ∅ 0 from .rfl); iexact K12
    iexact CC
  isplitl [TS TR HW]
  · iapply hS
    isplitl [TS]; · iexact TS
    isplitl [TR]; · iexact TR
    iexact HW
  isplitl [G1]; · iexact G1
  isplitl [G2]; · iexact G2
  isplitl [G0]; · iexact G0
  isplitl [S0]; · iexact S0
  isplitl [S1]; · iexact S1
  isplitl [O0]; · iexact O0
  isplitl [HO]; · iexact HO
  isplitl [K6 K7 K8]
  · isplitl [K6]
    · iapply hU0; isplitr; · iexact HR
      iexact K6
    isplitl [K7]
    · iapply hU1; isplitr; · iexact HR
      iexact K7
    iapply hU2; isplitr; · iexact HR
    iexact K8
  isplitl [K9 K10 K11]
  · isplitl [K10]
    · iapply hV0; isplitr; · iexact HR
      iexact K10
    isplitl [K11]
    · iapply hV1; isplitr; · iexact HR
      iexact K11
    iapply hV2; isplitr; · iexact HR
    iexact K9
  isplitl [K4]
  · iapply hT0; isplitr; · iexact HR
    iexact K4
  isplitl [K5]
  · iapply hT3; isplitr; · iexact HR
    iexact K5
  isplitl [K13 CA]
  · unfold PA
    ihave K := hA $$ [K13]
    · isplitr; · iexact HR
      iexact K13
    icases K with ⟨Ka, Kb⟩
    isplitl [Ka]; · iexact Ka
    isplitl [Kb]; · iexact Kb
    iexact CA
  isplitl [TU]; · iexact TU
  isplitl [CV]; · iexact CV
  isplitl [TA]; · iexact TA
  isplitl [TT]; · iexact TT
  iexact T0

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

theorem lanes_intro (c : Dev nD) :
    iprop(Rall ∗ bigSep Finset.univ (LPos c) ∗ bigSep Finset.univ (LTok c) ∗ bigSep Finset.univ (LWr c) ∗ bigSep Finset.univ (LRd c) ∗ bigSep Finset.univ (LCr c)
        ∗ bigSep Finset.univ (LAcc c) ∗ bigSep Finset.univ (LRcv c) ∗ bigSep Finset.univ (LAg c) ∗ bigSep Finset.univ (LSt c) ∗ bigSep Finset.univ (LOut c))
      ⊢ (bigSep Finset.univ (fun l : Fin 4 => Z0 c l) : sProp 𝕄) := by
  have h := with_persistent (S := (Finset.univ : Finset (Fin 4))) (R := (Rall : sProp 𝕄)) (Φ := LaneIn c) (Ψ := fun l => Z0 c l) (fun l _ => lane_intro c l)
  unfold LaneIn at h
  simp only [bigSep_sep'] at h
  exact h

/-! ## A device's share -/

/-- What the launch deals device `c` at the cells and the slots. -/
def Lin (c : Dev nD) : sProp 𝕄 :=
  iprop((bigSep Finset.univ fun k : CK => atPos ER (kcell (c, k)) 0 ∅ 0) ∗ pays c
    ∗ (bigSep Finset.univ fun x : WX => writeTok EL (dst x.1 c, x.1, m2 x.2.val) (x.2.val / 2 + 1))
    ∗ bigSep Finset.univ fun x : Fin 4 × Fin 2 => readerAt EL (c, x.1, x.2) 0)

def Bufs (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

omit [FloatOps F] in
theorem ck_split (Φ : CK → sProp 𝕄) : bigSep Finset.univ Φ = iprop(Φ none ∗ bigSep Finset.univ (fun l : Fin 4 => bigSep Finset.univ (fun k : Fin 14 => Φ (some (l, k))))) := by
  have e : (Finset.univ : Finset CK) = insert none ((Finset.univ : Finset (Fin 4 × Fin 14)).map Function.Embedding.some) := by
    ext k; cases k <;> simp
  rw [e, bigSep_insert (by simp), bigSep_map, bigSep_univ_prod]
  rfl

theorem dev_intro (c : Dev nD) : iprop(Rall ∗ Lin c ∗ cred (tallyAt (cB c) 2 2) ∗ bigSep Finset.univ (LCr c) ∗ Bufs c ∗ bigSep Finset.univ (LOut c))
    ⊢ iprop((dutyTok ER (cB (mv false c)) 0 1 ∗ dutyTok ER (cB (mv true c)) 0 0 ∗ BW c) ∗ Z0 c 0 ∗ Z0 c 1 ∗ Z0 c 2 ∗ Z0 c 3 : sProp 𝕄) := by
  have hA : (∃ f : Buf (Elt F) ((c : Thread nD τ).loc cc0_scratch0), ((c : Thread nD τ).loc cc0_scratch0) ↦{fullShare} f : sProp 𝕄) ⊢ bigSep Finset.univ (LAcc c) := by
    refine (show _ ⊢ iprop(∃ f, accB.view.loc (c : Thread nD τ) ↦[accB.view.set]{fullShare} f) from ?_).trans ((split2 accB c).trans (Entails.of_eq (bigSep_univ_prod _)))
    rw [Memref.view_whole, View.set_whole]
  have hB : (∃ f : Buf (Elt F) ((c : Thread nD τ).loc cc0_scratch1), ((c : Thread nD τ).loc cc0_scratch1) ↦{fullShare} f : sProp 𝕄) ⊢ bigSep Finset.univ (LRcv c) := by
    refine (show _ ⊢ iprop(∃ f, rcvB.view.loc (c : Thread nD τ) ↦[rcvB.view.set]{fullShare} f) from ?_).trans ((split2 rcvB c).trans (Entails.of_eq (bigSep_univ_prod _)))
    rw [Memref.view_whole, View.set_whole]
  have hG : (∃ f : Buf (Elt F) ((c : Thread nD τ).loc cc0_scratch2), ((c : Thread nD τ).loc cc0_scratch2) ↦{fullShare} f : sProp 𝕄) ⊢ bigSep Finset.univ (LAg c) := by
    refine (show _ ⊢ iprop(∃ f, agB.view.loc (c : Thread nD τ) ↦[agB.view.set]{fullShare} f) from ?_).trans ((split3 agB c).trans (Entails.of_eq (bigSep_univ_prod _)))
    rw [Memref.view_whole, View.set_whole]
  have hS : (∃ f : Buf (Elt F) ((c : Thread nD τ).loc cc0_scratch3), ((c : Thread nD τ).loc cc0_scratch3) ↦{fullShare} f : sProp 𝕄) ⊢ bigSep Finset.univ (LSt c) := by
    refine (show _ ⊢ iprop(∃ f, stB.view.loc (c : Thread nD τ) ↦[stB.view.set]{fullShare} f) from ?_).trans ((split2 stB c).trans (Entails.of_eq (bigSep_univ_prod _)))
    rw [Memref.view_whole, View.set_whole]
  have hP : bigSep Finset.univ (fun k : CK => (atPos ER (kcell (c, k)) 0 ∅ 0 : sProp 𝕄)) ⊢ iprop(atPos ER (cB c) 0 ∅ 0 ∗ bigSep Finset.univ (LPos c)) :=
    Entails.of_eq (ck_split _)
  have hW : bigSep Finset.univ (fun x : WX => (writeTok EL (dst x.1 c, x.1, m2 x.2.val) (x.2.val / 2 + 1) : sProp 𝕄)) ⊢ bigSep Finset.univ (LWr c) := writes_lanes c
  have hR : bigSep Finset.univ (fun x : Fin 4 × Fin 2 => (readerAt EL (c, x.1, x.2) 0 : sProp 𝕄)) ⊢ bigSep Finset.univ (LRd c) :=
    Entails.of_eq (bigSep_univ_prod _)
  have hD : (pays c : sProp 𝕄) ⊢ iprop(bigSep Finset.univ (LTok c) ∗ dutyTok ER (cB (mv false c)) 0 1 ∗ dutyTok ER (cB (mv true c)) 0 0) := by
    refine (toks_lanes c).trans ?_
    rw [bigSep_sep']
    refine sep_mono_right ?_
    rw [fin4]
    unfold BTok
    iintro ⟨H0, H1, -, -⟩
    isplitl [H1]
    · iapply (show (dutyTok ER (cB (if (1 : Fin 4) = 0 then mv true c else mv false c)) 0 (1 : Fin 4).val : sProp 𝕄) ⊢ dutyTok ER (cB (mv false c)) 0 1 from .rfl); iexact H1
    · iapply (show (dutyTok ER (cB (if (0 : Fin 4) = 0 then mv true c else mv false c)) 0 (0 : Fin 4).val : sProp 𝕄) ⊢ dutyTok ER (cB (mv true c)) 0 0 from .rfl); iexact H0
  have hZ : bigSep Finset.univ (fun l : Fin 4 => Z0 c l) ⊢ (iprop(Z0 c 0 ∗ Z0 c 1 ∗ Z0 c 2 ∗ Z0 c 3) : sProp 𝕄) := Entails.of_eq (fin4 _)
  unfold Lin Bufs BW
  iintro ⟨#HR, ⟨Hat, Hp, Hw, Hr⟩, Hb, Hc, ⟨B0, B1, B2, B3⟩, Ho⟩
  icases hP $$ Hat with ⟨Pb, Hat⟩
  icases hD $$ Hp with ⟨Ht, D1, D0⟩
  isplitl [Pb D1 D0 Hb]
  · isplitl [D1]; · iexact D1
    isplitl [D0]; · iexact D0
    isplitl [Pb]; · iexact Pb
    iexact Hb
  iapply hZ
  iapply (lanes_intro c)
  isplitr; · iexact HR
  isplitl [Hat]; · iexact Hat
  isplitl [Ht]; · iexact Ht
  isplitl [Hw]; · iapply hW; iexact Hw
  isplitl [Hr]; · iapply hR; iexact Hr
  isplitl [Hc]; · iexact Hc
  isplitl [B0]; · iapply hA; iexact B0
  isplitl [B1]; · iapply hB; iexact B1
  isplitl [B2]; · iapply hG; iexact B2
  isplitl [B3]; · iapply hS; iexact B3
  iexact Ho

/-! ## What a device gives back -/

def LDone (c : Dev nD) (l : Fin 4) : sProp 𝕄 := bigSep (Finset.range 32) (fun k => outDone m c l k)

theorem lanes_out (c : Dev nD) : bigSep Finset.univ (fun l : Fin 4 => Mem m c l)
    ⊢ iprop(bigSep Finset.univ (LAcc c) ∗ bigSep Finset.univ (LRcv c) ∗ bigSep Finset.univ (LAg c) ∗ bigSep Finset.univ (LSt c) ∗ bigSep Finset.univ (LDone m c)) := by
  simp only [← bigSep_sep']
  refine bigSep_mono fun l _ => ?_
  unfold LAcc LRcv LAg LSt LDone
  rw [fin2, fin2, fin2, fin3]
  show (Mem m c l : sProp 𝕄) ⊢ iprop((accFree c l 0 ∗ accFree c l 1) ∗ (rcvFree c l 0 ∗ rcvFree c l 1) ∗ (agFree c l 0 ∗ agFree c l 1 ∗ agFree c l 2)
    ∗ (stFree c l 0 ∗ stFree c l 1) ∗ bigSep (Finset.range 32) (fun k => outDone m c l k))
  unfold Mem
  iintro ⟨A0, A1, R0, R1, G0, G1, G2, S0, S1, HO⟩
  isplitl [A0 A1]
  · isplitl [A0] <;> iassumption
  isplitl [R0 R1]
  · isplitl [R0] <;> iassumption
  isplitl [G0 G1 G2]
  · isplitl [G0]; · iexact G0
    isplitl [G1] <;> iassumption
  isplitl [S0 S1]
  · isplitl [S0] <;> iassumption
  iexact HO

theorem dev_out (c : Dev nD) : iprop(Mem m c 0 ∗ Mem m c 1 ∗ Mem m c 2 ∗ Mem m c 3) ⊢ (iprop(Bufs c ∗ bigSep Finset.univ (LDone m c)) : sProp 𝕄) := by
  have hA : bigSep Finset.univ (LAcc c) ⊢ (∃ f : Buf (Elt F) ((c : Thread nD τ).loc cc0_scratch0), ((c : Thread nD τ).loc cc0_scratch0) ↦{fullShare} f : sProp 𝕄) := by
    refine (Entails.of_eq (bigSep_univ_prod (fun x : Fin 4 × Fin 2 => accFree c x.1 x.2)).symm).trans ((join2 accB c).trans ?_)
    rw [Memref.view_whole, View.set_whole]
  have hB : bigSep Finset.univ (LRcv c) ⊢ (∃ f : Buf (Elt F) ((c : Thread nD τ).loc cc0_scratch1), ((c : Thread nD τ).loc cc0_scratch1) ↦{fullShare} f : sProp 𝕄) := by
    refine (Entails.of_eq (bigSep_univ_prod (fun x : Fin 4 × Fin 2 => rcvFree c x.1 x.2)).symm).trans ((join2 rcvB c).trans ?_)
    rw [Memref.view_whole, View.set_whole]
  have hG : bigSep Finset.univ (LAg c) ⊢ (∃ f : Buf (Elt F) ((c : Thread nD τ).loc cc0_scratch2), ((c : Thread nD τ).loc cc0_scratch2) ↦{fullShare} f : sProp 𝕄) := by
    refine (Entails.of_eq (bigSep_univ_prod (fun x : Fin 4 × Fin 3 => agFree c x.1 x.2)).symm).trans ((join3 agB c).trans ?_)
    rw [Memref.view_whole, View.set_whole]
  have hS : bigSep Finset.univ (LSt c) ⊢ (∃ f : Buf (Elt F) ((c : Thread nD τ).loc cc0_scratch3), ((c : Thread nD τ).loc cc0_scratch3) ↦{fullShare} f : sProp 𝕄) := by
    refine (Entails.of_eq (bigSep_univ_prod (fun x : Fin 4 × Fin 2 => stFree c x.1 x.2)).symm).trans ((join2 stB c).trans ?_)
    rw [Memref.view_whole, View.set_whole]
  have hL : iprop(Mem m c 0 ∗ Mem m c 1 ∗ Mem m c 2 ∗ Mem m c 3) ⊢ (bigSep Finset.univ (fun l : Fin 4 => Mem m c l) : sProp 𝕄) := Entails.of_eq (fin4 _).symm
  unfold Bufs
  iintro H
  icases ((hL).trans (lanes_out m c)) $$ H with ⟨A, R, G, S, D⟩
  isplitr [D]
  · isplitl [A]; · iapply hA; iexact A
    isplitl [R]; · iapply hB; iexact R
    isplitl [G]; · iapply hG; iexact G
    iapply hS; iexact S
  iexact D

end Cert.KernelIdealProof
-- ==== Proof.KernelIdealRun.lean ====
/-
  The launch of the kernel and what a finished run leaves.
-/
module

public import proofs.«01_k».proof.Proof.KernelIdealLane
public import proofs.«01_k».proof.Proof.Gen.KernelIdeal.Launch
public import proofs.«01_k».proof.Proof.Gen.KernelIdeal.Points
public import Idealize.ShloMosaic.Lib.Pipeline.CollectiveSegs
public import Idealize.ShloMosaic.Lib.Quiescent

@[expose] public section

noncomputable section

namespace Cert.KernelIdealProof

open Cert.KernelIdeal Cert.KernelIdeal.Gen Idealize.ShloMosaic TcCoe Rounds Release Idealize.SL RA BI BI.BIBase BI.Laws ProofMode Idealize.SL.Sem
open scoped Idealize.SL.BI
open Pipeline (Dat Cfg Window BodyObligation cellOf)

variable {F : FTy → Type} [FloatOps F]

local notation "𝕄" => MT nD τ sig ℕ (Elt F) ℕ UU ℕ

variable (m : (ℓ : Loc nD τ sig) → Buf (Elt F) ℓ)
variable (K : Dev nD × CK → ℕ) (κ : RK → ℕ)
variable (ρ : Dev nD → PrngReg)

def s₀ : MemSt nD τ sig (Elt F) := ⟨m, fun _ => 0, ρ⟩

/-! ## The proof data -/

def Rec : sProp 𝕄 :=
  iprop(bigSep Finset.univ (fun ck : Dev nD × CK => cellInv ER (Rd m) (K ck) (kcell ck))
    ∗ bigSep Finset.univ (fun k : RK => slotInv EL (κ k) k (slotS k)) ∗ Rall)
instance Rec_persistent : BI.Persistent (Rec m K κ) := by unfold Rec; infer_instance

/-- What the launch's common step makes for device `c`. -/
def G' (c : Dev nD) : sProp 𝕄 := iprop(∃ (K : Dev nD × CK → ℕ) (κ : RK → ℕ), Rec m K κ ∗ Lin c)

def start (c : Dev nD) : sProp 𝕄 :=
  iprop(G' m c ∗ cred (tallyAt (cB c) 2 2) ∗ bigSep Finset.univ (LCr c) ∗ (levAts L lv : sProp 𝕄) ∗ bigSep Finset.univ (LOut c))

def Φ₀ (c : Dev nD) : sProp 𝕄 := iprop(start m c ∗ Bufs c)

def Φ₁ (c : Dev nD) : sProp 𝕄 :=
  iprop(semVal (kcell (c, none)) 0 ∗ bigSep Finset.univ (Sm c) ∗ Bufs c ∗ bigSep Finset.univ (LDone m c))

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xs m c
    | ⟨1, _⟩ => ws m c
  Φ t := match t with
    | ⟨0, _⟩ => Φ₀ m c
    | ⟨_ + 1, _⟩ => Φ₁ m c
  q _ := fullShare
  owed t := match t with
    | ⟨0, _⟩ => O c 1
    | ⟨_ + 1, _⟩ => 0

def stg (c : Dev nD) (b : Ref sig .tc) (X : b.ty.Contents (Elt F)) : sProp 𝕄 :=
  iprop(∃ f, ⌜f = X⌝ ∗ (((c : Thread nD τ).loc b) ↦{fullShare} f))

omit [FloatOps F] in
theorem owns_stg (c : Dev nD) (b : Ref sig .tc) (X : b.ty.Contents (Elt F)) :
    (owns (c : Thread nD τ) (Memref.whole b) fullShare X : sProp 𝕄) = stg c b X := by
  unfold owns stg; simp only [Memref.view_whole, View.read_whole, View.set_whole]

def bodyPre' (c : Dev nD) : sProp 𝕄 :=
  iprop(Φ₀ m c ∗ (dats m ρ 0 c).owesAt 0 t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ m c ∗ (dats m ρ 0 c).owesAt 0 t0_0.succ ∗ stg c cc0_stg0_0 (xs m c) ∗ stg c cc0_stg1_0 (ws m c))

theorem before_x (c : Dev nD) (d) : (dats m ρ 0 c).before (0 : Fin 2) t0_0 d = xs m c := by
  unfold Dat.before; rw [if_pos (fetch0_0 t0_0)]; rfl
theorem before_w (c : Dev nD) (d) : (dats m ρ 0 c).before (1 : Fin 2) t0_0 d = ws m c := by
  unfold Dat.before; rw [if_pos (fetch0_1 t0_0)]; rfl

theorem body_pre (c : Dev nD) : bodyPre' m ρ c ⊢ iprop(∃ (K : Dev nD × CK → ℕ) (κ : RK → ℕ), Bd m K κ c (E0 m c) (Z0 c 0) (Z0 c 1) (Z0 c 2) (Z0 c 3) 1) := by
  have hL : iprop(bigSep Finset.univ (LOut c)) ⊢ (bigSep Finset.univ (LOut c) : sProp 𝕄) := .rfl
  unfold bodyPre' Φ₀ start G' Bd E0 EX Ctx Rec
  iintro ⟨⟨⟨⟨%K, %κ, ⟨#HI, #HJ, #HR⟩, HL⟩, Hb, Hc, #Hlev, Ho⟩, HB⟩, HO, ⟨%d, Hx⟩, ⟨%d', Hw⟩⟩
  rw [before_x, before_w]
  unfold Dat.owesAt Pipeline.owesWithin stg
  icases HO with ⟨%W, %hW, HO⟩
  icases Hx with ⟨%fx, %hx, Hx⟩
  icases Hw with ⟨%fw, %hw, Hw⟩
  subst hx hw
  icases (dev_intro c) $$ [HL Hb Hc HB Ho] with ⟨⟨D1, D0, HBW⟩, Z0, Z1, Z2, Z3⟩
  · isplitr; · iexact HR
    isplitl [HL]; · iexact HL
    isplitl [Hb]; · iexact Hb
    isplitl [Hc]; · iexact Hc
    isplitl [HB]; · iexact HB
    iexact Ho
  iexists K; iexists κ
  isplitr
  · isplitr; · iexact HI
    isplitr; · iexact HJ
    isplitr; · iapply (show (Rall : sProp 𝕄) ⊢ bigSep Finset.univ (fun ck : Dev nD × CK => reached ER (kcell ck) 0) from .rfl); iexact HR
    iexact Hlev
  isplitl [Hx Hw D1 D0 HBW]
  · isplitl [Hx Hw]
    · isplitl [Hx]; · iexact Hx
      iexact Hw
    isplitl [D1]; · iexact D1
    isplitl [D0]; · iexact D0
    iexact HBW
  isplitl [Z0]; · iexact Z0
  isplitl [Z1]; · iexact Z1
  isplitl [Z2]; · iexact Z2
  isplitl [Z3]; · iexact Z3
  unfold Owes
  iexists W
  iexact HO

theorem body_post (c : Dev nD) : (Out m c : sProp 𝕄) ⊢ bodyPost m ρ c := by
  have hS : iprop(Sm c 0 ∗ Sm c 1 ∗ Sm c 2 ∗ Sm c 3) ⊢ (bigSep Finset.univ (Sm c) : sProp 𝕄) := Entails.of_eq (fin4 _).symm
  unfold Out bodyPost Φ₁ EX Owes
  rw [O_end]
  iintro ⟨⟨Hx, Hw⟩, Hb, HM, HS, ⟨%W, HO⟩⟩
  icases (dev_out m c) $$ HM with ⟨HB, HD⟩
  isplitl [Hb HS HB HD]
  · isplitl [Hb]; · iexact Hb
    isplitl [HS]; · iapply hS; iexact HS
    isplitl [HB]; · iexact HB
    iexact HD
  isplitl [HO]
  · unfold Dat.owesAt Pipeline.owesWithin
    rw [show (dats m ρ 0 c).owed t0_0.succ = 0 from rfl]
    iexists W
    isplitr; · ipureintro; exact fun _ _ => Or.inl trivial
    iexact HO
  unfold stg
  isplitl [Hx]
  · iexists _; isplitr; · (ipureintro; rfl)
    iexact Hx
  iexists _; isplitr; · (ipureintro; rfl)
  iexact Hw

theorem body_wp (c : Dev nD) (h0 : xM.IsWhole) (h1 : wM.IsWhole) (h2 : oM.IsWhole) (h3 : accB.IsWhole) (h4 : rcvB.IsWhole) (h5 : agB.IsWhole) (h6 : stB.IsWhole) :
    bodyPre' m ρ c ⊢ WP c (cc0_body xM h0 wM h1 oM h2 accB h3 rcvB h4 agB h5 stB h6 cc0_scratch4 cc0_scratch5 cc0_scratch6 cc0_scratch7 cc0_scratch8 cc0_scratch9 cc0_scratch10)
      (fun _ => bodyPost m ρ c) := by
  refine (body_pre m ρ c).trans ?_
  iintro ⟨%K, %κ, H⟩
  iapply (wp_mono _ _ _ (fun _ => body_post m ρ c))
  iapply (body_spec m K κ c h0 h1 h2 h3 h4 h5 h6)
  iexact H

theorem body_obligation (c : Dev nD) : BodyObligation (dats (F := F) m ρ 0 c) (defs₀ (F := F)) 𝒱₀ 0 Set.univ := fun t => by
  rw [fin_N0 t]
  rw [bigSep_W0, bigSep_W0]
  simp only [owns_stg]
  exact body_wp m ρ c (Memref.isWhole_whole _) (Memref.isWhole_whole _) (Memref.isWhole_whole _) (Memref.isWhole_whole _) (Memref.isWhole_whole _) (Memref.isWhole_whole _) (Memref.isWhole_whole _)

/-! ## The launch -/

def osem (x : Fin 4 × Fin 14) : SemLoc sig := csem (some x)

theorem ownSemFacts : Pipeline.OwnSemFacts cfg0.spec osem := by decide +kernel

theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), (initOf allCells allToks, initSlots Finset.univ 16))

def SlotG (c : Dev nD) : sProp 𝕄 := if c = 0 then BI.own (EL (initSlots Finset.univ 16)) else iprop(emp)

/-- What the launch element deals device `c`. -/
def G (c : Dev nD) : sProp 𝕄 :=
  iprop((bigSep Finset.univ fun k : CK => roundState ER (Rd m) (kcell (c, k)) 0)
    ∗ (bigSep Finset.univ fun k : CK => atPos ER (kcell (c, k)) 0 ∅ 0)
    ∗ (bigSep Finset.univ fun k : CK => reached ER (kcell (c, k)) 0) ∗ pays c ∗ SlotG c)

omit [FloatOps F] in
theorem slotG_in : BI.own (EL (initSlots Finset.univ 16)) ⊢ (bigSep Finset.univ (fun c : Dev nD => SlotG c) : sProp 𝕄) := by
  rw [bigSep_univ_at _ (0 : Dev nD), bigSep_congr (s := Finset.univ.erase (0 : Dev nD)) (Ψ := fun _ => (BI.emp : sProp 𝕄))
    (fun c hc => by unfold SlotG; rw [if_neg (Finset.ne_of_mem_erase hc)]; rfl), bigSep_emp_const]
  unfold SlotG
  rw [if_pos rfl]
  iintro H
  isplitl [H]; · iexact H
  iempintro
omit [FloatOps F] in
theorem slotG_out : (bigSep Finset.univ (fun c : Dev nD => SlotG c) : sProp 𝕄) ⊢ BI.own (EL (initSlots Finset.univ 16)) := by
  refine (bigSep_elim (Finset.mem_univ (0 : Dev nD))).trans ?_
  unfold SlotG
  rw [if_pos rfl]
  exact BI.Entails.refl _

theorem fund : BI.own ((embR : Emb (UC × USlots RK) 𝕄) (initOf allCells allToks, initSlots Finset.univ 16)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  iintro HX
  icases (show BI.own ((embR : Emb (UC × USlots RK) 𝕄) (initOf allCells allToks, initSlots Finset.univ 16))
    ⊢ (iprop(BI.own (ER (initOf allCells allToks)) ∗ BI.own (EL (initSlots Finset.univ 16))) : sProp 𝕄) from own_pair_emb _ _ _) $$ HX with ⟨HX, HS⟩
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq (toks_dealt (F := F))) $$ Htok
  ihave HS' := (slotG_in (F := F)) $$ HS
  unfold G; simp only [bigSep_sep']
  isplitl [Hst']; · iexact Hst'
  isplitl [Hat']; · iexact Hat'
  isplitl [Hr']; · iexact Hr'
  isplitl [Htok']; · iexact Htok'
  iexact HS'

omit [FloatOps F] in
theorem unscopedSems0_eq (c : Dev nD) : (unscopedSems0 c : sProp 𝕄) = semVal (kcell (c, none)) 0 := by
  unfold unscopedSems0; rw [bigSep_eq_bigSepL_of_eq [SemLoc.reg barS] (by decide) (by decide)]; rfl

omit [FloatOps F] in
theorem ownSems0_lanes (c : Dev nD) : (Pipeline.ownSems0 (Ix := ℕ) (Name := ℕ) (U := UU) (Lvl := ℕ) (Val := Elt F) (τ := τ) osem c : sProp 𝕄)
    = bigSep Finset.univ (fun l : Fin 4 => bigSep Finset.univ (fun k : Fin 14 => semVal (kcell (c, some (l, k))) 0)) := by
  unfold Pipeline.ownSems0; rw [bigSep_univ_prod]; rfl

omit [FloatOps F] in
theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : CK => semVal (kcell (c, k)) 0 : sProp 𝕄) := by
  rw [ownSems0_lanes, unscopedSems0_eq, ck_split]
  iintro ⟨H, HB⟩
  isplitl [HB]; · iexact HB
  iexact H

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (kcell (c, k))))
          ∗ (bigSep Finset.univ fun k : CK => atPos ER (kcell (c, k)) 0 ∅ 0)
          ∗ (bigSep Finset.univ fun k : CK => reached ER (kcell (c, k)) 0) ∗ pays c ∗ SlotG c) := by
  unfold G
  iintro ⟨Hos, Hus, Hst, Hrest⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd m) (kcell (c, k)) 0)
      ⊢ (|={Set.univ}=> bigSep Finset.univ fun k : CK => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  iexact Hrest

theorem regroup :
    (bigSep Finset.univ fun c : Dev nD => iprop((bigSep Finset.univ fun k : CK => iprop(∃ κ : ℕ, cellInv ER (Rd m) κ (kcell (c, k))))
          ∗ (bigSep Finset.univ fun k : CK => atPos ER (kcell (c, k)) 0 ∅ 0)
          ∗ (bigSep Finset.univ fun k : CK => reached ER (kcell (c, k)) 0) ∗ pays c ∗ SlotG c) : sProp 𝕄)
      ⊢ |={Set.univ}=> bigSep Finset.univ (G' m) := by
  have hL : iprop((bigSep Finset.univ fun c : Dev nD => bigSep Finset.univ fun k : CK => atPos ER (kcell (c, k)) 0 ∅ 0)
      ∗ (bigSep Finset.univ fun c : Dev nD => pays c)
      ∗ (bigSep Finset.univ fun c : Dev nD => bigSep Finset.univ fun x : WX => writeTok EL (dst x.1 c, x.1, m2 x.2.val) (x.2.val / 2 + 1))
      ∗ (bigSep Finset.univ fun c : Dev nD => bigSep Finset.univ fun x : Fin 4 × Fin 2 => readerAt EL (c, x.1, x.2) 0))
      ⊢ (bigSep Finset.univ (fun c : Dev nD => Lin c) : sProp 𝕄) := by
    unfold Lin; simp only [bigSep_sep']; exact .rfl
  have hr : bigSep (Finset.univ : Finset RK) (fun k => readerAt EL k 0)
      ⊢ (bigSep Finset.univ fun c : Dev nD => bigSep Finset.univ fun x : Fin 4 × Fin 2 => readerAt EL (c, x.1, x.2) 0 : sProp 𝕄) :=
    Entails.of_eq (bigSep_univ_prod _)
  rw [bigSep_sep', bigSep_sep', bigSep_sep', bigSep_sep', ← bigSep_univ_prod (fun ck : Dev nD × CK => iprop(∃ κ : ℕ, cellInv ER (Rd m) κ (kcell ck))),
    ← bigSep_univ_prod (fun ck : Dev nD × CK => (reached ER (kcell ck) 0 : sProp 𝕄))]
  iintro ⟨HI, Hat, #HR, Htok, HS⟩
  ihave HK := (BI.bigSep_exists_pi Finset.univ (fun (ck : Dev nD × CK) (κ : ℕ) => (cellInv ER (Rd m) κ (kcell ck) : sProp 𝕄))) $$ HI
  icases HK with ⟨%K, #HI⟩
  ihave HS' := (slotG_out (F := F)) $$ HS
  imod (slots_init EL (Finset.univ : Finset RK) 16 slotS) $$ HS' with ⟨%κ, -, #HJ, Hrd, Hwr⟩
  imodintro
  iapply (with_persistent (R := Rec m K κ) (Φ := fun c : Dev nD => Lin c) fun c _ => show iprop(Rec m K κ ∗ Lin c) ⊢ G' m c by
    unfold G'; iintro H; iexists K; iexists κ; iexact H)
  isplitr
  · unfold Rec; isplitr; · iexact HI
    isplitr; · iexact HJ
    unfold Rall; iexact HR
  · iapply hL
    isplitl [Hat]; · iexact Hat
    isplitl [Htok]; · iexact Htok
    isplitl [Hwr]; · iapply writes_dealt; iexact Hwr
    iapply hr; iexact Hrd

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  (((bigSep_mono fun c _ => core_alloc m c).trans (bigSep_fupd _ _)).trans (BI.fupd_mono (regroup m))).trans (show iprop(|={Set.univ}=> |={Set.univ}=> bigSep Finset.univ (G' m)) ⊢ (|={Set.univ}=> bigSep Finset.univ (G' m) : sProp 𝕄) from fupd_trans)

/-! ### The side conditions -/

theorem start_intro (c : Dev nD) :
    iprop(Pipeline.unscopedRestP Pipeline.Prefetch.none cfg0.spec c (fun b => m ((c : Thread nD τ).loc b)) ∗ levAts L lv
        ∗ Pipeline.launchCred (fun d => O d 1) c ∗ prngReg c (ρ c) ∗ G' m c)
      ⊢ |={Set.univ}=> iprop(start m c ∗ emp) := by
  rw [Pipeline.unscopedRestP_none, unscopedRest0_eq]
  iintro ⟨Hm, Hlev, Hcr, -, HG⟩
  icases (creds c) $$ Hcr with ⟨H1, HN⟩
  imodintro
  unfold start
  isplitl
  · isplitl [HG]; · iexact HG
    isplitl [H1]; · iexact H1
    isplitl [HN]; · iexact HN
    isplitl [Hlev]; · iexact Hlev
    iapply (show (bigSep Finset.univ (fun l : Fin 4 => bigSep (Finset.range 32) (fun k => outTodo c l k)) : sProp 𝕄) ⊢ bigSep Finset.univ (LOut c) from .rfl)
    iapply splitO; iexact Hm
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ Bufs
  iintro ⟨Hs, -, Hr⟩
  isplitl [Hs]; · iexact Hs
  iexact Hr

theorem phi1_exit (c : Dev nD) :
    (dats m ρ 0 c).Φ (Fin.last cfg0.N) ⊢ iprop((unscopedSems0 c ∗ bigSep Finset.univ (LDone m c)) ∗ Pipeline.ownSems0 osem c ∗ Pipeline.scopedRest cfg0.spec c) := by
  rw [show (dats m ρ 0 c).Φ (Fin.last cfg0.N) = Φ₁ m c from rfl, scopedRest0_eq, ownSems0_lanes, unscopedSems0_eq]
  unfold Φ₁ Bufs
  iintro ⟨Hb, HS, HB, HD⟩
  isplitl [Hb HD]
  · isplitl [Hb] <;> iassumption
  isplitl [HS]
  · iapply (show (bigSep Finset.univ (Sm c) : sProp 𝕄) ⊢ bigSep Finset.univ (fun l : Fin 4 => bigSep Finset.univ (fun k : Fin 14 => semVal (kcell (c, some (l, k))) 0)) from .rfl)
    iexact HS
  iexact HB

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait c _ (j := 0) (p := 1) (by omega) (by omega)
    · have h := mayWait (F := F) c (.dma ((cfg0.win w).sem s)) (j := 0) (p := 1008) (by omega) (by omega)
      rw [O_end] at h
      exact h

/-! ### The run -/

def finalA (c : Dev nD) (w : Fin cfg0.W) : Buf (Elt F) ((cfg0.win w).arr.view.loc (c : Thread nD τ)) := (dats m ρ 0 c).arrAt w cfg0.N

/-- What a finished run has: the inputs as they were and every device's result at the values the kernel computes. -/
def QC : PUnit × MemSt nD τ sig (Elt F) → Prop := fun r =>
  ∀ c : Dev nD, (∀ w : Fin cfg0.W, r.2.mem ((cfg0.win w).arr.view.loc (c : Thread nD τ)) = finalA m ρ c w) ∧ OutOk m c r.2

set_option maxRecDepth 8000 in
/-- Every weakly fair execution of the 32 kernels ends, with every semaphore counter at zero, the inputs as they were and
    every device's result as computed. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => O d 1) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => iprop(unscopedSems0 c ∗ bigSep Finset.univ (LDone m c))) (Z := fun _ => iprop(emp))
    (hX := start_intro m ρ) (hin := phi0_intro m ρ) (hout := phi1_exit m ρ)
    (QY := fun c s => OutOk m c s ∧ ∀ sm : SemLoc sig, sm.isScoped .tc = false → s.sem ((c.tc : Thread nD τ), sm) = 0)
    (hY := fun c s' => by
      iintro ⟨⟨Hu, HD⟩, -, HSI⟩
      icases (read_tiles m c s') $$ [HD HSI] with ⟨%h, HSI⟩
      · isplitl [HD]
        · iapply (show (bigSep Finset.univ (LDone m c) : sProp 𝕄) ⊢ bigSep Finset.univ (fun l : Fin 4 => bigSep (Finset.range 32) (fun k => outDone m c l k)) from .rfl)
          iexact HD
        · iexact HSI
      imod (Pipeline.unscopedSems0_read (X := unscopedSems0 c) (c := c) fupd_intro s') $$ [Hu HSI] with ⟨%h', HSI⟩
      · isplitl [Hu] <;> iassumption
      imodintro
      isplitr; · ipureintro; exact ⟨h, h'⟩
      iexact HSI)
    (hQ := fun _ h hs => ⟨fun c => ⟨fun w => (h c).1 w, (h c).2.2.1⟩, sem_eq_zero hs fun c => (h c).2.2.2⟩)

theorem finalA_x (c : Dev nD) : finalA m ρ c (0 : Fin 2) = (s₀ m ρ).mem (win0_0.arr.view.loc (c : Thread nD τ)) :=
  (dats (F := F) m ρ 0 c).arrAt_in (0 : Fin 2) rfl _
theorem finalA_w (c : Dev nD) : finalA m ρ c (1 : Fin 2) = (s₀ m ρ).mem (win0_1.arr.view.loc (c : Thread nD τ)) :=
  (dats (F := F) m ρ 0 c).arrAt_in (1 : Fin 2) rfl _

end Cert.KernelIdealProof
-- ==== Proof.KernelIdealValue.lean ====
/-
  The values: what each lane holds at each step, as sums of the devices' products, and the result at every entry.
-/
module

public import proofs.«01_k».proof.Proof.KernelIdealMem
public import Idealize.ShloMosaic.Lib.Pipeline.Value
public import Idealize.ShloMosaic.Lib.MatmulPlain
public import Idealize.ShloMosaic.Lib.IdealHost
public import Idealize.ShloMosaic.Lib.ValueIdx

@[expose] public section

noncomputable section

namespace Cert.KernelIdealProof

open Cert.KernelIdeal Cert.KernelIdeal.Gen Idealize.ShloMosaic TcCoe Rounds Release Idealize.SL RA BI BI.BIBase BI.Laws ProofMode Idealize.SL.Sem
open scoped Idealize.SL.BI
open Pipeline (Dat Cfg Window BodyObligation cellOf)

variable (X : (ℓ : Loc nD τ sig) → Buf (Elt Ideal) ℓ)
open Idealize.ShloMosaic.ValueIdx

/-! ### Entries -/

/-- Device `c`'s blocks of `x` and of `w` in its argument arrays. -/
def xe (c : Dev nD) : S8192x256.Idx → EReal := X ((c : Thread nD τ).loc main_arg0)
def we (c : Dev nD) : S256x4096.Idx → EReal := X ((c : Thread nD τ).loc main_arg1)

/-- Entry `(r, q)` of device `c`'s product of its whole `x` and `w` blocks. -/
def part (c : Dev nD) (r : Fin 8192) (q : Fin 4096) : EReal :=
  ∑ k : Fin 256, xe X c (ix2 r k) * we X c (ix2 k q)
/-- The same at a row block, a column block and an entry of the tile. -/
def tile (c : Dev nD) (l : Fin 4) (k : ℕ) (i : S256x1024.Idx) : EReal :=
  part X c ⟨256 * (k % 32) + (i 0).val, by have := (i 0).isLt; change (i 0).val < 256 at this; have := Nat.mod_lt k (show 0 < 32 by decide); omega⟩
    ⟨1024 * l.val + (i 1).val, by have := (i 1).isLt; change (i 1).val < 1024 at this; have := l.isLt; omega⟩

/-- The kernel's activation of an entry. -/
def silu (y : EReal) : EReal := Ideal.div y (1 + Ideal.exp (-y))

theorem silu_eq (y : EReal) : y * Ideal.div 1 (1 + Ideal.exp (0 - y)) = silu y := by
  have hp : (0 : EReal) < 1 + Ideal.exp (-y) := by
    have h0 : (0 : EReal) ≤ Ideal.exp (-y) := by
      generalize -y = z
      induction z with
      | bot => simp
      | top => simp
      | coe r => rw [Ideal.exp_coe]; exact_mod_cast (Real.exp_pos r).le
    exact lt_of_lt_of_le (by exact_mod_cast one_pos) (le_add_of_nonneg_right h0)
  rw [silu, zero_sub, Ideal.div, Ideal.div, if_neg hp.ne', if_neg hp.ne', one_mul]

set_option maxRecDepth 20000 in
theorem xrow_apply (c : Dev nD) (k : ℕ) (r : Fin 256) (j : Fin 256) (h : 256 * (k % 32) + r.val < 8192) :
    xrow X c k (ix2 r j) = xe X c (ix2 ⟨256 * (k % 32) + r.val, h⟩ j) := by
  show xe X c _ = _
  congr 1
  funext a; apply Fin.ext
  have hz : (win0_0.rect (0 : Fin 1)).off a = 0 := by revert a; decide
  show (win0_0.rect (0 : Fin 1)).off a + (win0_0.rect (0 : Fin 1)).stride a * ((rx k).off a + (rx k).stride a * (ix2 r j a).val) = _
  rw [hz]
  match a with
  | ⟨0, _⟩ => show 0 + 1 * (256 * (k % 32) + 1 * r.val) = 256 * (k % 32) + r.val; omega
  | ⟨1, _⟩ => show 0 + 1 * (0 + 1 * j.val) = j.val; omega

set_option maxRecDepth 20000 in
theorem wcol_apply (c : Dev nD) (l : Fin 4) (j : Fin 256) (q : Fin 1024) (h : 1024 * l.val + q.val < 4096) :
    wcol X c l (ix2 j q) = we X c (ix2 j ⟨1024 * l.val + q.val, h⟩) := by
  show we X c _ = _
  congr 1
  funext a; apply Fin.ext
  have hz : (win0_1.rect (0 : Fin 1)).off a = 0 := by revert a; decide
  show (win0_1.rect (0 : Fin 1)).off a + (win0_1.rect (0 : Fin 1)).stride a * ((rw_ l).off a + (rw_ l).stride a * (ix2 j q a).val) = _
  rw [hz]
  match a with
  | ⟨0, _⟩ => show 0 + 1 * (0 + 1 * j.val) = j.val; omega
  | ⟨1, _⟩ => show 0 + 1 * (1024 * l.val + 1 * q.val) = 1024 * l.val + q.val; omega

abbrev dt : DotDims S256x256 S256x1024 S256x1024 := dot_S256x256_S256x1024_S256x1024_1_0_0_1_n_n

theorem mm_tile (c : Dev nD) (l : Fin 4) (k : ℕ) :
    Ideal.matmul dt (xrow X c k) (wcol X c l) (fun _ => 0) = tile X c l k := by
  funext i
  have h0 : (i 0).val < 256 := (i 0).isLt
  have h1 : (i 1).val < 1024 := (i 1).isLt
  have hm := Nat.mod_lt k (show 0 < 32 by decide)
  have hl := l.isLt
  have := Ideal.matmul_plain_apply (M := 256) (K := 256) (N := 1024) (φ₁ := .bf16) (φ₂ := .bf16) none (xrow X c k) (wcol X c l) (fun _ => 0) (i 0) (i 1)
  rw [show (ix2 (i 0) (i 1) : S256x1024.Idx) = i from by funext a; match a with | ⟨0, _⟩ => rfl | ⟨1, _⟩ => rfl] at this
  refine (show _ = _ from this).trans ?_
  rw [zero_add]
  unfold tile part
  refine Finset.sum_congr rfl fun j _ => ?_
  rw [xrow_apply X c k (i 0) j (by omega), wcol_apply X c l j (i 1) (by omega)]

/-! ### A lane's payloads as functions of the entries -/

/-- A slot's contents as a tile. -/
abbrev flat {e : EltTy} (v : S1x1x256x1024.Idx → Elt Ideal e) : S256x1024.Idx → Elt Ideal e := shapeCast S256x1024 v shapeCasts_S1x1x256x1024_S256x1024

theorem flat_cast {α : Type} (v : S256x1024.Idx → α) :
    shapeCast S256x1024 (shapeCast S1x1x256x1024 v shapeCasts_S256x1024_S1x1x256x1024) shapeCasts_S1x1x256x1024_S256x1024 = v :=
  shapeCast_shapeCast v _ _

theorem zero_acc : (constant S256x1024 .f32 0x00000000#32 : FVec Ideal S256x1024 .f32) = fun _ => (0 : EReal) :=
  funext fun _ => Ideal.ofBits_zero_f32

theorem mmV_eq (l : Fin 4) (x : Vec Ideal S256x256 .bf16) (w : Vec Ideal S256x1024 .bf16) :
    mmV l x w = Ideal.matmul dt x w (fun _ => 0) := by
  rw [← zero_acc]
  fin_cases l <;> simp only [mmV, k0_pay1, k0_pay2, k0_pay3, k0_pay4, k0_pay5, k0_pay6, shapeCast_self] <;> rfl

theorem accInit_eq (l : Fin 4) (x : Vec Ideal S256x256 .bf16) (w : Vec Ideal S256x1024 .bf16) :
    flat (accInit l x w) = Ideal.matmul dt x w (fun _ => 0) := by
  rw [← zero_acc]
  fin_cases l <;> simp only [accInit, k0_pay15, k0_pay16, k0_pay17, k0_pay18, k0_pay19, shapeCast_self, flat, flat_cast] <;> rfl

theorem accStep_eq (l : Fin 4) (y : FVec Ideal S256x1024 .f32) (a : Vec Ideal S1x1x256x1024 .bf16) :
    flat (accStep l y a) = fun i => ((flat a i : EReal) + y i : EReal) := by
  fin_cases l <;> simp only [accStep, k0_pay7, k0_pay8, k0_pay9, k0_pay10, k0_pay20, flat, flat_cast] <;> rfl

theorem act_eq (v : Vec Ideal S256x1024 .bf16) :
    (mulf (extf .f32 v bitsLt_bf16_f32) (divf (broadcast S256x1024 (Scalar.ofBits .f32 0x3F800000#32))
      (addf (broadcast S256x1024 (Scalar.ofBits .f32 0x3F800000#32)) (exp (subf (broadcast S256x1024 (Scalar.ofBits .f32 0x00000000#32)) (extf .f32 v bitsLt_bf16_f32))))) : FVec Ideal S256x1024 .f32)
      = fun i => silu (v i) := by
  funext i
  show (v i : EReal) * Ideal.div (Ideal.ofBits .f32 0x3F800000#32) (Ideal.ofBits .f32 0x3F800000#32 + Ideal.exp (Ideal.ofBits .f32 0x00000000#32 - v i)) = _
  rw [Ideal.ofBits_one_f32, Ideal.ofBits_zero_f32, silu_eq]

theorem stInit_eq (l : Fin 4) (a : Vec Ideal S1x1x256x1024 .bf16) : flat (stInit l a) = fun i => silu (flat a i) := by
  rw [← act_eq]
  fin_cases l <;> simp only [stInit, k0_pay21, k0_pay23, k0_pay24, k0_pay26, k0_pay27, k0_pay29, k0_pay30, k0_pay32, flat, flat_cast]
theorem agInit_eq (l : Fin 4) (a : Vec Ideal S1x1x256x1024 .bf16) : flat (agInit l a) = fun i => silu (flat a i) := by
  rw [← act_eq]
  fin_cases l <;> simp only [agInit, k0_pay21, k0_pay22, k0_pay24, k0_pay25, k0_pay27, k0_pay28, k0_pay30, k0_pay31, flat, flat_cast] <;> rfl
theorem stStep_eq (l : Fin 4) (a : Vec Ideal S1x1x256x1024 .bf16) : flat (stStep l a) = flat a := by
  fin_cases l <;> simp only [stStep, k0_pay11, k0_pay12, k0_pay13, k0_pay14, k0_pay33, flat, flat_cast] <;> rfl

/-! ### The ring -/

theorem src_iter (l : Fin 4) (t : ℕ) (c : Dev nD) : ((src l)^[t] c).val = (c.val + (if rgt l then 31 else 1) * t) % 32 := by
  induction t generalizing c with
  | zero => exact (Nat.mod_eq_of_lt c.isLt).symm
  | succ t ih =>
    rw [Function.iterate_succ_apply, ih]
    show ((if (!(rgt l)) then c.val + 1 else c.val + 31) % 32 + _) % 32 = _
    cases rgt l <;> simp <;> omega

/-- The row block lane `l` of device `c` holds before step `s`. -/
def held (l : Fin 4) (s : ℕ) (c : Dev nD) : ℕ := if rgt l then c.val + 64 - s else c.val + s

theorem tile_mod (c : Dev nD) (l : Fin 4) {k k' : ℕ} (h : k % 32 = k' % 32) : tile X c l k = tile X c l k' := by
  funext i; simp only [tile, h]

theorem acc_flat (l : Fin 4) (s : ℕ) (hs : s < 32) (c : Dev nD) :
    flat (accV X l s c) = fun i => ∑ t ∈ Finset.range (s + 1), tile X ((src l)^[t] c) l (held l s c) i := by
  induction s generalizing c with
  | zero =>
    funext i
    rw [accV, accInit_eq, mm_tile, Finset.sum_range_one, tile_mod X c l (show c.val % 32 = held l 0 c % 32 by unfold held; split <;> omega)]; rfl
  | succ s ih =>
    funext i
    rw [accV, accStep_eq, mmV_eq, mm_tile, ih (by omega), Finset.sum_range_succ']
    refine congrArg₂ (· + ·) (Finset.sum_congr rfl fun t _ => ?_) ?_
    · rw [Function.iterate_succ_apply, tile_mod X _ l (show held l s (src l c) % 32 = held l (s + 1) c % 32 from ?_)]
      have h := src_iter l 1 c
      have hc := c.isLt
      change c.val < 32 at hc
      rw [Function.iterate_one] at h
      unfold held; rw [h]; cases rgt l <;> simp <;> omega
    · rw [tile_mod X c l (show rsRow l c s % 32 = held l (s + 1) c % 32 by unfold rsRow held; cases rgt l <;> simp <;> omega)]; rfl

theorem around (l : Fin 4) (c : Dev nD) (f : Dev nD → EReal) : ∑ t ∈ Finset.range 32, f ((src l)^[t] c) = ∑ d : Dev nD, f d := by
  rw [Finset.sum_range]
  refine Fintype.sum_bijective (fun t : Fin 32 => (src l)^[t.val] c) ((Finite.injective_iff_bijective (α := Fin 32)).mp fun t t' h => ?_) _ _ fun _ => rfl
  have h := congrArg Fin.val h
  simp only [src_iter] at h
  apply Fin.ext
  have := t.isLt; have := t'.isLt
  cases hr : rgt l <;> simp only [hr] at h <;> simp at h <;> omega

theorem agV_eq (l : Fin 4) (t : ℕ) (c : Dev nD) : agV X l t c = agInit l (accV X l 31 ((src l)^[t] c)) := by
  induction t generalizing c with
  | zero => rfl
  | succ t ih => rw [agV, ih]; rfl

theorem out_flat (l : Fin 4) (c : Dev nD) (k : ℕ) (hk : k < 32) :
    flat (outV X l c k) = fun i => silu (∑ d : Dev nD, tile X d l (outRow l c k) i) := by
  have e : flat (outV X l c k) = fun i => silu (flat (accV X l 31 ((src l)^[k] c)) i) := by
    cases k with
    | zero => exact stInit_eq ..
    | succ k => rw [outV, stStep_eq, agV_eq, agInit_eq]
  rw [e]
  funext i
  rw [acc_flat X l 31 (by decide)]
  show silu (∑ t ∈ Finset.range 32, tile X ((src l)^[t] ((src l)^[k] c)) l (held l 31 ((src l)^[k] c)) i) = _
  rw [around l _ fun d => tile X d l (held l 31 ((src l)^[k] c)) i]
  congr 1
  refine Finset.sum_congr rfl fun d _ => ?_
  rw [tile_mod X d l (show held l 31 ((src l)^[k] c) % 32 = outRow l c k % 32 from ?_)]
  unfold held outRow; rw [src_iter]
  have hc := c.isLt
  change c.val < 32 at hc
  cases rgt l <;> simp <;> omega

/-! ### The whole result -/

/-- Every device's result at an entry. -/
theorem out_entry (c : Dev nD) (s : MemSt nD τ sig (Elt Ideal)) (h : OutOk X c s) (r : Fin 8192) (q : Fin 4096) :
    s.mem ((c : Thread nD τ).loc main_v1) (ix2 r q) = silu (∑ d : Dev nD, part X d r q) := by
  have hr := r.isLt
  have hq := q.isLt
  have hc := c.isLt
  change c.val < 32 at hc
  let l : Fin 4 := ⟨q.val / 1024, by omega⟩
  let k : ℕ := (if rgt l then c.val + 33 - r.val / 256 else r.val / 256 + 33 - c.val) % 32
  have hk : k < 32 := Nat.mod_lt _ (by decide)
  have ho : outRow l c k % 32 = r.val / 256 := by
    show (if rgt l then c.val + 33 - k else c.val + 31 + k) % 32 = _
    simp only [k]; cases rgt l <;> simp <;> omega
  have e := congrFun ((h l k hk).trans (out_flat X l c k hk)) (ix2 ⟨r.val % 256, Nat.mod_lt _ (by decide)⟩ ⟨q.val % 1024, Nat.mod_lt _ (by decide)⟩)
  refine Eq.trans (congrArg (s.mem ((c : Thread nD τ).loc main_v1)) ?_) (e.trans ?_)
  · funext a; apply Fin.ext
    show _ = (ro (outRow l c k) l).off a + 1 * (ix2 (n0 := 256) (n1 := 1024) ⟨r.val % 256, Nat.mod_lt _ (by decide)⟩ ⟨q.val % 1024, Nat.mod_lt _ (by decide)⟩ a).val
    match a with
    | ⟨0, _⟩ => show r.val = 256 * (outRow l c k % 32) + 1 * (r.val % 256); omega
    | ⟨1, _⟩ => show q.val = 1024 * (q.val / 1024) + 1 * (q.val % 1024); omega
  · congr 1
    refine Finset.sum_congr rfl fun d _ => ?_
    unfold tile
    congr 1 <;> apply Fin.ext <;> simp [ho, l] <;> omega

end Cert.KernelIdealProof
-- ==== Proof.lean ====
/-
  The certificate's claim: the two readings of the kernel and the reference run, and every device's result is the
  reference's.
-/
module

public import proofs.«01_k».proof.Defs
public import proofs.«01_k».proof.Proof.KernelRun
public import proofs.«01_k».proof.Proof.KernelIdealRun
public import proofs.«01_k».proof.Proof.KernelIdealValue
public import proofs.«01_k».proof.Proof.Gen.ReferenceIdeal
public import proofs.«01_k».proof.Proof.Gen.ReferenceIdeal.Run
public import proofs.«01_k».proof.Proof.Gen.ReferenceClipIdeal
public import proofs.«01_k».proof.Proof.Gen.ReferenceClipIdeal.Run
public import proofs.«01_k».proof.Proof.Gen.On_unclipped
public import Idealize.ShloMosaic.Lib.Quiescent

@[expose] public section

noncomputable section

namespace Cert.Proof

open Idealize.ShloMosaic Idealize.ShloMosaic.TcCoe Idealize.ShloMosaic.ValueIdx Idealize.SL.Sem
open Cert.KernelIdealProof (silu part)

/-! ## The reference at an entry -/

/-- An entry of the product of the two whole arrays. -/
def dot (x : FVec Ideal Cert.ReferenceIdeal.S8192x8192 .bf16) (w : FVec Ideal Cert.ReferenceIdeal.S8192x4096 .bf16)
    (i : Cert.ReferenceIdeal.S8192x4096.Idx) : EReal :=
  ∑ k : Fin 8192, (x (ix2 (i 0) k) : EReal) * (w (ix2 k (i 1)) : EReal)

/-- The reference's result from its two arrays. -/
def ref (x : FVec Ideal Cert.ReferenceIdeal.S8192x8192 .bf16) (w : FVec Ideal Cert.ReferenceIdeal.S8192x4096 .bf16) :
    Cert.ReferenceIdeal.S8192x4096.Idx → EReal :=
  fun i => silu (dot x w i)

open Cert.ReferenceIdeal Cert.ReferenceIdeal.Gen in
set_option maxRecDepth 40000 in
theorem host_dot (x : FVec Ideal S8192x8192 .bf16) (w : FVec Ideal S8192x4096 .bf16) (i : S8192x4096.Idx) :
    Ideal.matmul dot_S8192x8192_S8192x4096_S8192x4096_1_0_0_1_n_n x w (fun _ => (0 : EReal)) i = dot x w i := by
  have e := Ideal.matmul_plain_apply (M := 8192) (K := 8192) (N := 4096) (φ₁ := .bf16) (φ₂ := .bf16) none x w (fun _ => (0 : EReal)) (i 0) (i 1)
  rw [show (ix2 (i 0) (i 1) : S8192x4096.Idx) = i from by funext a; match a with | ⟨0, _⟩ => rfl | ⟨1, _⟩ => rfl, zero_add] at e
  exact e

open Cert.ReferenceIdeal Cert.ReferenceIdeal.Gen in
set_option maxRecDepth 40000 in
theorem ref_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v7) = ref (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
    funext i
    refine Eq.trans ?_ (congrArg silu (host_dot (m ((c.tc : Thread nD τ).loc main_arg0)) (m ((c.tc : Thread nD τ).loc main_arg1)) i))
    unfold silu
    rw [← Ideal.ofBits_one_f32]
    rfl), (h c).2⟩) (Cert.ReferenceIdeal.Value.run m g)

/-- The two ends of the clip. -/
def lo : EReal := Ideal.ofBits .f32 0xC2700000#32
def hi : EReal := Ideal.ofBits .f32 0x42700000#32

open Cert.ReferenceClipIdeal Cert.ReferenceClipIdeal.Gen in
set_option maxRecDepth 40000 in
/-- The clipped reference at an entry. -/
theorem clip_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      (r.2.mem ((c.tc : Thread nD τ).loc main_v8) = fun i =>
        let y := dot (m ((c.tc : Thread nD τ).loc main_arg0)) (m ((c.tc : Thread nD τ).loc main_arg1)) i
        Ideal.div y (1 + Ideal.exp (-(min hi (max lo y)))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
    funext i
    refine Eq.trans ?_ (congrArg (fun y : EReal => Ideal.div y (1 + Ideal.exp (-(min hi (max lo y)))))
      (host_dot (m ((c.tc : Thread nD τ).loc main_arg0)) (m ((c.tc : Thread nD τ).loc main_arg1)) i))
    unfold lo hi
    rw [← Ideal.ofBits_one_f32]
    rfl), (h c).2⟩) (Cert.ReferenceClipIdeal.Value.run m g)

instance : Cert.On_unclipped.Facts := Cert.On_unclipped.Gen.facts

set_option maxRecDepth 40000 in
/-- Where the mask is set the product lies between the two ends. -/
theorem mask_bounds (x : FVec Ideal Cert.ReferenceIdeal.S8192x8192 .bf16) (w : FVec Ideal Cert.ReferenceIdeal.S8192x4096 .bf16)
    (i : Cert.ReferenceIdeal.S8192x4096.Idx) (h : Cert.On_unclipped.fn (F := Ideal) x w i = 1#1) : lo ≤ dot x w i ∧ dot x w i ≤ hi := by
  have e : Ideal.cmp .oge (dot x w i) lo &&& Ideal.cmp .ole (dot x w i) hi = 1#1 := by
    rw [← host_dot]
    exact h
  revert e
  by_cases h1 : lo ≤ dot x w i <;> by_cases h2 : dot x w i ≤ hi <;> simp [Ideal.cmp, h1, h2]

/-- A long dot is the sum of the devices' short ones. -/
theorem sum_devices (f : Fin 8192 → EReal) :
    ∑ d : Fin 32, ∑ k : Fin 256, f ⟨d.val * 256 + k.val, by have := d.isLt; have := k.isLt; omega⟩ = ∑ k : Fin 8192, f k := by
  rw [← Equiv.sum_comp (finProdFinEquiv (m := 32) (n := 256)) f, Fintype.sum_prod_type]
  refine Finset.sum_congr rfl fun d _ => Finset.sum_congr rfl fun k _ => congrArg f (Fin.ext ?_)
  show d.val * 256 + k.val = k.val + 256 * d.val
  omega

/-! ## The readings run -/

theorem kernel_frame : quiescent_Kernel (hKernel := Cert.Kernel.Gen.facts) := fun m g _ =>
  (θ_run (Cert.Kernel.defs (F := Bits)) _ _).mono (fun _ h => ⟨fun c =>
    ⟨((h.1 c).1 (0 : Fin 2)).trans (Cert.KernelProof.finalA_x m g c), ((h.1 c).1 (1 : Fin 2)).trans (Cert.KernelProof.finalA_w m g c)⟩, h.2⟩)
    (Cert.KernelProof.run_main m g)

theorem kernelIdeal_frame : quiescent_KernelIdeal (hKernelIdeal := Cert.KernelIdeal.Gen.facts) := fun m g _ =>
  (θ_run (Cert.KernelIdeal.defs (F := Ideal)) _ _).mono (fun _ h => ⟨fun c =>
    ⟨((h.1 c).1 (0 : Fin 2)).trans (Cert.KernelIdealProof.finalA_x m g c), ((h.1 c).1 (1 : Fin 2)).trans (Cert.KernelIdealProof.finalA_w m g c)⟩, h.2⟩)
    (Cert.KernelIdealProof.run_main m g)

theorem reference_frame : quiescent_ReferenceIdeal (hReferenceIdeal := Cert.ReferenceIdeal.Gen.facts) := fun m g _ =>
  (θ_run (Cert.ReferenceIdeal.defs (F := Ideal)) _ _).mono (fun r h => ⟨fun c => (h c).2, sem_eq_zero_of_no_sems (by decide) r.2⟩) (ref_run m g)

theorem clip_frame : quiescent_ReferenceClipIdeal (hReferenceClipIdeal := Cert.ReferenceClipIdeal.Gen.facts) := fun m g _ =>
  (θ_run (Cert.ReferenceClipIdeal.defs (F := Ideal)) _ _).mono (fun r h => ⟨fun c => (h c).2, sem_eq_zero_of_no_sems (by decide) r.2⟩) (clip_run m g)

/-! ## The values agree -/

open Cert.KernelIdeal in
/-- Every device ends with the reference's result of the whole arrays its blocks are cut from. -/
theorem kernel_run (m : (ℓ : Loc nD τ sig) → Buf (Elt Ideal) ℓ) (g : Dev nD → PrngReg)
    (x : FVec Ideal Cert.ReferenceIdeal.S8192x8192 .bf16) (w : FVec Ideal Cert.ReferenceIdeal.S8192x4096 .bf16)
    (hb : ∀ c : Dev nD, m ((c.tc : Thread nD τ).loc main_arg0) = Layout.block ⟨2, ![8192, 256]⟩ ⟨2, ![8192, 8192]⟩ 1 32 c x
      ∧ m ((c.tc : Thread nD τ).loc main_arg1) = Layout.block ⟨2, ![256, 4096]⟩ ⟨2, ![8192, 4096]⟩ 0 32 c w) :
    θ_run (defs (F := Ideal)) (onTc (τ := τ) (main (F := Ideal))) ⟨m, fun _ => 0, g⟩ fun r => ∀ c : Dev nD,
      r.2.mem ((c.tc : Thread nD τ).loc main_v1) = ref x w
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run (defs (F := Ideal)) _ _).mono (fun r h c => ⟨?_,
    ((h.1 c).1 (0 : Fin 2)).trans (Cert.KernelIdealProof.finalA_x m g c), ((h.1 c).1 (1 : Fin 2)).trans (Cert.KernelIdealProof.finalA_w m g c)⟩)
    (Cert.KernelIdealProof.run_main m g)
  funext i
  have e := Cert.KernelIdealProof.out_entry m c r.2 (h.1 c).2 (i 0) (i 1)
  refine Eq.trans (congrArg _ ?_) (e.trans (congrArg silu ?_))
  · funext a; match a with | ⟨0, _⟩ => rfl | ⟨1, _⟩ => rfl
  unfold dot
  rw [← sum_devices]
  refine Finset.sum_congr rfl fun d _ => Finset.sum_congr rfl fun k _ => ?_
  unfold Cert.KernelIdealProof.xe Cert.KernelIdealProof.we
  refine congrArg₂ (fun a b : EReal => a * b) ((congrFun (hb d).1 _).trans (congrArg x ?_)) ((congrFun (hb d).2 _).trans (congrArg w ?_)) <;>
    (funext a; match a with | ⟨0, _⟩ => rfl | ⟨1, _⟩ => rfl)

theorem values_agree : algebraic_KernelIdeal_ReferenceIdeal (hKernelIdeal := Cert.KernelIdeal.Gen.facts) (hReferenceIdeal := Cert.ReferenceIdeal.Gen.facts) :=
  fun m g m' g' _ hb => ⟨_, kernel_run m g _ _ hb, (θ_run (Cert.ReferenceIdeal.defs (F := Ideal)) _ _).mono (fun _ h => h 0) (ref_run m' g')⟩

set_option maxRecDepth 40000 in
theorem values_agree_clip : algebraic_KernelIdeal_ReferenceClipIdeal_on_unclipped (hKernelIdeal := Cert.KernelIdeal.Gen.facts)
    (hReferenceClipIdeal := Cert.ReferenceClipIdeal.Gen.facts) (hOn_unclipped := Cert.On_unclipped.Gen.facts) :=
  fun m g m' g' _ hb => by
    refine ⟨ref (m' (((0 : Dev Cert.ReferenceClipIdeal.nD).tc : Thread Cert.ReferenceClipIdeal.nD Cert.ReferenceClipIdeal.τ).loc Cert.ReferenceClipIdeal.main_arg0))
      (m' (((0 : Dev Cert.ReferenceClipIdeal.nD).tc : Thread Cert.ReferenceClipIdeal.nD Cert.ReferenceClipIdeal.τ).loc Cert.ReferenceClipIdeal.main_arg1)), (θ_run (Cert.KernelIdeal.defs (F := Ideal)) _ _).mono (fun r h c => ⟨fun i _ => congrFun (h c).1 i, (h c).2⟩)
      (kernel_run m g _ _ hb), (θ_run (Cert.ReferenceClipIdeal.defs (F := Ideal)) _ _).mono (fun r h => ⟨fun i hi => ?_, (h 0).2⟩) (clip_run m' g')⟩
    refine (congrFun (h 0).1 i).trans ?_
    have b := mask_bounds _ _ i hi
    show Ideal.div _ (1 + Ideal.exp (-(min _ (max _ _)))) = silu _
    rw [max_eq_right b.1, min_eq_right b.2]
    rfl

theorem claim : Cert.Claim :=
  ⟨Cert.Kernel.Gen.facts, Cert.KernelIdeal.Gen.facts, Cert.ReferenceIdeal.Gen.facts, Cert.ReferenceClipIdeal.Gen.facts, Cert.On_unclipped.Gen.facts,
    kernel_frame, kernelIdeal_frame, reference_frame, clip_frame, trivial, values_agree, values_agree_clip⟩

end Cert.Proof

end
